-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_operands [hPre_finite_operands : Cert.Pre_finite_operands.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_operands.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_operands.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_operands.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_operands [hPre_finite_operands : Cert.Pre_finite_operands.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_operands.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_operands.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_operands.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_operands [hKernel2Ideal : Cert.Kernel2Ideal.Facts] [hPre_finite_operands : Cert.Pre_finite_operands.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_operands m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_operands [hReference2Ideal : Cert.Reference2Ideal.Facts] [hPre_finite_operands : Cert.Pre_finite_operands.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_operands m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7)
      ∧ r.2.mem ((c.tc : Thread Cert.Kernel29.nD Cert.Kernel29.τ).loc Cert.Kernel29.main_arg8) = m ((c.tc : Thread Cert.Kernel29.nD Cert.Kernel29.τ).loc Cert.Kernel29.main_arg8)
      ∧ r.2.mem ((c.tc : Thread Cert.Kernel29.nD Cert.Kernel29.τ).loc Cert.Kernel29.main_arg9) = m ((c.tc : Thread Cert.Kernel29.nD Cert.Kernel29.τ).loc Cert.Kernel29.main_arg9)
      ∧ r.2.mem ((c.tc : Thread Cert.Kernel29.nD Cert.Kernel29.τ).loc Cert.Kernel29.main_arg10) = m ((c.tc : Thread Cert.Kernel29.nD Cert.Kernel29.τ).loc Cert.Kernel29.main_arg10))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
      ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
      ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9)
      ∧ r.2.mem ((c.tc : Thread Cert.Kernel29Ideal.nD Cert.Kernel29Ideal.τ).loc Cert.Kernel29Ideal.main_arg10) = m ((c.tc : Thread Cert.Kernel29Ideal.nD Cert.Kernel29Ideal.τ).loc Cert.Kernel29Ideal.main_arg10))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7)
      ∧ r.2.mem ((c.tc : Thread Cert.Reference29Ideal.nD Cert.Reference29Ideal.τ).loc Cert.Reference29Ideal.main_arg8) = m ((c.tc : Thread Cert.Reference29Ideal.nD Cert.Reference29Ideal.τ).loc Cert.Reference29Ideal.main_arg8)
      ∧ r.2.mem ((c.tc : Thread Cert.Reference29Ideal.nD Cert.Reference29Ideal.τ).loc Cert.Reference29Ideal.main_arg9) = m ((c.tc : Thread Cert.Reference29Ideal.nD Cert.Reference29Ideal.τ).loc Cert.Reference29Ideal.main_arg9)
      ∧ r.2.mem ((c.tc : Thread Cert.Reference29Ideal.nD Cert.Reference29Ideal.τ).loc Cert.Reference29Ideal.main_arg10) = m ((c.tc : Thread Cert.Reference29Ideal.nD Cert.Reference29Ideal.τ).loc Cert.Reference29Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_operands [hKernel2Ideal : Cert.Kernel2Ideal.Facts] [hReference2Ideal : Cert.Reference2Ideal.Facts] [hPre_finite_operands : Cert.Pre_finite_operands.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_operands m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_v12) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v5) = v1 c
          ∧ r.2.mem ((c.tc : Thread Cert.Reference9Ideal.nD Cert.Reference9Ideal.τ).loc Cert.Reference9Ideal.main_v8) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v5) = v1 c
          ∧ r.2.mem ((c.tc : Thread Cert.Reference18Ideal.nD Cert.Reference18Ideal.τ).loc Cert.Reference18Ideal.main_v27) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v12) = v0 c
          ∧ r.2.mem ((c.tc : Thread Cert.Reference19Ideal.nD Cert.Reference19Ideal.τ).loc Cert.Reference19Ideal.main_v14) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v34) = v0 c
          ∧ r.2.mem ((c.tc : Thread Cert.Reference20Ideal.nD Cert.Reference20Ideal.τ).loc Cert.Reference20Ideal.main_v35) = v1 c
          ∧ r.2.mem ((c.tc : Thread Cert.Reference20Ideal.nD Cert.Reference20Ideal.τ).loc Cert.Reference20Ideal.main_v17) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v12) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v48) = v0 c
          ∧ r.2.mem ((c.tc : Thread Cert.Reference27Ideal.nD Cert.Reference27Ideal.τ).loc Cert.Reference27Ideal.main_v49) = v1 c
          ∧ r.2.mem ((c.tc : Thread Cert.Reference27Ideal.nD Cert.Reference27Ideal.τ).loc Cert.Reference27Ideal.main_v32) = v2 c
          ∧ r.2.mem ((c.tc : Thread Cert.Reference27Ideal.nD Cert.Reference27Ideal.τ).loc Cert.Reference27Ideal.main_v69) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v25_0)) (v1 : (c : Dev Cert.Kernel28Ideal.nD) → Buf (Elt Ideal) ((c.tc : Thread Cert.Kernel28Ideal.nD Cert.Kernel28Ideal.τ).loc Cert.Kernel28Ideal.main_v25_1)) (v2 : (c : Dev Cert.Kernel28Ideal.nD) → Buf (Elt Ideal) ((c.tc : Thread Cert.Kernel28Ideal.nD Cert.Kernel28Ideal.τ).loc Cert.Kernel28Ideal.main_v25_2)) (v3 : (c : Dev Cert.Kernel28Ideal.nD) → Buf (Elt Ideal) ((c.tc : Thread Cert.Kernel28Ideal.nD Cert.Kernel28Ideal.τ).loc Cert.Kernel28Ideal.main_v25_3)) (v4 : (c : Dev Cert.Kernel28Ideal.nD) → Buf (Elt Ideal) ((c.tc : Thread Cert.Kernel28Ideal.nD Cert.Kernel28Ideal.τ).loc Cert.Kernel28Ideal.main_v25_4)) (v5 : (c : Dev Cert.Kernel28Ideal.nD) → Buf (Elt Ideal) ((c.tc : Thread Cert.Kernel28Ideal.nD Cert.Kernel28Ideal.τ).loc Cert.Kernel28Ideal.main_v25_5)) (v6 : (c : Dev Cert.Kernel28Ideal.nD) → Buf (Elt Ideal) ((c.tc : Thread Cert.Kernel28Ideal.nD Cert.Kernel28Ideal.τ).loc Cert.Kernel28Ideal.main_v25_6)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v25_0) = v0 c
          ∧ r.2.mem ((c.tc : Thread Cert.Kernel28Ideal.nD Cert.Kernel28Ideal.τ).loc Cert.Kernel28Ideal.main_v25_1) = v1 c
          ∧ r.2.mem ((c.tc : Thread Cert.Kernel28Ideal.nD Cert.Kernel28Ideal.τ).loc Cert.Kernel28Ideal.main_v25_2) = v2 c
          ∧ r.2.mem ((c.tc : Thread Cert.Kernel28Ideal.nD Cert.Kernel28Ideal.τ).loc Cert.Kernel28Ideal.main_v25_3) = v3 c
          ∧ r.2.mem ((c.tc : Thread Cert.Kernel28Ideal.nD Cert.Kernel28Ideal.τ).loc Cert.Kernel28Ideal.main_v25_4) = v4 c
          ∧ r.2.mem ((c.tc : Thread Cert.Kernel28Ideal.nD Cert.Kernel28Ideal.τ).loc Cert.Kernel28Ideal.main_v25_5) = v5 c
          ∧ r.2.mem ((c.tc : Thread Cert.Kernel28Ideal.nD Cert.Kernel28Ideal.τ).loc Cert.Kernel28Ideal.main_v25_6) = v6 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v98) = v0 c
          ∧ r.2.mem ((c.tc : Thread Cert.Reference28Ideal.nD Cert.Reference28Ideal.τ).loc Cert.Reference28Ideal.main_v99) = v1 c
          ∧ r.2.mem ((c.tc : Thread Cert.Reference28Ideal.nD Cert.Reference28Ideal.τ).loc Cert.Reference28Ideal.main_v100) = v2 c
          ∧ r.2.mem ((c.tc : Thread Cert.Reference28Ideal.nD Cert.Reference28Ideal.τ).loc Cert.Reference28Ideal.main_v101) = v3 c
          ∧ r.2.mem ((c.tc : Thread Cert.Reference28Ideal.nD Cert.Reference28Ideal.τ).loc Cert.Reference28Ideal.main_v102) = v4 c
          ∧ r.2.mem ((c.tc : Thread Cert.Reference28Ideal.nD Cert.Reference28Ideal.τ).loc Cert.Reference28Ideal.main_v103) = v5 c
          ∧ r.2.mem ((c.tc : Thread Cert.Reference28Ideal.nD Cert.Reference28Ideal.τ).loc Cert.Reference28Ideal.main_v97) = v6 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)
      ∧ m' ((c.tc : Thread Cert.Reference29Ideal.nD Cert.Reference29Ideal.τ).loc Cert.Reference29Ideal.main_arg8) = m ((c.tc : Thread Cert.Kernel29Ideal.nD Cert.Kernel29Ideal.τ).loc Cert.Kernel29Ideal.main_arg8)
      ∧ m' ((c.tc : Thread Cert.Reference29Ideal.nD Cert.Reference29Ideal.τ).loc Cert.Reference29Ideal.main_arg9) = m ((c.tc : Thread Cert.Kernel29Ideal.nD Cert.Kernel29Ideal.τ).loc Cert.Kernel29Ideal.main_arg9)
      ∧ m' ((c.tc : Thread Cert.Reference29Ideal.nD Cert.Reference29Ideal.τ).loc Cert.Reference29Ideal.main_arg10) = m ((c.tc : Thread Cert.Kernel29Ideal.nD Cert.Kernel29Ideal.τ).loc Cert.Kernel29Ideal.main_arg10)) →
    ∃ (v0 : (c : Dev Cert.Kernel29Ideal.nD) → Buf (Elt Ideal) ((c.tc : Thread Cert.Kernel29Ideal.nD Cert.Kernel29Ideal.τ).loc Cert.Kernel29Ideal.main_v25_0)) (v1 : (c : Dev Cert.Kernel29Ideal.nD) → Buf (Elt Ideal) ((c.tc : Thread Cert.Kernel29Ideal.nD Cert.Kernel29Ideal.τ).loc Cert.Kernel29Ideal.main_v25_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v25_0) = v0 c
          ∧ r.2.mem ((c.tc : Thread Cert.Kernel29Ideal.nD Cert.Kernel29Ideal.τ).loc Cert.Kernel29Ideal.main_v25_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
          ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
          ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9)
          ∧ r.2.mem ((c.tc : Thread Cert.Kernel29Ideal.nD Cert.Kernel29Ideal.τ).loc Cert.Kernel29Ideal.main_arg10) = m ((c.tc : Thread Cert.Kernel29Ideal.nD Cert.Kernel29Ideal.τ).loc Cert.Kernel29Ideal.main_arg10))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v158) = v0 c
          ∧ r.2.mem ((c.tc : Thread Cert.Reference29Ideal.nD Cert.Reference29Ideal.τ).loc Cert.Reference29Ideal.main_v103) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7)
          ∧ r.2.mem ((c.tc : Thread Cert.Reference29Ideal.nD Cert.Reference29Ideal.τ).loc Cert.Reference29Ideal.main_arg8) = m' ((c.tc : Thread Cert.Reference29Ideal.nD Cert.Reference29Ideal.τ).loc Cert.Reference29Ideal.main_arg8)
          ∧ r.2.mem ((c.tc : Thread Cert.Reference29Ideal.nD Cert.Reference29Ideal.τ).loc Cert.Reference29Ideal.main_arg9) = m' ((c.tc : Thread Cert.Reference29Ideal.nD Cert.Reference29Ideal.τ).loc Cert.Reference29Ideal.main_arg9)
          ∧ r.2.mem ((c.tc : Thread Cert.Reference29Ideal.nD Cert.Reference29Ideal.τ).loc Cert.Reference29Ideal.main_arg10) = m' ((c.tc : Thread Cert.Reference29Ideal.nD Cert.Reference29Ideal.τ).loc Cert.Reference29Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite_operands : Cert.Pre_finite_operands.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_operands (hKernel2Ideal := hKernel2Ideal) (hPre_finite_operands := hPre_finite_operands)
    ∧ quiescent_Reference2Ideal (hReference2Ideal := hReference2Ideal)
    ∧ quiescent_Reference2Ideal_pre_finite_operands (hReference2Ideal := hReference2Ideal) (hPre_finite_operands := hPre_finite_operands)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_operands (hKernel2Ideal := hKernel2Ideal) (hReference2Ideal := hReference2Ideal) (hPre_finite_operands := hPre_finite_operands)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite_operands.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S5632x2048 : S_.BroadcastsInDim S5632x2048 (![] : Fin 0 → Fin S5632x2048.rank)
  bcast_S_S8192x5632 : S_.BroadcastsInDim S8192x5632 (![] : Fin 0 → Fin S8192x5632.rank)

variable [Facts]

def fn {F : FTy → Type} [FloatOps F] (main_arg0 : FVec F S8192x2048 .bf16) (main_arg1 : FVec F S5632x2048 .bf16) (main_arg2 : FVec F S8192x5632 .bf16) (main_arg3 : FVec F S8192x5632 .bf16) : IVec S8192x2048 1 × IVec S5632x2048 1 × IVec S8192x5632 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S8192x5632 .f32 := (extf .f32 · bitsLt_bf16_f32) main_arg3
  let main_v9 : FVec F S8192x5632 .f32 := Host.absf main_v8
  let main_cst_1 : FVec F S_ .f32 := constant S_ .f32 0x7F800000#32
  let main_v10 : FVec F S8192x5632 .f32 := broadcastInDim S8192x5632 ![] bcast_S_S8192x5632 main_cst_1
  let main_v11 : IVec S8192x5632 1 := cmpf .olt main_v9 main_v10
  (main_v3, main_v7, main_v11)
-- ==== Kernel.lean ====
abbrev S8192x2048 : Shape := ⟨2, ![8192, 2048]⟩
abbrev S8192x10752 : Shape := ⟨2, ![8192, 10752]⟩
abbrev S1x2048 : Shape := ⟨2, ![1, 2048]⟩
abbrev S256x2048 : Shape := ⟨2, ![256, 2048]⟩
abbrev S2048 : Shape := ⟨1, ![2048]⟩

abbrev nBuf : Space → Nat
  | .hbm => 12
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x10752, .f32⟩
  | .hbm, ⟨4, _⟩ => ⟨S1x2048, .f32⟩
  | .hbm, ⟨5, _⟩ => ⟨S1x2048, .f32⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S1x2048, .f32⟩
  | .local _ .vmem, ⟨21, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x2048 : Shape := ⟨2, ![8192, 2048]⟩
abbrev S8192x10752 : Shape := ⟨2, ![8192, 10752]⟩
abbrev S1x2048 : Shape := ⟨2, ![1, 2048]⟩
abbrev S_ : Shape := ⟨0, ![]⟩
abbrev S2048 : Shape := ⟨1, ![2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x10752, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S8192x2048, .bf16⟩
  | .hbm, ⟨54, _⟩ => ⟨S8192x2048, .bf16⟩
  | .hbm, ⟨55, _⟩ => ⟨S8192x2048, .bf16⟩
  | .hbm, ⟨56, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel2.lean ====
abbrev S8192x2048 : Shape := ⟨2, ![8192, 2048]⟩
abbrev S5632x2048 : Shape := ⟨2, ![5632, 2048]⟩
abbrev S8192x5632 : Shape := ⟨2, ![8192, 5632]⟩
abbrev S2048x2048 : Shape := ⟨2, ![2048, 2048]⟩
abbrev S512x2048 : Shape := ⟨2, ![512, 2048]⟩
abbrev S2048x512 : Shape := ⟨2, ![2048, 512]⟩
abbrev S256x2048 : Shape := ⟨2, ![256, 2048]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S5632x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .bf16⟩
  | .hbm, ⟨37, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel3.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 16
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 5
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x2048, .bf16⟩
  | .hbm, ⟨3, _⟩ => ⟨S5632x2048, .bf16⟩
  | .hbm, ⟨4, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x2048, .bf16⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c3_i32_18 : BitVec 32 := 3#32
  let v24 : BitVec 1 := Scalar.cmpi .eq arg1 c3_i32_18
  let v25 : BitVec 32 := Scalar.extui v24
  let c0_i32_19 : BitVec 32 := 0#32
  let v26 : BitVec 1 := Scalar.cmpi .ne v25 c0_i32_19
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S8192x5632 : Shape := ⟨2, ![8192, 5632]⟩
abbrev S8192x2048 : Shape := ⟨2, ![8192, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x2048, .bf16⟩
  | .hbm, ⟨3, _⟩ => ⟨S_, .f32⟩
  | .hbm, ⟨4, _⟩ => ⟨S2048x5632, .f32⟩
  | .hbm, ⟨5, _⟩ => ⟨S8192x2048, .f32⟩
  | .hbm, ⟨6, _⟩ => ⟨S8192x5632, .f32⟩
  | .hbm, ⟨7, _⟩ => ⟨S8192x2048, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S5632x2048, .f32⟩
  | .hbm, ⟨12, _⟩ => ⟨S2048x5632, .f32⟩
  | .hbm, ⟨13, _⟩ => ⟨S5632x2048, .f32⟩
  | .hbm, ⟨14, _⟩ => ⟨S2048x5632, .f32⟩
  | .hbm, ⟨15, _⟩ => ⟨S5632x2048, .f32⟩
  | .hbm, ⟨16, _⟩ => ⟨S5632x2048, .bf16⟩
  | .hbm, ⟨17, _⟩ => ⟨S5632x2048, .f32⟩
  | .hbm, ⟨18, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel5.lean ====
abbrev S8192x5632 : Shape := ⟨2, ![8192, 5632]⟩
abbrev S5632x2048 : Shape := ⟨2, ![5632, 2048]⟩
abbrev S8192x2048 : Shape := ⟨2, ![8192, 2048]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S5632x2048, .bf16⟩
  | .hbm, ⟨3, _⟩ => ⟨S5632x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .f32⟩
  | .local _ .vmem, ⟨9, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S8192x5632 : Shape := ⟨2, ![8192, 5632]⟩
abbrev S5632x2048 : Shape := ⟨2, ![5632, 2048]⟩
abbrev S_ : Shape := ⟨0, ![]⟩
abbrev S8192x2048 : Shape := ⟨2, ![8192, 2048]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S5632x2048, .bf16⟩
  | .hbm, ⟨3, _⟩ => ⟨S5632x2048, .bf16⟩
  | .hbm, ⟨4, _⟩ => ⟨S_, .f32⟩
  | .hbm, ⟨5, _⟩ => ⟨S8192x2048, .f32⟩
  | .hbm, ⟨6, _⟩ => ⟨S5632x2048, .f32⟩
  | .hbm, ⟨7, _⟩ => ⟨S2048x5632, .f32⟩
  | .hbm, ⟨8, _⟩ => ⟨S8192x5632, .f32⟩
  | .hbm, ⟨9, _⟩ => ⟨S5632x2048, .f32⟩
  | .hbm, ⟨10, _⟩ => ⟨S2048x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x2048, .f32⟩
  | .hbm, ⟨15, _⟩ => ⟨S8192x2048, .f32⟩
  | .hbm, ⟨16, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S8192x2048 : Shape := ⟨2, ![8192, 2048]⟩
abbrev S5632x2048 : Shape := ⟨2, ![5632, 2048]⟩
abbrev S8192x5632 : Shape := ⟨2, ![8192, 5632]⟩
abbrev S2048x2048 : Shape := ⟨2, ![2048, 2048]⟩
abbrev S512x2048 : Shape := ⟨2, ![512, 2048]⟩
abbrev S2048x512 : Shape := ⟨2, ![2048, 512]⟩
abbrev S256x2048 : Shape := ⟨2, ![256, 2048]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S5632x2048, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x2048 : Shape := ⟨2, ![8192, 2048]⟩
abbrev S5632x2048 : Shape := ⟨2, ![5632, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S5632x2048, .bf16⟩
  | .hbm, ⟨3, _⟩ => ⟨S8192x2048, .f32⟩
  | .hbm, ⟨4, _⟩ => ⟨S5632x2048, .f32⟩
  | .hbm, ⟨5, _⟩ => ⟨S2048x5632, .f32⟩
  | .hbm, ⟨6, _⟩ => ⟨S8192x5632, .f32⟩
  | .hbm, ⟨7, _⟩ => ⟨S8192x2048, .f32⟩
  | .hbm, ⟨8, _⟩ => ⟨S5632x2048, .f32⟩
  | .hbm, ⟨9, _⟩ => ⟨S2048x5632, .f32⟩
  | .hbm, ⟨10, _⟩ => ⟨S8192x5632, .f32⟩
  | .hbm, ⟨11, _⟩ => ⟨S8192x5632, .bf16⟩
  | .hbm, ⟨12, _⟩ => ⟨S8192x5632, .bf16⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel7.lean ====
abbrev S8192x5632 : Shape := ⟨2, ![8192, 5632]⟩
abbrev S5632x2048 : Shape := ⟨2, ![5632, 2048]⟩
abbrev S8192x2048 : Shape := ⟨2, ![8192, 2048]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference7Ideal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S5632x2048 : Shape := ⟨2, ![5632, 2048]⟩
abbrev S8192x5632 : Shape := ⟨2, ![8192, 5632]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x2048 : Shape := ⟨2, ![8192, 2048]⟩
abbrev S5632x2048 : Shape := ⟨2, ![5632, 2048]⟩
abbrev S2048x5632 : Shape := ⟨2, ![2048, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x2048, .f32⟩
  | .hbm, ⟨3, _⟩ => ⟨S5632x2048, .f32⟩
  | .hbm, ⟨4, _⟩ => ⟨S2048x5632, .f32⟩
  | .hbm, ⟨5, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x2048 : Shape := ⟨2, ![8192, 2048]⟩
abbrev S5632x2048 : Shape := ⟨2, ![5632, 2048]⟩
abbrev S8192x5632 : Shape := ⟨2, ![8192, 5632]⟩
abbrev S2048x2048 : Shape := ⟨2, ![2048, 2048]⟩
abbrev S512x2048 : Shape := ⟨2, ![512, 2048]⟩
abbrev S2048x512 : Shape := ⟨2, ![2048, 512]⟩
abbrev S256x2048 : Shape := ⟨2, ![256, 2048]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8192x2048 : Shape := ⟨2, ![8192, 2048]⟩
abbrev S5632x2048 : Shape := ⟨2, ![5632, 2048]⟩
abbrev S8192x5632 : Shape := ⟨2, ![8192, 5632]⟩
abbrev S2048x5632 : Shape := ⟨2, ![2048, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .hbm, ⟨3, _⟩ => ⟨S8192x2048, .f32⟩
  | .hbm, ⟨4, _⟩ => ⟨S5632x2048, .f32⟩
  | .hbm, ⟨5, _⟩ => ⟨S2048x5632, .f32⟩
  | .hbm, ⟨6, _⟩ => ⟨S8192x5632, .f32⟩
  | .hbm, ⟨7, _⟩ => ⟨S8192x5632, .bf16⟩
  | .hbm, ⟨8, _⟩ => ⟨S8192x5632, .bf16⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel10.lean ====
abbrev S8192x2048 : Shape := ⟨2, ![8192, 2048]⟩
abbrev S2048x10752 : Shape := ⟨2, ![2048, 10752]⟩
abbrev S8192x10752 : Shape := ⟨2, ![8192, 10752]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x10752, .bf16⟩
  | .hbm, ⟨2, _⟩ => ⟨S8192x10752, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x2048 : Shape := ⟨2, ![8192, 2048]⟩
abbrev S2048x10752 : Shape := ⟨2, ![2048, 10752]⟩
abbrev S8192x10752 : Shape := ⟨2, ![8192, 10752]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x10752, .bf16⟩
  | .hbm, ⟨2, _⟩ => ⟨S8192x2048, .f32⟩
  | .hbm, ⟨3, _⟩ => ⟨S2048x10752, .f32⟩
  | .hbm, ⟨4, _⟩ => ⟨S8192x10752, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S2048x8192 : Shape := ⟨2, ![2048, 8192]⟩
abbrev S8192x10752 : Shape := ⟨2, ![8192, 10752]⟩
abbrev S2048x10752 : Shape := ⟨2, ![2048, 10752]⟩
abbrev S2048x2048 : Shape := ⟨2, ![2048, 2048]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x10752, .bf16⟩
  | .hbm, ⟨2, _⟩ => ⟨S2048x10752, .bf16⟩
  | .local _ .vmem, ⟨0, _⟩ => ⟨S2048x2048, .bf16⟩
  | .local _ .vmem, ⟨1, _⟩ => ⟨S2048x2048, .bf16⟩
  | .local _ .vmem, ⟨2, _⟩ => ⟨S2048x768, .bf16⟩
  | .local _ .vmem, ⟨3, _⟩ => ⟨S2048x768, .bf16⟩
  | .local _ .vmem, ⟨4, _⟩ => ⟨S2048x768, .bf16⟩
  | .local _ .vmem, ⟨5, _⟩ => ⟨S2048x768, .bf16⟩
  | .local _ .vmem, ⟨6, _⟩ => ⟨S2048x768, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S2048x8192 : Shape := ⟨2, ![2048, 8192]⟩
abbrev S8192x10752 : Shape := ⟨2, ![8192, 10752]⟩
abbrev S_ : Shape := ⟨0, ![]⟩
abbrev S2048x10752 : Shape := ⟨2, ![2048, 10752]⟩
abbrev S8192x2048 : Shape := ⟨2, ![8192, 2048]⟩
abbrev S10752x2048 : Shape := ⟨2, ![10752, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x10752, .bf16⟩
  | .hbm, ⟨2, _⟩ => ⟨S_, .f32⟩
  | .hbm, ⟨3, _⟩ => ⟨S2048x10752, .f32⟩
  | .hbm, ⟨4, _⟩ => ⟨S2048x8192, .f32⟩
  | .hbm, ⟨5, _⟩ => ⟨S8192x2048, .f32⟩
  | .hbm, ⟨6, _⟩ => ⟨S8192x10752, .f32⟩
  | .hbm, ⟨7, _⟩ => ⟨S8192x10752, .f32⟩
  | .hbm, ⟨8, _⟩ => ⟨S10752x2048, .f32⟩
  | .hbm, ⟨9, _⟩ => ⟨S2048x10752, .f32⟩
  | .hbm, ⟨10, _⟩ => ⟨S2048x10752, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x10752 : Shape := ⟨2, ![8192, 10752]⟩
abbrev S2048x10752 : Shape := ⟨2, ![2048, 10752]⟩
abbrev S8192x2048 : Shape := ⟨2, ![8192, 2048]⟩
abbrev S1024x1536 : Shape := ⟨2, ![1024, 1536]⟩
abbrev S2048x1536 : Shape := ⟨2, ![2048, 1536]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x10752, .bf16⟩
  | .hbm, ⟨1, _⟩ => ⟨S2048x10752, .bf16⟩
  | .hbm, ⟨2, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S2048x1536, .bf16⟩
  | .local _ .vmem, ⟨3, _⟩ => ⟨S2048x1536, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x10752 : Shape := ⟨2, ![8192, 10752]⟩
abbrev S2048x10752 : Shape := ⟨2, ![2048, 10752]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x10752, .bf16⟩
  | .hbm, ⟨1, _⟩ => ⟨S2048x10752, .bf16⟩
  | .hbm, ⟨2, _⟩ => ⟨S_, .f32⟩
  | .hbm, ⟨3, _⟩ => ⟨S8192x2048, .f32⟩
  | .hbm, ⟨4, _⟩ => ⟨S2048x10752, .f32⟩
  | .hbm, ⟨5, _⟩ => ⟨S8192x10752, .f32⟩
  | .hbm, ⟨6, _⟩ => ⟨S8192x10752, .f32⟩
  | .hbm, ⟨7, _⟩ => ⟨S8192x2048, .f32⟩
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference15Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S8192x2048 : Shape := ⟨2, ![8192, 2048]⟩
abbrev S1024x2048 : Shape := ⟨2, ![1024, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference17Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S8192x1024 : Shape := ⟨2, ![8192, 1024]⟩
abbrev S1024x2048 : Shape := ⟨2, ![1024, 2048]⟩
abbrev S8192x10752 : Shape := ⟨2, ![8192, 10752]⟩
abbrev S1x2048 : Shape := ⟨2, ![1, 2048]⟩
abbrev S8192x2048 : Shape := ⟨2, ![8192, 2048]⟩
abbrev S256x1024 : Shape := ⟨2, ![256, 1024]⟩
abbrev S256x2048 : Shape := ⟨2, ![256, 2048]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x10752, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference18Ideal.lean ====
abbrev S8192x1024 : Shape := ⟨2, ![8192, 1024]⟩
abbrev S1024x2048 : Shape := ⟨2, ![1024, 2048]⟩
abbrev S8192x10752 : Shape := ⟨2, ![8192, 10752]⟩
abbrev S1x2048 : Shape := ⟨2, ![1, 2048]⟩
abbrev S8192x2048 : Shape := ⟨2, ![8192, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x10752, .f32⟩
  | .hbm, ⟨5, _⟩ => ⟨S1x2048, .f32⟩
  | .hbm, ⟨6, _⟩ => ⟨S1x2048, .f32⟩
  | .hbm, ⟨7, _⟩ => ⟨S8192x1024, .f32⟩
  | .hbm, ⟨8, _⟩ => ⟨S1024x2048, .f32⟩
  | .hbm, ⟨9, _⟩ => ⟨S8192x2048, .f32⟩
  | .hbm, ⟨10, _⟩ => ⟨S8192x1024, .f32⟩
  | .hbm, ⟨11, _⟩ => ⟨S1024x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel19.lean ====
abbrev S8192x2048 : Shape := ⟨2, ![8192, 2048]⟩
abbrev S1x2048 : Shape := ⟨2, ![1, 2048]⟩
abbrev S2048x8192 : Shape := ⟨2, ![2048, 8192]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S2048x8192, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | .hbm, ⟨18, _⟩ => ⟨S2048x8192, .f32⟩
  | .hbm, ⟨19, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel20.lean ====
abbrev S8192x2048 : Shape := ⟨2, ![8192, 2048]⟩
abbrev S1x2048 : Shape := ⟨2, ![1, 2048]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel21.lean ====
abbrev S8x704x2048 : Shape := ⟨3, ![8, 704, 2048]⟩
abbrev S704x2048 : Shape := ⟨2, ![704, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8x2048x1282 : Shape := ⟨3, ![8, 2048, 1282]⟩
abbrev S2048x1282 : Shape := ⟨2, ![2048, 1282]⟩
abbrev S8x256x1282 : Shape := ⟨3, ![8, 256, 1282]⟩
abbrev S256x1282 : Shape := ⟨2, ![256, 1282]⟩
abbrev S1x256x1282 : Shape := ⟨3, ![1, 256, 1282]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1282, .bf16⟩
  | .hbm, ⟨1, _⟩ => ⟨S2048x1282, .f32⟩
  | .hbm, ⟨2, _⟩ => ⟨S2048x1282, .f32⟩
  | .hbm, ⟨3, _⟩ => ⟨S2048x1282, .f32⟩
  | .hbm, ⟨4, _⟩ => ⟨S2048x1282, .f32⟩
  | .hbm, ⟨5, _⟩ => ⟨S2048x1282, .f32⟩
  | .hbm, ⟨6, _⟩ => ⟨S2048x1282, .f32⟩
  | .hbm, ⟨7, _⟩ => ⟨S2048x1282, .f32⟩
  | .local _ .vmem, ⟨0, _⟩ => ⟨S8x256x1282, .bf16⟩
  | .local _ .vmem, ⟨1, _⟩ => ⟨S8x256x1282, .bf16⟩
  | .local _ .vmem, ⟨2, _⟩ => ⟨S256x1282, .f32⟩
  | .local _ .vmem, ⟨3, _⟩ => ⟨S256x1282, .f32⟩
  | .local _ .vmem, ⟨4, _⟩ => ⟨S256x1282, .f32⟩
  | .local _ .vmem, ⟨5, _⟩ => ⟨S256x1282, .f32⟩
  | .local _ .vmem, ⟨6, _⟩ => ⟨S256x1282, .f32⟩
  | .local _ .vmem, ⟨7, _⟩ => ⟨S256x1282, .f32⟩
  | .local _ .vmem, ⟨8, _⟩ => ⟨S256x1282, .f32⟩
  | .local _ .vmem, ⟨9, _⟩ => ⟨S256x1282, .f32⟩
  | .local _ .vmem, ⟨10, _⟩ => ⟨S256x1282, .f32⟩
  | .local _ .vmem, ⟨11, _⟩ => ⟨S256x1282, .f32⟩
  | .local _ .vmem, ⟨12, _⟩ => ⟨S256x1282, .f32⟩
  | .local _ .vmem, ⟨13, _⟩ => ⟨S256x1282, .f32⟩
  | .local _ .vmem, ⟨14, _⟩ => ⟨S256x1282, .f32⟩
  | .local _ .vmem, ⟨15, _⟩ => ⟨S256x1282, .f32⟩
  | _, _ => ⟨S8x2048x1282, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1282 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1282 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1282 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1282 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1282 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1282 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1282 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1282 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8x2048x1282 : Shape := ⟨3, ![8, 2048, 1282]⟩
abbrev S2048x1282 : Shape := ⟨2, ![2048, 1282]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1282, .bf16⟩
  | .hbm, ⟨1, _⟩ => ⟨S2048x1282, .f32⟩
  | .hbm, ⟨2, _⟩ => ⟨S2048x1282, .f32⟩
  | .hbm, ⟨3, _⟩ => ⟨S2048x1282, .f32⟩
  | .hbm, ⟨4, _⟩ => ⟨S8x2048x1282, .f32⟩
  | .hbm, ⟨5, _⟩ => ⟨S_, .f32⟩
  | .hbm, ⟨6, _⟩ => ⟨S2048x1282, .f32⟩
  | .hbm, ⟨7, _⟩ => ⟨S_, .f32⟩
  | .hbm, ⟨8, _⟩ => ⟨S2048x1282, .f32⟩
  | .hbm, ⟨9, _⟩ => ⟨S2048x1282, .f32⟩
  | .hbm, ⟨10, _⟩ => ⟨S_, .f32⟩
  | .hbm, ⟨11, _⟩ => ⟨S2048x1282, .f32⟩
  | .hbm, ⟨12, _⟩ => ⟨S2048x1282, .f32⟩
  | .hbm, ⟨13, _⟩ => ⟨S2048x1282, .f32⟩
  | .hbm, ⟨14, _⟩ => ⟨S_, .f32⟩
  | .hbm, ⟨15, _⟩ => ⟨S2048x1282, .f32⟩
  | .hbm, ⟨16, _⟩ => ⟨S2048x1282, .f32⟩
  | .hbm, ⟨17, _⟩ => ⟨S2048x1282, .f32⟩
  | .hbm, ⟨18, _⟩ => ⟨S_, .f32⟩
  | .hbm, ⟨19, _⟩ => ⟨S2048x1282, .f32⟩
  | .hbm, ⟨20, _⟩ => ⟨S2048x1282, .f32⟩
  | .hbm, ⟨21, _⟩ => ⟨S2048x1282, .f32⟩
  | .hbm, ⟨22, _⟩ => ⟨S_, .f32⟩
  | .hbm, ⟨23, _⟩ => ⟨S2048x1282, .f32⟩
  | .hbm, ⟨24, _⟩ => ⟨S2048x1282, .f32⟩
  | .hbm, ⟨25, _⟩ => ⟨S_, .f32⟩
  | .hbm, ⟨26, _⟩ => ⟨S2048x1282, .f32⟩
  | .hbm, ⟨27, _⟩ => ⟨S2048x1282, .f32⟩
  | .hbm, ⟨28, _⟩ => ⟨S2048x1282, .f32⟩
  | .hbm, ⟨29, _⟩ => ⟨S_, .f32⟩
  | .hbm, ⟨30, _⟩ => ⟨S2048x1282, .f32⟩
  | .hbm, ⟨31, _⟩ => ⟨S2048x1282, .f32⟩
  | .hbm, ⟨32, _⟩ => ⟨S2048x1282, .f32⟩
  | .hbm, ⟨33, _⟩ => ⟨S_, .f32⟩
  | .hbm, ⟨34, _⟩ => ⟨S2048x1282, .f32⟩
  | .hbm, ⟨35, _⟩ => ⟨S2048x1282, .f32⟩
  | .hbm, ⟨36, _⟩ => ⟨S2048x1282, .f32⟩
  | .hbm, ⟨37, _⟩ => ⟨S_, .f32⟩
  | .hbm, ⟨38, _⟩ => ⟨S2048x1282, .f32⟩
  | .hbm, ⟨39, _⟩ => ⟨S2048x1282, .f32⟩
  | _, _ => ⟨S8x2048x1282, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S8x1024x256 : Shape := ⟨3, ![8, 1024, 256]⟩
abbrev S1024x256 : Shape := ⟨2, ![1024, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S8x2048 : Shape := ⟨2, ![8, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference25Ideal.lean ====
abbrev S8x2048 : Shape := ⟨2, ![8, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel27.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference27Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 95
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .bf16⟩
  | .hbm, ⟨69, _⟩ => ⟨S8192x2048, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192x1, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S_, .f32⟩
  | .hbm, ⟨87, _⟩ => ⟨S8192x2048, .f32⟩
  | .hbm, ⟨88, _⟩ => ⟨S8192x2048, .f32⟩
  | .hbm, ⟨89, _⟩ => ⟨S_, .f32⟩
  | .hbm, ⟨90, _⟩ => ⟨S2048, .f32⟩
  | .hbm, ⟨91, _⟩ => ⟨S1x2048, .f32⟩
  | .hbm, ⟨92, _⟩ => ⟨S_, .f32⟩
  | .hbm, ⟨93, _⟩ => ⟨S1x2048, .f32⟩
  | .hbm, ⟨94, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_15 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩
abbrev main_cst_17 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_18 : Ref sig .tc := ⟨.hbm, 86, rfl⟩
abbrev main_v64 : Ref sig .tc := ⟨.hbm, 87, rfl⟩
abbrev main_v65 : Ref sig .tc := ⟨.hbm, 88, rfl⟩
abbrev main_cst_19 : Ref sig .tc := ⟨.hbm, 89, rfl⟩
abbrev main_v66 : Ref sig .tc := ⟨.hbm, 90, rfl⟩
abbrev main_v67 : Ref sig .tc := ⟨.hbm, 91, rfl⟩
abbrev main_cst_20 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Kernel28.lean ====
abbrev S8192x10752 : Shape := ⟨2, ![8192, 10752]⟩
abbrev S1x128 : Shape := ⟨2, ![1, 128]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S8192x1024 : Shape := ⟨2, ![8192, 1024]⟩
abbrev S256x1024 : Shape := ⟨2, ![256, 1024]⟩
abbrev S256x128 : Shape := ⟨2, ![256, 128]⟩

abbrev nBuf : Space → Nat
  | .hbm => 41
  | .vmem => 35
  | .smem => 0
  | _ => 0

abbrev bufTy : (tb : Table) → Fin (tcTables nBuf tb) → BufTy
  | .hbm, ⟨0, _⟩ => ⟨S8192x10752, .f32⟩
  | .hbm, ⟨1, _⟩ => ⟨S1x128, .f32⟩
  | .hbm, ⟨2, _⟩ => ⟨S8192, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S8192x1, .f32⟩
  | .hbm, ⟨18, _⟩ => ⟨S1x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S8192x16, .f32⟩
  | .hbm, ⟨24, _⟩ => ⟨S_, .f32⟩
  | .hbm, ⟨25, _⟩ => ⟨S8192x96, .f32⟩
  | .hbm, ⟨26, _⟩ => ⟨S_, .f32⟩
  | .hbm, ⟨27, _⟩ => ⟨S8192x16, .f32⟩
  | .hbm, ⟨28, _⟩ => ⟨S_, .f32⟩
  | .hbm, ⟨29, _⟩ => ⟨S8192x96, .f32⟩
  | .hbm, ⟨30, _⟩ => ⟨S8192x128, .f32⟩
  | .hbm, ⟨31, _⟩ => ⟨S8192x16, .f32⟩
  | .hbm, ⟨32, _⟩ => ⟨S8192x128, .f32⟩
  | .hbm, ⟨33, _⟩ => ⟨S8192x128, .f32⟩
  | .hbm, ⟨34, _⟩ => ⟨S8192x1024, .bf16⟩
  | .hbm, ⟨35, _⟩ => ⟨S8192x1024, .bf16⟩
  | .hbm, ⟨36, _⟩ => ⟨S8192x1024, .bf16⟩
  | .hbm, ⟨37, _⟩ => ⟨S8192x1024, .bf16⟩
  | .hbm, ⟨38, _⟩ => ⟨S8192x1024, .bf16⟩
  | .hbm, ⟨39, _⟩ => ⟨S8192x1024, .bf16⟩
  | .hbm, ⟨40, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S1x128, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x128, .f32⟩
  | .local _ .vmem, ⟨34, _⟩ => ⟨S256x128, .f32⟩
  | _, _ => ⟨S8192x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev main_v25_6 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c80_i32 : BitVec 32 := 80#32
  let c0_i32 : BitVec 32 := 0#32
  ![arg0.toNat, c80_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference28Ideal.lean ====
abbrev S8192x10752 : Shape := ⟨2, ![8192, 10752]⟩
abbrev S1x128 : Shape := ⟨2, ![1, 128]⟩
abbrev S8192x1024 : Shape := ⟨2, ![8192, 1024]⟩
abbrev S8192x4096 : Shape := ⟨2, ![8192, 4096]⟩
abbrev S8192x128 : Shape := ⟨2, ![8192, 128]⟩
abbrev S8192x384 : Shape := ⟨2, ![8192, 384]⟩
abbrev S8192x8x128 : Shape := ⟨3, ![8192, 8, 128]⟩
abbrev S8x8192x128 : Shape := ⟨3, ![8, 8192, 128]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8x8192x16 : Shape := ⟨3, ![8, 8192, 16]⟩
abbrev S1x8192x16 : Shape := ⟨3, ![1, 8192, 16]⟩
abbrev S8x8192x32 : Shape := ⟨3, ![8, 8192, 32]⟩
abbrev S8x8192x96 : Shape := ⟨3, ![8, 8192, 96]⟩

abbrev nBuf : Space → Nat
  | .hbm => 131
  | .vmem => 0
  | .smem => 0
  | _ => 0

abbrev hbmTy0_0 (i : Nat) : BufTy := match i % 128 with
  | 0 => ⟨S8192x10752, .f32⟩
  | 1 => ⟨S1x128, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x4096, .f32⟩
  | 9 => ⟨S8192x128, .f32⟩
  | 10 => ⟨S8192x384, .f32⟩
  | 11 => ⟨S8192x8x128, .f32⟩
  | 12 => ⟨S8x8192x128, .f32⟩
  | 13 => ⟨S8192, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S8192x1, .f32⟩
  | 29 => ⟨S1x16, .f32⟩
  | 30 => ⟨S8192x16, .f32⟩
  | 31 => ⟨S8192x16, .f32⟩
  | 32 => ⟨S8192x16, .f32⟩
  | 33 => ⟨S8192x16, .f32⟩
  | 34 => ⟨S8192x16, .f32⟩
  | 35 => ⟨S8x8192x16, .f32⟩
  | 36 => ⟨S8x8192x16, .f32⟩
  | 37 => ⟨S1x8192x16, .f32⟩
  | 38 => ⟨S8x8192x16, .f32⟩
  | 39 => ⟨S8x8192x16, .f32⟩
  | 40 => ⟨S1x8192x16, .f32⟩
  | 41 => ⟨S8x8192x16, .f32⟩
  | 42 => ⟨S8x8192x16, .f32⟩
  | 43 => ⟨S8x8192x16, .f32⟩
  | 44 => ⟨S1x8192x16, .f32⟩
  | 45 => ⟨S8x8192x16, .f32⟩
  | 46 => ⟨S8x8192x16, .f32⟩
  | 47 => ⟨S1x8192x16, .f32⟩
  | 48 => ⟨S8x8192x16, .f32⟩
  | 49 => ⟨S8x8192x16, .f32⟩
  | 50 => ⟨S8x8192x16, .f32⟩
  | 51 => ⟨S8x8192x32, .f32⟩
  | 52 => ⟨S8x8192x96, .f32⟩
  | 53 => ⟨S8x8192x128, .f32⟩
  | 54 => ⟨S_, .f32⟩
  | 55 => ⟨S8x8192x128, .f32⟩
  | 56 => ⟨S8x8192x128, .f32⟩
  | 57 => ⟨S8192x8x128, .f32⟩
  | 58 => ⟨S8192x1024, .f32⟩
  | 59 => ⟨S8192x8x128, .f32⟩
  | 60 => ⟨S8x8192x128, .f32⟩
  | 61 => ⟨S8192, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S8192x1, .f32⟩
  | 77 => ⟨S1x16, .f32⟩
  | 78 => ⟨S8192x16, .f32⟩
  | 79 => ⟨S8192x16, .f32⟩
  | 80 => ⟨S8192x16, .f32⟩
  | 81 => ⟨S8192x16, .f32⟩
  | 82 => ⟨S8192x16, .f32⟩
  | 83 => ⟨S8x8192x16, .f32⟩
  | 84 => ⟨S8x8192x16, .f32⟩
  | 85 => ⟨S1x8192x16, .f32⟩
  | 86 => ⟨S8x8192x16, .f32⟩
  | 87 => ⟨S8x8192x16, .f32⟩
  | 88 => ⟨S1x8192x16, .f32⟩
  | 89 => ⟨S8x8192x16, .f32⟩
  | 90 => ⟨S8x8192x16, .f32⟩
  | 91 => ⟨S8x8192x16, .f32⟩
  | 92 => ⟨S1x8192x16, .f32⟩
  | 93 => ⟨S8x8192x16, .f32⟩
  | 94 => ⟨S8x8192x16, .f32⟩
  | 95 => ⟨S1x8192x16, .f32⟩
  | 96 => ⟨S8x8192x16, .f32⟩
  | 97 => ⟨S8x8192x16, .f32⟩
  | 98 => ⟨S8x8192x16, .f32⟩
  | 99 => ⟨S8x8192x32, .f32⟩
  | 100 => ⟨S8x8192x96, .f32⟩
  | 101 => ⟨S8x8192x128, .f32⟩
  | 102 => ⟨S8192x8x128, .f32⟩
  | 103 => ⟨S8192x1024, .f32⟩
  | 104 => ⟨S_, .f32⟩
  | 105 => ⟨S8192x1024, .f32⟩
  | 106 => ⟨S8192x1024, .f32⟩
  | 107 => ⟨S8192x128, .f32⟩
  | 108 => ⟨S8192x128, .f32⟩
  | 109 => ⟨S8192x128, .f32⟩
  | 110 => ⟨S_, .f32⟩
  | 111 => ⟨S8192x128, .f32⟩
  | 112 => ⟨S8192x128, .f32⟩
  | 113 => ⟨S8192x128, .f32⟩
  | 114 => ⟨S8192x128, .f32⟩
  | 115 => ⟨S8192x128, .i1⟩
  | 116 => ⟨S8192x128, .f32⟩
  | 117 => ⟨S8192x128, .f32⟩
  | 118 => ⟨S8192x128, .f32⟩
  | 119 => ⟨S8192x128, .f32⟩
  | 120 => ⟨S8192x128, .f32⟩
  | 121 => ⟨S8192x128, .f32⟩
  | 122 => ⟨S8192x128, .f32⟩
  | 123 => ⟨S8192x128, .f32⟩
  | 124 => ⟨S8192x128, .f32⟩
  | 125 => ⟨S8192x1024, .bf16⟩
  | 126 => ⟨S8192x1024, .bf16⟩
  | 127 => ⟨S8192x1024, .bf16⟩
  | _ => ⟨S8192x10752, .f32⟩

abbrev hbmTy0_1 (i : Nat) : BufTy := match i % 128 with
  | 0 => ⟨S8192x1024, .bf16⟩
  | 1 => ⟨S8192x1024, .bf16⟩
  | 2 => ⟨S8192x1024, .bf16⟩
  | _ => ⟨S8192x10752, .f32⟩

abbrev hbmTy (i : Nat) : BufTy := match i / 128 with
  | 0 => hbmTy0_0 i
  | 1 => hbmTy0_1 i
  | _ => ⟨S8192x10752, .f32⟩

abbrev bufTy : (tb : Table) → Fin (tcTables nBuf tb) → BufTy
  | .hbm, ⟨i, _⟩ => hbmTy i
  | _, _ => ⟨S8192x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst_3 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_4 : Ref sig .tc := ⟨.hbm, 63, rfl⟩
abbrev main_v56 : Ref sig .tc := ⟨.hbm, 64, rfl⟩
abbrev main_v57 : Ref sig .tc := ⟨.hbm, 65, rfl⟩
abbrev main_cst_5 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_6 : Ref sig .tc := ⟨.hbm, 70, rfl⟩
abbrev main_v61 : Ref sig .tc := ⟨.hbm, 71, rfl⟩
abbrev main_v62 : Ref sig .tc := ⟨.hbm, 72, rfl⟩
abbrev main_cst_7 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_8 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_call0_v0 : Ref sig .tc := ⟨.hbm, 109, rfl⟩
abbrev main_call0_call0_cst : Ref sig .tc := ⟨.hbm, 110, rfl⟩
abbrev main_call0_call0_v0 : Ref sig .tc := ⟨.hbm, 111, rfl⟩
abbrev main_call0_call0_v1 : Ref sig .tc := ⟨.hbm, 112, rfl⟩
abbrev main_call0_call0_v2 : Ref sig .tc := ⟨.hbm, 113, rfl⟩
abbrev main_call0_call0_v3 : Ref sig .tc := ⟨.hbm, 114, rfl⟩
abbrev main_call0_call0_v4 : Ref sig .tc := ⟨.hbm, 115, rfl⟩
abbrev main_call0_call0_v5 : Ref sig .tc := ⟨.hbm, 116, rfl⟩
abbrev main_call0_call0_v6 : Ref sig .tc := ⟨.hbm, 117, rfl⟩
abbrev main_call0_call0_v7 : Ref sig .tc := ⟨.hbm, 118, rfl⟩
abbrev main_call0_call0_v8 : Ref sig .tc := ⟨.hbm, 119, rfl⟩
abbrev main_call0_call0_v9 : Ref sig .tc := ⟨.hbm, 120, rfl⟩
abbrev main_call0_call0_v10 : Ref sig .tc := ⟨.hbm, 121, rfl⟩
abbrev main_call0_call0_v11 : Ref sig .tc := ⟨.hbm, 122, rfl⟩
abbrev main_call0_v1 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩

abbrev nD : Nat := 1
abbrev τ : Topo := Topo.v7x

variable {F : FTy → Type} [FloatOps F]
-- ==== Kernel29.lean ====
abbrev S8192x1024 : Shape := ⟨2, ![8192, 1024]⟩
abbrev S8192x2048 : Shape := ⟨2, ![8192, 2048]⟩
abbrev S8192x128 : Shape := ⟨2, ![8192, 128]⟩
abbrev S8192x10752 : Shape := ⟨2, ![8192, 10752]⟩
abbrev S1x128 : Shape := ⟨2, ![1, 128]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S256x1024 : Shape := ⟨2, ![256, 1024]⟩
abbrev S256x2048 : Shape := ⟨2, ![256, 2048]⟩
abbrev S256x128 : Shape := ⟨2, ![256, 128]⟩
abbrev S256x10752 : Shape := ⟨2, ![256, 10752]⟩
abbrev S256x384 : Shape := ⟨2, ![256, 384]⟩
abbrev S128 : Shape := ⟨1, ![128]⟩

abbrev nBuf : Space → Nat
  | .hbm => 45
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x2048, .bf16⟩
  | .hbm, ⟨7, _⟩ => ⟨S8192x2048, .bf16⟩
  | .hbm, ⟨8, _⟩ => ⟨S8192x128, .f32⟩
  | .hbm, ⟨9, _⟩ => ⟨S8192x10752, .f32⟩
  | .hbm, ⟨10, _⟩ => ⟨S1x128, .f32⟩
  | .hbm, ⟨11, _⟩ => ⟨S8192, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S8192x1, .f32⟩
  | .hbm, ⟨27, _⟩ => ⟨S1x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S_, .f32⟩
  | .hbm, ⟨34, _⟩ => ⟨S8192x96, .f32⟩
  | .hbm, ⟨35, _⟩ => ⟨S_, .f32⟩
  | .hbm, ⟨36, _⟩ => ⟨S8192x16, .f32⟩
  | .hbm, ⟨37, _⟩ => ⟨S_, .f32⟩
  | .hbm, ⟨38, _⟩ => ⟨S8192x96, .f32⟩
  | .hbm, ⟨39, _⟩ => ⟨S8192x128, .f32⟩
  | .hbm, ⟨40, _⟩ => ⟨S8192x16, .f32⟩
  | .hbm, ⟨41, _⟩ => ⟨S8192x128, .f32⟩
  | .hbm, ⟨42, _⟩ => ⟨S8192x128, .f32⟩
  | .hbm, ⟨43, _⟩ => ⟨S8192x10752, .bf16⟩
  | .hbm, ⟨44, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S1x128, .f32⟩
  | .local _ .vmem, ⟨27, _⟩ => ⟨S256x10752, .bf16⟩
  | .local _ .vmem, ⟨28, _⟩ => ⟨S256x10752, .bf16⟩
  | .local _ .vmem, ⟨29, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c80_i32 : BitVec 32 := 80#32
  let c0_i32 : BitVec 32 := 0#32
  ![arg0.toNat, c80_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x10752 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference29Ideal.lean ====
abbrev S8192x1024 : Shape := ⟨2, ![8192, 1024]⟩
abbrev S8192x2048 : Shape := ⟨2, ![8192, 2048]⟩
abbrev S8192x128 : Shape := ⟨2, ![8192, 128]⟩
abbrev S8192x10752 : Shape := ⟨2, ![8192, 10752]⟩
abbrev S1x128 : Shape := ⟨2, ![1, 128]⟩
abbrev S8192x384 : Shape := ⟨2, ![8192, 384]⟩
abbrev S8192x8x128 : Shape := ⟨3, ![8192, 8, 128]⟩
abbrev S8x8192x128 : Shape := ⟨3, ![8, 8192, 128]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8x8192x16 : Shape := ⟨3, ![8, 8192, 16]⟩
abbrev S1x8192x16 : Shape := ⟨3, ![1, 8192, 16]⟩
abbrev S8x8192x32 : Shape := ⟨3, ![8, 8192, 32]⟩
abbrev S8x8192x96 : Shape := ⟨3, ![8, 8192, 96]⟩
abbrev S128 : Shape := ⟨1, ![128]⟩

abbrev nBuf : Space → Nat
  | .hbm => 239
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x2048, .bf16⟩
  | 7 => ⟨S8192x2048, .bf16⟩
  | 8 => ⟨S8192x128, .f32⟩
  | 9 => ⟨S8192x10752, .f32⟩
  | 10 => ⟨S1x128, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x2048, .f32⟩
  | 18 => ⟨S8192x2048, .f32⟩
  | 19 => ⟨S8192x128, .f32⟩
  | 20 => ⟨S8192x384, .f32⟩
  | 21 => ⟨S8192x8x128, .f32⟩
  | 22 => ⟨S8x8192x128, .f32⟩
  | 23 => ⟨S8192, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S8192x1, .f32⟩
  | 39 => ⟨S1x16, .f32⟩
  | 40 => ⟨S8192x16, .f32⟩
  | 41 => ⟨S8192x16, .f32⟩
  | 42 => ⟨S8192x16, .f32⟩
  | 43 => ⟨S8192x16, .f32⟩
  | 44 => ⟨S8192x16, .f32⟩
  | 45 => ⟨S8x8192x16, .f32⟩
  | 46 => ⟨S8x8192x16, .f32⟩
  | 47 => ⟨S1x8192x16, .f32⟩
  | 48 => ⟨S8x8192x16, .f32⟩
  | 49 => ⟨S8x8192x16, .f32⟩
  | 50 => ⟨S1x8192x16, .f32⟩
  | 51 => ⟨S8x8192x16, .f32⟩
  | 52 => ⟨S8x8192x16, .f32⟩
  | 53 => ⟨S8x8192x16, .f32⟩
  | 54 => ⟨S1x8192x16, .f32⟩
  | 55 => ⟨S8x8192x16, .f32⟩
  | 56 => ⟨S8x8192x16, .f32⟩
  | 57 => ⟨S1x8192x16, .f32⟩
  | 58 => ⟨S8x8192x16, .f32⟩
  | 59 => ⟨S8x8192x16, .f32⟩
  | 60 => ⟨S8x8192x16, .f32⟩
  | 61 => ⟨S8x8192x32, .f32⟩
  | 62 => ⟨S8x8192x96, .f32⟩
  | 63 => ⟨S8x8192x128, .f32⟩
  | 64 => ⟨S_, .f32⟩
  | 65 => ⟨S8x8192x128, .f32⟩
  | 66 => ⟨S8x8192x128, .f32⟩
  | 67 => ⟨S8192x8x128, .f32⟩
  | 68 => ⟨S8192x1024, .f32⟩
  | 69 => ⟨S8192x8x128, .f32⟩
  | 70 => ⟨S8x8192x128, .f32⟩
  | 71 => ⟨S8192, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S8192x1, .f32⟩
  | 87 => ⟨S1x16, .f32⟩
  | 88 => ⟨S8192x16, .f32⟩
  | 89 => ⟨S8192x16, .f32⟩
  | 90 => ⟨S8192x16, .f32⟩
  | 91 => ⟨S8192x16, .f32⟩
  | 92 => ⟨S8192x16, .f32⟩
  | 93 => ⟨S8x8192x16, .f32⟩
  | 94 => ⟨S8x8192x16, .f32⟩
  | 95 => ⟨S1x8192x16, .f32⟩
  | 96 => ⟨S8x8192x16, .f32⟩
  | 97 => ⟨S8x8192x16, .f32⟩
  | 98 => ⟨S1x8192x16, .f32⟩
  | 99 => ⟨S8x8192x16, .f32⟩
  | 100 => ⟨S8x8192x16, .f32⟩
  | 101 => ⟨S8x8192x16, .f32⟩
  | 102 => ⟨S1x8192x16, .f32⟩
  | 103 => ⟨S8x8192x16, .f32⟩
  | 104 => ⟨S8x8192x16, .f32⟩
  | 105 => ⟨S1x8192x16, .f32⟩
  | 106 => ⟨S8x8192x16, .f32⟩
  | 107 => ⟨S8x8192x16, .f32⟩
  | 108 => ⟨S8x8192x16, .f32⟩
  | 109 => ⟨S8x8192x32, .f32⟩
  | 110 => ⟨S8x8192x96, .f32⟩
  | 111 => ⟨S8x8192x128, .f32⟩
  | 112 => ⟨S8192x8x128, .f32⟩
  | 113 => ⟨S8192x1024, .f32⟩
  | 114 => ⟨S_, .f32⟩
  | 115 => ⟨S8192x1024, .f32⟩
  | 116 => ⟨S8192x1024, .f32⟩
  | 117 => ⟨S8192x128, .f32⟩
  | 118 => ⟨S8192x128, .f32⟩
  | 119 => ⟨S8192x128, .f32⟩
  | 120 => ⟨S_, .f32⟩
  | 121 => ⟨S8192x128, .f32⟩
  | 122 => ⟨S8192x128, .f32⟩
  | 123 => ⟨S8192x128, .f32⟩
  | 124 => ⟨S8192x128, .f32⟩
  | 125 => ⟨S8192x128, .i1⟩
  | 126 => ⟨S8192x128, .f32⟩
  | 127 => ⟨S8192x128, .f32⟩
  | _ => ⟨S8192x1024, .f32⟩

abbrev hbmTy0_1 (i : Nat) : BufTy := match i % 128 with
  | 0 => ⟨S8192x128, .f32⟩
  | 1 => ⟨S8192x128, .f32⟩
  | 2 => ⟨S8192x128, .f32⟩
  | 3 => ⟨S8192x128, .f32⟩
  | 4 => ⟨S8192x128, .f32⟩
  | 5 => ⟨S8192x128, .f32⟩
  | 6 => ⟨S_, .f32⟩
  | 7 => ⟨S8192x128, .f32⟩
  | 8 => ⟨S8192x128, .i1⟩
  | 9 => ⟨S_, .f32⟩
  | 10 => ⟨S8192x128, .f32⟩
  | 11 => ⟨S8192x128, .f32⟩
  | 12 => ⟨S_, .f32⟩
  | 13 => ⟨S8192x128, .f32⟩
  | 14 => ⟨S8192x128, .i1⟩
  | 15 => ⟨S_, .f32⟩
  | 16 => ⟨S8192x128, .f32⟩
  | 17 => ⟨S8192x128, .f32⟩
  | 18 => ⟨S8192x128, .f32⟩
  | 19 => ⟨S8192x128, .f32⟩
  | 20 => ⟨S_, .f32⟩
  | 21 => ⟨S_, .f32⟩
  | 22 => ⟨S_, .i1⟩
  | 23 => ⟨S_, .f32⟩
  | 24 => ⟨S_, .f32⟩
  | 25 => ⟨S_, .f32⟩
  | 26 => ⟨S_, .f32⟩
  | 27 => ⟨S8192x128, .f32⟩
  | 28 => ⟨S8192x128, .i1⟩
  | 29 => ⟨S_, .f32⟩
  | 30 => ⟨S8192x128, .f32⟩
  | 31 => ⟨S8192x128, .f32⟩
  | 32 => ⟨S8192x128, .f32⟩
  | 33 => ⟨S8192x128, .f32⟩
  | 34 => ⟨S8192x128, .f32⟩
  | 35 => ⟨S_, .f32⟩
  | 36 => ⟨S8192x128, .f32⟩
  | 37 => ⟨S8192x128, .f32⟩
  | 38 => ⟨S8192x128, .f32⟩
  | 39 => ⟨S8192x2048, .f32⟩
  | 40 => ⟨S8192x2048, .f32⟩
  | 41 => ⟨S8192x128, .f32⟩
  | 42 => ⟨S8192x128, .f32⟩
  | 43 => ⟨S8192x128, .f32⟩
  | 44 => ⟨S_, .f32⟩
  | 45 => ⟨S128, .f32⟩
  | 46 => ⟨S1x128, .f32⟩
  | 47 => ⟨S_, .f32⟩
  | 48 => ⟨S8192x1024, .f32⟩
  | 49 => ⟨S8192x1024, .f32⟩
  | 50 => ⟨S8192x8x128, .f32⟩
  | 51 => ⟨S8x8192x128, .f32⟩
  | 52 => ⟨S8x8192x32, .f32⟩
  | 53 => ⟨S8x8192x96, .f32⟩
  | 54 => ⟨S_, .f32⟩
  | 55 => ⟨S8x8192x128, .f32⟩
  | 56 => ⟨S8x8192x16, .f32⟩
  | 57 => ⟨S8x8192x16, .f32⟩
  | 58 => ⟨S8x8192x16, .f32⟩
  | 59 => ⟨S8x8192x16, .f32⟩
  | 60 => ⟨S8x8192x16, .f32⟩
  | 61 => ⟨S8x8192x16, .f32⟩
  | 62 => ⟨S8x8192x16, .f32⟩
  | 63 => ⟨S8x8192x16, .f32⟩
  | 64 => ⟨S8x8192x16, .f32⟩
  | 65 => ⟨S8x8192x16, .f32⟩
  | 66 => ⟨S8x8192x16, .f32⟩
  | 67 => ⟨S8x8192x16, .f32⟩
  | 68 => ⟨S8x8192x16, .f32⟩
  | 69 => ⟨S_, .f32⟩
  | 70 => ⟨S8x8192x128, .f32⟩
  | 71 => ⟨S8x8192x128, .f32⟩
  | 72 => ⟨S_, .f32⟩
  | 73 => ⟨S8x8192x128, .f32⟩
  | 74 => ⟨S8x8192x128, .f32⟩
  | 75 => ⟨S8192x8x128, .f32⟩
  | 76 => ⟨S8192x1024, .f32⟩
  | 77 => ⟨S8192x8x128, .f32⟩
  | 78 => ⟨S8x8192x128, .f32⟩
  | 79 => ⟨S_, .f32⟩
  | 80 => ⟨S8x8192x128, .f32⟩
  | 81 => ⟨S8x8192x128, .f32⟩
  | 82 => ⟨S8x8192x32, .f32⟩
  | 83 => ⟨S8x8192x96, .f32⟩
  | 84 => ⟨S_, .f32⟩
  | 85 => ⟨S8x8192x128, .f32⟩
  | 86 => ⟨S8x8192x16, .f32⟩
  | 87 => ⟨S8x8192x16, .f32⟩
  | 88 => ⟨S8x8192x16, .f32⟩
  | 89 => ⟨S8x8192x16, .f32⟩
  | 90 => ⟨S8x8192x16, .f32⟩
  | 91 => ⟨S8x8192x16, .f32⟩
  | 92 => ⟨S8x8192x16, .f32⟩
  | 93 => ⟨S8x8192x16, .f32⟩
  | 94 => ⟨S8x8192x16, .f32⟩
  | 95 => ⟨S8x8192x16, .f32⟩
  | 96 => ⟨S8x8192x16, .f32⟩
  | 97 => ⟨S8x8192x16, .f32⟩
  | 98 => ⟨S8x8192x16, .f32⟩
  | 99 => ⟨S_, .f32⟩
  | 100 => ⟨S8x8192x128, .f32⟩
  | 101 => ⟨S8x8192x128, .f32⟩
  | 102 => ⟨S_, .f32⟩
  | 103 => ⟨S8x8192x128, .f32⟩
  | 104 => ⟨S8x8192x128, .f32⟩
  | 105 => ⟨S8192x8x128, .f32⟩
  | 106 => ⟨S8192x1024, .f32⟩
  | 107 => ⟨S_, .f32⟩
  | 108 => ⟨S8192x384, .f32⟩
  | 109 => ⟨S8192x10752, .f32⟩
  | 110 => ⟨S8192x10752, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_3 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_4 : Ref sig .tc := ⟨.hbm, 73, rfl⟩
abbrev main_v57 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_8 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_call0_v0 : Ref sig .tc := ⟨.hbm, 119, rfl⟩
abbrev main_call0_call0_cst : Ref sig .tc := ⟨.hbm, 120, rfl⟩
abbrev main_call0_call0_v0 : Ref sig .tc := ⟨.hbm, 121, rfl⟩
abbrev main_call0_call0_v1 : Ref sig .tc := ⟨.hbm, 122, rfl⟩
abbrev main_call0_call0_v2 : Ref sig .tc := ⟨.hbm, 123, rfl⟩
abbrev main_call0_call0_v3 : Ref sig .tc := ⟨.hbm, 124, rfl⟩
abbrev main_call0_call0_v4 : Ref sig .tc := ⟨.hbm, 125, rfl⟩
abbrev main_call0_call0_v5 : Ref sig .tc := ⟨.hbm, 126, rfl⟩
abbrev main_call0_call0_v6 : Ref sig .tc := ⟨.hbm, 127, rfl⟩
abbrev main_call0_call0_v7 : Ref sig .tc := ⟨.hbm, 128, rfl⟩
abbrev main_call0_call0_v8 : Ref sig .tc := ⟨.hbm, 129, rfl⟩
abbrev main_call0_call0_v9 : Ref sig .tc := ⟨.hbm, 130, rfl⟩
abbrev main_call0_call0_v10 : Ref sig .tc := ⟨.hbm, 131, rfl⟩
abbrev main_call0_call0_v11 : Ref sig .tc := ⟨.hbm, 132, rfl⟩
abbrev main_call0_v1_0 : Ref sig .tc := ⟨.hbm, 133, rfl⟩
abbrev main_call0_call0_cst_0 : Ref sig .tc := ⟨.hbm, 134, rfl⟩
abbrev main_call0_call0_v13 : Ref sig .tc := ⟨.hbm, 135, rfl⟩
abbrev main_call0_call0_v14 : Ref sig .tc := ⟨.hbm, 136, rfl⟩
abbrev main_call0_call0_cst_1 : Ref sig .tc := ⟨.hbm, 137, rfl⟩
abbrev main_call0_call0_v15 : Ref sig .tc := ⟨.hbm, 138, rfl⟩
abbrev main_call0_call0_v16 : Ref sig .tc := ⟨.hbm, 139, rfl⟩
abbrev main_call0_call0_cst_2 : Ref sig .tc := ⟨.hbm, 140, rfl⟩
abbrev main_call0_call0_v17 : Ref sig .tc := ⟨.hbm, 141, rfl⟩
abbrev main_call0_call0_v18 : Ref sig .tc := ⟨.hbm, 142, rfl⟩
abbrev main_call0_call0_cst_3 : Ref sig .tc := ⟨.hbm, 143, rfl⟩
abbrev main_call0_call0_v19 : Ref sig .tc := ⟨.hbm, 144, rfl⟩
abbrev main_call0_call0_v20 : Ref sig .tc := ⟨.hbm, 145, rfl⟩
abbrev main_call0_call0_v21 : Ref sig .tc := ⟨.hbm, 146, rfl⟩
abbrev main_v98_1 : Ref sig .tc := ⟨.hbm, 147, rfl⟩
abbrev main_call0_call0_cst_4 : Ref sig .tc := ⟨.hbm, 148, rfl⟩
abbrev main_call0_call0_cst_5 : Ref sig .tc := ⟨.hbm, 149, rfl⟩
abbrev main_call0_call0_v23 : Ref sig .tc := ⟨.hbm, 150, rfl⟩
abbrev main_call0_call0_cst_6 : Ref sig .tc := ⟨.hbm, 151, rfl⟩
abbrev main_call0_call0_cst_7 : Ref sig .tc := ⟨.hbm, 152, rfl⟩
abbrev main_call0_call0_v24 : Ref sig .tc := ⟨.hbm, 153, rfl⟩
abbrev main_call0_call0_cst_8 : Ref sig .tc := ⟨.hbm, 154, rfl⟩
abbrev main_call0_call0_v25 : Ref sig .tc := ⟨.hbm, 155, rfl⟩
abbrev main_call0_call0_v26 : Ref sig .tc := ⟨.hbm, 156, rfl⟩
abbrev main_call0_call0_cst_9 : Ref sig .tc := ⟨.hbm, 157, rfl⟩
abbrev main_call0_call0_v27 : Ref sig .tc := ⟨.hbm, 158, rfl⟩
abbrev main_call0_call0_v28 : Ref sig .tc := ⟨.hbm, 159, rfl⟩
abbrev main_call0_call0_v29 : Ref sig .tc := ⟨.hbm, 160, rfl⟩
abbrev main_call0_call0_v30 : Ref sig .tc := ⟨.hbm, 161, rfl⟩
abbrev main_call0_call0_v31 : Ref sig .tc := ⟨.hbm, 162, rfl⟩
abbrev main_call0_call0_cst_10 : Ref sig .tc := ⟨.hbm, 163, rfl⟩
abbrev main_call0_call0_v32 : Ref sig .tc := ⟨.hbm, 164, rfl⟩
abbrev main_v98_2 : Ref sig .tc := ⟨.hbm, 165, rfl⟩
abbrev main_v98_0 : Ref sig .tc := ⟨.hbm, 166, rfl⟩
abbrev main_v99 : Ref sig .tc := ⟨.hbm, 167, rfl⟩
abbrev main_v100 : Ref sig .tc := ⟨.hbm, 168, rfl⟩
abbrev main_call1_v0 : Ref sig .tc := ⟨.hbm, 169, rfl⟩
abbrev main_call1_v1 : Ref sig .tc := ⟨.hbm, 170, rfl⟩
abbrev main_v101 : Ref sig .tc := ⟨.hbm, 171, rfl⟩
abbrev main_cst_9 : Ref sig .tc := ⟨.hbm, 172, rfl⟩
abbrev main_v102 : Ref sig .tc := ⟨.hbm, 173, rfl⟩
abbrev main_v103 : Ref sig .tc := ⟨.hbm, 174, rfl⟩
abbrev main_cst_10 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_cst_11 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_12 : Ref sig .tc := ⟨.hbm, 197, rfl⟩
abbrev main_v124 : Ref sig .tc := ⟨.hbm, 198, rfl⟩
abbrev main_v125 : Ref sig .tc := ⟨.hbm, 199, rfl⟩
abbrev main_cst_13 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_cst_14 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_cst_15 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_cst_16 : Ref sig .tc := ⟨.hbm, 227, rfl⟩
abbrev main_v150 : Ref sig .tc := ⟨.hbm, 228, rfl⟩
abbrev main_v151 : Ref sig .tc := ⟨.hbm, 229, rfl⟩
abbrev main_cst_17 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_cst_18 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩

abbrev nD : Nat := 1
abbrev τ : Topo := Topo.v7x

variable {F : FTy → Type} [FloatOps F]
-- ==== Proof.Common.lean ====
/-
  Facts about the extended reals that several of the calls share: what the literals 0.5 and 1 denote, the kernel's
  logistic function `0.5 + 0.5 · tanh (0.5 · x)` against the reference's `1 / (1 + exp (−x))`, a constant moved in and
  out of a sum, and sums of finite values.
-/
module

public import Idealize.ShloMosaic.PureOps.Ideal
public import Idealize.ShloMosaic.Lib.Pointwise

@[expose] public section

noncomputable section

namespace Cert.Proof

open Idealize.ShloMosaic

/-- The f32 literal 0.5. -/
theorem half_bits : Ideal.ofBits .f32 0x3F000000#32 = ((1 / 2 : ℝ) : EReal) := by
  simp [Ideal.ofBits, Ideal.ieee, -EReal.coe_mul]
  norm_num

/-- `1 / (1 + exp (−x))`, as the reference computes it. -/
def logistic (x : EReal) : EReal := Ideal.div 1 (1 + Ideal.exp (-x))

/-- The same of a real number. -/
theorem logistic_coe (r : ℝ) : logistic (r : EReal) = ((1 / (1 + Real.exp (-r)) : ℝ) : EReal) := by
  have hp : (0 : ℝ) < 1 + Real.exp (-r) := by positivity
  unfold logistic
  rw [← EReal.coe_neg, Ideal.exp_coe, ← EReal.coe_one, ← EReal.coe_add]
  unfold Ideal.div
  rw [if_neg (by exact_mod_cast hp.ne'), ← EReal.coe_inv, ← EReal.coe_mul, one_div, one_mul]

/-- Its limits at the infinities. -/
theorem logistic_top : logistic ⊤ = 1 := by simp [logistic, Ideal.div]

theorem logistic_bot : logistic ⊥ = 0 := by
  have h : (1 : EReal) + ⊤ = ⊤ := EReal.add_top_of_ne_bot (by decide)
  simp [logistic, Ideal.div, h]

/-- Over the reals the half-angle form of the logistic function is the logistic function. -/
theorem half_tanh (r : ℝ) : 1 / 2 + 1 / 2 * Real.tanh (1 / 2 * r) = 1 / (1 + Real.exp (-r)) := by
  have h : Real.exp (-r) = Real.exp (-(1 / 2 * r)) * Real.exp (-(1 / 2 * r)) := by rw [← Real.exp_add]; congr 1; ring
  have h' : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, h]
  generalize Real.exp (1 / 2 * r) = a at *
  generalize Real.exp (-(1 / 2 * r)) = b at *
  field_simp
  linear_combination (2 * b) * h'

/-- The kernel's logistic function is the reference's, at every extended real. -/
theorem kernel_logistic (x : EReal) :
    ((1 / 2 : ℝ) : EReal) + ((1 / 2 : ℝ) : EReal) * Ideal.tanh (((1 / 2 : ℝ) : EReal) * x) = logistic x := by
  induction x using EReal.rec with
  | bot =>
    rw [EReal.coe_mul_bot_of_pos (by norm_num), Ideal.tanh_bot, logistic_bot, ← EReal.coe_one, ← EReal.coe_neg, ← EReal.coe_mul, ← EReal.coe_add]
    norm_num
  | coe r =>
    rw [← EReal.coe_mul, Ideal.tanh_coe, ← EReal.coe_mul, ← EReal.coe_add, half_tanh, logistic_coe]
  | top =>
    rw [EReal.coe_mul_top_of_pos (by norm_num), Ideal.tanh_top, logistic_top, ← EReal.coe_one, ← EReal.coe_mul, ← EReal.coe_add]
    norm_num

/-- A nonnegative real factor goes into a sum of extended reals. -/
theorem mul_sum_coe {ι : Type*} (s : Finset ι) (a : ℝ) (ha : 0 ≤ a) (f : ι → EReal) :
    (a : EReal) * ∑ k ∈ s, f k = ∑ k ∈ s, (a : EReal) * f k := by
  classical
  induction s using Finset.induction_on with
  | empty => simp
  | insert k s hk ih =>
    rw [Finset.sum_insert hk, Finset.sum_insert hk, EReal.left_distrib_of_nonneg_of_ne_top (by exact_mod_cast ha) (EReal.coe_ne_top a), ih]

/-- The inner product of two rows of extended reals. -/
abbrev rowDot {n : ℕ} (a b : Fin n → EReal) : EReal := ∑ k, a k * b k

/-- An extended real that is neither infinity. -/
def IsFinite (x : EReal) : Prop := x ≠ ⊥ ∧ x ≠ ⊤

theorem IsFinite.mul {x y : EReal} (hx : IsFinite x) (hy : IsFinite y) : IsFinite (x * y) := by
  lift x to ℝ using ⟨hx.2, hx.1⟩
  lift y to ℝ using ⟨hy.2, hy.1⟩
  rw [← EReal.coe_mul]
  exact ⟨EReal.coe_ne_bot _, EReal.coe_ne_top _⟩

theorem IsFinite.sum {ι : Type*} (s : Finset ι) (f : ι → EReal) (h : ∀ k ∈ s, IsFinite (f k)) : IsFinite (∑ k ∈ s, f k) := by
  classical
  induction s using Finset.induction_on with
  | empty => simp [IsFinite]
  | insert k s hk ih =>
    have a := h k (Finset.mem_insert_self k s)
    have b := ih fun i hi => h i (Finset.mem_insert_of_mem hi)
    rw [Finset.sum_insert hk]
    lift f k to ℝ using ⟨a.2, a.1⟩ with x
    lift ∑ i ∈ s, f i to ℝ using ⟨b.2, b.1⟩ with y
    rw [← EReal.coe_add]
    exact ⟨EReal.coe_ne_bot _, EReal.coe_ne_top _⟩

/-- Half of a finite value is finite. -/
theorem IsFinite.half {x : EReal} (hx : IsFinite x) : IsFinite (((1 / 2 : ℝ) : EReal) * x) :=
  IsFinite.mul ⟨EReal.coe_ne_bot _, EReal.coe_ne_top _⟩ hx

/-- The derivative of `g · logistic g`, times a finite value: factored as the kernel computes it, and as the sum of the
    product rule, at every extended real `g`. -/
theorem gate_gradient {x : EReal} (hx : IsFinite x) (g : EReal) :
    x * (logistic g * (1 + g * (1 - logistic g))) = x * logistic g + g * x * (logistic g * (1 - logistic g)) := by
  lift x to ℝ using ⟨hx.2, hx.1⟩
  induction g using EReal.rec with
  | bot =>
    have h : (1 : EReal) + ⊥ = ⊥ := rfl
    simp [logistic_bot, h]
  | coe r =>
    rw [logistic_coe]
    norm_cast
    ring
  | top =>
    have h : (1 : EReal) - 1 = 0 := by rw [← EReal.coe_one, ← EReal.coe_sub, sub_self, EReal.coe_zero]
    simp [logistic_top, h]

end Cert.Proof

end
-- ==== Proof.GateMerge.lean ====
/-
  The gradients of the sigmoid-gated merge `merged = sd · pd + sf · pf`, where `sd` and `sf` are the logistic function of
  two column ranges of the input projection plus a bias row: from the gradient `dm` of `merged` those of both branches
  (`dm · s`), those of both gates' arguments (`dm · p · (s · (1 − s))`), and the sums of the latter over the rows, which are
  the biases' gradients. Each grid point does 256 rows; the two sums are accumulated over all 32.
-/
module

public import proofs.«01_k».proof.Defs
public import proofs.«01_k».proof.Proof.Common
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.GateMerge

open Idealize.ShloMosaic Idealize.ShloMosaic.TcCoe Idealize.SL.Sem
open Cert.KernelIdeal Cert.KernelIdeal.Gen

/-- The logistic function of 2048 columns of the projection, from column `o` on, plus the bias row. -/
def gate (o : ℕ) (ho : o + 2048 ≤ 10752) (p : S8192x10752.Idx → EReal) (b : S1x2048.Idx → EReal) : S8192x2048.Idx → EReal :=
  fun i => logistic (p (ix2 (i 0) ⟨o + (i 1 : ℕ), lt_of_lt_of_le (Nat.add_lt_add_left (i 1).isLt o) ho⟩) + b (ix2 0 (i 1)))

/-- A branch's gradient. -/
def dbranch (d s : S8192x2048.Idx → EReal) : S8192x2048.Idx → EReal := fun i => d i * s i

/-- The gradient of a gate's argument. -/
def dgate (d p s : S8192x2048.Idx → EReal) : S8192x2048.Idx → EReal := fun i => d i * p i * (s i * (1 - s i))

/-- Its sum over the rows. -/
def dbias (g : S8192x2048.Idx → EReal) : S1x2048.Idx → EReal := fun i => ∑ k : Fin 8192, g (ix2 k (i 1))

/-- The logistic function as the kernel computes it, through the hyperbolic tangent, -/
def halfTanh (p b : EReal) : EReal := Ideal.ofBits .f32 0x3F000000#32 + Ideal.ofBits .f32 0x3F000000#32 * Ideal.tanh (Ideal.ofBits .f32 0x3F000000#32 * (p + b))

/-- a branch's gradient at one index, -/
def branchAt (d s : EReal) : EReal := d * s

/-- and that of a gate's argument. -/
def gateAt (d p s : EReal) : EReal := d * p * (s * (1 - s))

/-- Which block each window holds at grid point `t`. -/
theorem index_at : ∀ t : Fin grid0.N, win0_0.index t = ![t.val, 0] ∧ win0_1.index t = ![t.val, 0] ∧ win0_2.index t = ![t.val, 0]
    ∧ win0_3.index t = ![t.val, 3] ∧ win0_4.index t = ![t.val, 4] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] := by decide +kernel

variable (m : (ℓ : Loc nD τ sig) → Buf (Elt Ideal) ℓ)

/-- An entry of the block of `dm` is one of `dm`, -/
theorem entry_0 (c : Dev nD) (t : Fin cfg0.N) (r : Fin 256) (q : Fin 2048) (i : S8192x2048.Idx)
    (h0 : (i 0 : ℕ) = t.val * 256 + r) (h1 : (i 1 : ℕ) = q) :
    iblk m c 0 t (ix2 r q) = (m ((c : Thread nD τ).loc main_arg0)) i := by
  blk_ext [iblk, V, index_at t]

/-- one of the block of the first branch one of that branch, -/
theorem entry_1 (c : Dev nD) (t : Fin cfg0.N) (r : Fin 256) (q : Fin 2048) (i : S8192x2048.Idx)
    (h0 : (i 0 : ℕ) = t.val * 256 + r) (h1 : (i 1 : ℕ) = q) :
    iblk m c 1 t (ix2 r q) = (m ((c : Thread nD τ).loc main_arg1)) i := by
  blk_ext [iblk, V, index_at t]

/-- and one of the block of the second one of that. -/
theorem entry_2 (c : Dev nD) (t : Fin cfg0.N) (r : Fin 256) (q : Fin 2048) (i : S8192x2048.Idx)
    (h0 : (i 0 : ℕ) = t.val * 256 + r) (h1 : (i 1 : ℕ) = q) :
    iblk m c 2 t (ix2 r q) = (m ((c : Thread nD τ).loc main_arg2)) i := by
  blk_ext [iblk, V, index_at t]

/-- The first gate of a block as the kernel computes it, -/
def sig_3 (c : Dev nD) (t : Fin cfg0.N) (r : Fin 256) (q : Fin 2048) : EReal :=
  halfTanh (X0_3 m c t (ix2 r q)) (iblk m c 5 t (ix2 0 q))

/-- and the second. -/
def sig_4 (c : Dev nD) (t : Fin cfg0.N) (r : Fin 256) (q : Fin 2048) : EReal :=
  halfTanh (X0_4 m c t (ix2 r q)) (iblk m c 6 t (ix2 0 q))

/-- The first is the logistic function of the columns from 6144 on, -/
theorem sig_entry_3 (c : Dev nD) (t : Fin cfg0.N) (r : Fin 256) (q : Fin 2048) (i : S8192x2048.Idx)
    (h0 : (i 0 : ℕ) = t.val * 256 + r) (h1 : (i 1 : ℕ) = q) :
    sig_3 m c t r q = (gate 6144 (by decide) (m ((c : Thread nD τ).loc main_arg3)) (m ((c : Thread nD τ).loc main_arg4))) i := by
  have hp : X0_3 m c t (ix2 r q) = (m ((c : Thread nD τ).loc main_arg3)) (ix2 (i 0) ⟨6144 + (i 1 : ℕ), lt_of_lt_of_le (Nat.add_lt_add_left (i 1).isLt 6144) (by decide)⟩) := by
    unfold X0_3 Pipeline.Window.fill
    rw [dif_pos (moved0_3 t _)]
    blk_ext [iblk, V, index_at t]
  have hb : iblk m c 5 t (ix2 0 q) = (m ((c : Thread nD τ).loc main_arg4)) (ix2 0 (i 1)) := by
    blk_ext [iblk, V, index_at t]
  unfold sig_3 halfTanh
  rw [hp, hb, half_bits, kernel_logistic]
  rfl

/-- the second of those from 8192 on. -/
theorem sig_entry_4 (c : Dev nD) (t : Fin cfg0.N) (r : Fin 256) (q : Fin 2048) (i : S8192x2048.Idx)
    (h0 : (i 0 : ℕ) = t.val * 256 + r) (h1 : (i 1 : ℕ) = q) :
    sig_4 m c t r q = (gate 8192 (by decide) (m ((c : Thread nD τ).loc main_arg3)) (m ((c : Thread nD τ).loc main_arg5))) i := by
  have hp : X0_4 m c t (ix2 r q) = (m ((c : Thread nD τ).loc main_arg3)) (ix2 (i 0) ⟨8192 + (i 1 : ℕ), lt_of_lt_of_le (Nat.add_lt_add_left (i 1).isLt 8192) (by decide)⟩) := by
    unfold X0_4 Pipeline.Window.fill
    rw [dif_pos (moved0_4 t _)]
    blk_ext [iblk, V, index_at t]
  have hb : iblk m c 6 t (ix2 0 q) = (m ((c : Thread nD τ).loc main_arg5)) (ix2 0 (i 1)) := by
    blk_ext [iblk, V, index_at t]
  unfold sig_4 halfTanh
  rw [hp, hb, half_bits, kernel_logistic]
  rfl

/-- What point `t` leaves of the first branch's gradient, -/
theorem out_7 (c : Dev nD) (t : Fin cfg0.N) (j : S256x2048.Idx) :
    (outsAt0 m c t.val t.isLt).1 j = branchAt (iblk m c 0 t (ix2 (j 0) (j 1))) (sig_3 m c t (j 0) (j 1)) := by
  by_cases h : t.val % 32 = 0
  · rw [outsAt0_A m c t h]
    frame_out
    pointwise [k0_pay12, k0_pay8, sig_3, halfTanh, gateAt, branchAt]
  · rw [outsAt0_B m c t h]
    frame_out
    pointwise [k0_pay12, k0_pay8, sig_3, halfTanh, gateAt, branchAt]

/-- of the second's, -/
theorem out_8 (c : Dev nD) (t : Fin cfg0.N) (j : S256x2048.Idx) :
    (outsAt0 m c t.val t.isLt).2.1 j = branchAt (iblk m c 0 t (ix2 (j 0) (j 1))) (sig_4 m c t (j 0) (j 1)) := by
  by_cases h : t.val % 32 = 0
  · rw [outsAt0_A m c t h]
    frame_out
    pointwise [k0_pay1, k0_pay9, sig_4, halfTanh, gateAt, branchAt]
  · rw [outsAt0_B m c t h]
    frame_out
    pointwise [k0_pay1, k0_pay9, sig_4, halfTanh, gateAt, branchAt]

/-- of the first gate's -/
theorem out_9 (c : Dev nD) (t : Fin cfg0.N) (j : S256x2048.Idx) :
    (outsAt0 m c t.val t.isLt).2.2.1 j = gateAt (iblk m c 0 t (ix2 (j 0) (j 1))) (iblk m c 1 t (ix2 (j 0) (j 1))) (sig_3 m c t (j 0) (j 1)) := by
  by_cases h : t.val % 32 = 0
  · rw [outsAt0_A m c t h]
    frame_out
    pointwise [k0_pay2, k0_pay10, k0_pay8, sig_3, halfTanh, gateAt, branchAt]
  · rw [outsAt0_B m c t h]
    frame_out
    pointwise [k0_pay2, k0_pay10, k0_pay8, sig_3, halfTanh, gateAt, branchAt]

/-- and of the second's. -/
theorem out_10 (c : Dev nD) (t : Fin cfg0.N) (j : S256x2048.Idx) :
    (outsAt0 m c t.val t.isLt).2.2.2.1 j = gateAt (iblk m c 0 t (ix2 (j 0) (j 1))) (iblk m c 2 t (ix2 (j 0) (j 1))) (sig_4 m c t (j 0) (j 1)) := by
  by_cases h : t.val % 32 = 0
  · rw [outsAt0_A m c t h]
    frame_out
    pointwise [k0_pay3, k0_pay11, k0_pay9, sig_4, halfTanh, gateAt, branchAt]
  · rw [outsAt0_B m c t h]
    frame_out
    pointwise [k0_pay3, k0_pay11, k0_pay9, sig_4, halfTanh, gateAt, branchAt]

/-- What point `t` adds into the first bias's gradient: the sum of its 256 rows. -/
def term_11 (c : Dev nD) (t : Fin cfg0.N) (j : S1x2048.Idx) : EReal :=
  ∑ k : Fin 256, gateAt (iblk m c 0 t (ix2 k (j 1))) (iblk m c 1 t (ix2 k (j 1))) (sig_3 m c t k (j 1))

/-- The first point starts from zero, -/
theorem first_11 (c : Dev nD) (t : Fin cfg0.N) (h : t.val % 32 = 0) (j : S1x2048.Idx) :
    (outsAt0 m c t.val t.isLt).2.2.2.2.1 j = 0 + term_11 m c t j := by
  rw [outsAt0_A m c t h]
  frame_out
  pointwise [k0_pay6, k0_pay10, k0_pay8, k0_pay4, term_11, sig_3, halfTanh, gateAt, branchAt]

/-- every later one from what the point before left. -/
theorem next_11 (c : Dev nD) (t : Fin cfg0.N) (h : ¬t.val % 32 = 0) (j : S1x2048.Idx) :
    (outsAt0 m c t.val t.isLt).2.2.2.2.1 j
      = (outsAt0 m c (t.val - 1) (Nat.lt_of_le_of_lt (Nat.sub_le _ _) t.isLt)).2.2.2.2.1 j + term_11 m c t j := by
  rw [outsAt0_B m c t h]
  frame_out
  pointwise [k0_pay6, k0_pay10, k0_pay8, term_11, sig_3, halfTanh, gateAt, branchAt]

/-- What point `t` adds into the second bias's gradient: the sum of its 256 rows. -/
def term_12 (c : Dev nD) (t : Fin cfg0.N) (j : S1x2048.Idx) : EReal :=
  ∑ k : Fin 256, gateAt (iblk m c 0 t (ix2 k (j 1))) (iblk m c 2 t (ix2 k (j 1))) (sig_4 m c t k (j 1))

/-- The first point starts from zero, -/
theorem first_12 (c : Dev nD) (t : Fin cfg0.N) (h : t.val % 32 = 0) (j : S1x2048.Idx) :
    (outsAt0 m c t.val t.isLt).2.2.2.2.2 j = 0 + term_12 m c t j := by
  rw [outsAt0_A m c t h]
  frame_out
  pointwise [k0_pay7, k0_pay11, k0_pay9, k0_pay5, term_12, sig_4, halfTanh, gateAt, branchAt]

/-- every later one from what the point before left. -/
theorem next_12 (c : Dev nD) (t : Fin cfg0.N) (h : ¬t.val % 32 = 0) (j : S1x2048.Idx) :
    (outsAt0 m c t.val t.isLt).2.2.2.2.2 j
      = (outsAt0 m c (t.val - 1) (Nat.lt_of_le_of_lt (Nat.sub_le _ _) t.isLt)).2.2.2.2.2 j + term_12 m c t j := by
  rw [outsAt0_B m c t h]
  frame_out
  pointwise [k0_pay7, k0_pay11, k0_pay9, term_12, sig_4, halfTanh, gateAt, branchAt]

/-- The first gate's gradient at an index of the block, -/
theorem grad_9 (c : Dev nD) (t : Fin cfg0.N) (r : Fin 256) (q : Fin 2048) (i : S8192x2048.Idx)
    (h0 : (i 0 : ℕ) = t.val * 256 + r) (h1 : (i 1 : ℕ) = q) :
    gateAt (iblk m c 0 t (ix2 r q)) (iblk m c 1 t (ix2 r q)) (sig_3 m c t r q) = dgate (m ((c : Thread nD τ).loc main_arg0)) (m ((c : Thread nD τ).loc main_arg1)) (gate 6144 (by decide) (m ((c : Thread nD τ).loc main_arg3)) (m ((c : Thread nD τ).loc main_arg4))) i := by
  rw [entry_0 m c t r q i h0 h1, entry_1 m c t r q i h0 h1, sig_entry_3 m c t r q i h0 h1]
  rfl

/-- and the second's. -/
theorem grad_10 (c : Dev nD) (t : Fin cfg0.N) (r : Fin 256) (q : Fin 2048) (i : S8192x2048.Idx)
    (h0 : (i 0 : ℕ) = t.val * 256 + r) (h1 : (i 1 : ℕ) = q) :
    gateAt (iblk m c 0 t (ix2 r q)) (iblk m c 2 t (ix2 r q)) (sig_4 m c t r q) = dgate (m ((c : Thread nD τ).loc main_arg0)) (m ((c : Thread nD τ).loc main_arg2)) (gate 8192 (by decide) (m ((c : Thread nD τ).loc main_arg3)) (m ((c : Thread nD τ).loc main_arg5))) i := by
  rw [entry_0 m c t r q i h0 h1, entry_2 m c t r q i h0 h1, sig_entry_4 m c t r q i h0 h1]
  rfl

/-- The first branch's gradient after the run, -/
theorem final_7 (c : Dev nD) : (dats m 0 c).arrAt 7 cfg0.N = dbranch (m ((c : Thread nD τ).loc main_arg0)) (gate 6144 (by decide) (m ((c : Thread nD τ).loc main_arg3)) (m ((c : Thread nD τ).loc main_arg4))) := by
  refine (dats m 0 c).arrAt_eq_of_covers 7 _ (by decide +kernel) fun t hf y => ?_
  blk_simp
  rw [after0_7, out_7, entry_0 m c t (y 0) (y 1) (((View.whole main_v0_0).slice (win0_7.rect t)).emb y)
      (by blk_simp [index_at t]) (by blk_simp [index_at t]),
    sig_entry_3 m c t (y 0) (y 1) (((View.whole main_v0_0).slice (win0_7.rect t)).emb y)
      (by blk_simp [index_at t]) (by blk_simp [index_at t])]
  rfl

/-- the second branch's, -/
theorem final_8 (c : Dev nD) : (dats m 0 c).arrAt 8 cfg0.N = dbranch (m ((c : Thread nD τ).loc main_arg0)) (gate 8192 (by decide) (m ((c : Thread nD τ).loc main_arg3)) (m ((c : Thread nD τ).loc main_arg5))) := by
  refine (dats m 0 c).arrAt_eq_of_covers 8 _ (by decide +kernel) fun t hf y => ?_
  blk_simp
  rw [after0_8, out_8, entry_0 m c t (y 0) (y 1) (((View.whole main_v0_1).slice (win0_8.rect t)).emb y)
      (by blk_simp [index_at t]) (by blk_simp [index_at t]),
    sig_entry_4 m c t (y 0) (y 1) (((View.whole main_v0_1).slice (win0_8.rect t)).emb y)
      (by blk_simp [index_at t]) (by blk_simp [index_at t])]
  rfl

/-- the first gate's, -/
theorem final_9 (c : Dev nD) : (dats m 0 c).arrAt 9 cfg0.N = dgate (m ((c : Thread nD τ).loc main_arg0)) (m ((c : Thread nD τ).loc main_arg1)) (gate 6144 (by decide) (m ((c : Thread nD τ).loc main_arg3)) (m ((c : Thread nD τ).loc main_arg4))) := by
  refine (dats m 0 c).arrAt_eq_of_covers 9 _ (by decide +kernel) fun t hf y => ?_
  blk_simp
  rw [after0_9, out_9]
  exact grad_9 m c t (y 0) (y 1) (((View.whole main_v0_2).slice (win0_9.rect t)).emb y)
      (by blk_simp [index_at t]) (by blk_simp [index_at t])

/-- the second gate's, -/
theorem final_10 (c : Dev nD) : (dats m 0 c).arrAt 10 cfg0.N = dgate (m ((c : Thread nD τ).loc main_arg0)) (m ((c : Thread nD τ).loc main_arg2)) (gate 8192 (by decide) (m ((c : Thread nD τ).loc main_arg3)) (m ((c : Thread nD τ).loc main_arg5))) := by
  refine (dats m 0 c).arrAt_eq_of_covers 10 _ (by decide +kernel) fun t hf y => ?_
  blk_simp
  rw [after0_10, out_10]
  exact grad_10 m c t (y 0) (y 1) (((View.whole main_v0_3).slice (win0_10.rect t)).emb y)
      (by blk_simp [index_at t]) (by blk_simp [index_at t])

/-- the first bias's, -/
theorem final_11 (c : Dev nD) : (dats m 0 c).arrAt 11 cfg0.N = dbias (dgate (m ((c : Thread nD τ).loc main_arg0)) (m ((c : Thread nD τ).loc main_arg1)) (gate 6144 (by decide) (m ((c : Thread nD τ).loc main_arg3)) (m ((c : Thread nD τ).loc main_arg4)))) := by
  refine (dats m 0 c).arrAt_eq_of_covers 11 _ (by decide +kernel) fun t hf y => ?_
  have hm : t.val % 32 = 31 := (flush0_11 t).mp hf
  have ht : t.val < 32 := lt_of_lt_of_eq t.isLt (by decide)
  blk_simp
  rw [after0_11, Pipeline.eq_sum_fin_of_reset_step_apply_of_flush (fun n h => (outsAt0 m c n h).2.2.2.2.1) 32
    (fun _ => (0 : EReal)) (term_11 m c) (first_11 m c) (next_11 m c) t hm, zero_add]
  refine Fin.sum_mul_add_congr fun s k hl => ?_
  have hs : 32 * (t.val / 32) + s.val = s.val := by omega
  exact grad_9 m c ⟨32 * (t.val / 32) + s.val, _⟩ k (y 1) _ (by blk_simp [hs]) (by blk_simp [index_at t])

/-- and the second bias's. -/
theorem final_12 (c : Dev nD) : (dats m 0 c).arrAt 12 cfg0.N = dbias (dgate (m ((c : Thread nD τ).loc main_arg0)) (m ((c : Thread nD τ).loc main_arg2)) (gate 8192 (by decide) (m ((c : Thread nD τ).loc main_arg3)) (m ((c : Thread nD τ).loc main_arg5)))) := by
  refine (dats m 0 c).arrAt_eq_of_covers 12 _ (by decide +kernel) fun t hf y => ?_
  have hm : t.val % 32 = 31 := (flush0_12 t).mp hf
  have ht : t.val < 32 := lt_of_lt_of_eq t.isLt (by decide)
  blk_simp
  rw [after0_12, Pipeline.eq_sum_fin_of_reset_step_apply_of_flush (fun n h => (outsAt0 m c n h).2.2.2.2.2) 32
    (fun _ => (0 : EReal)) (term_12 m c) (first_12 m c) (next_12 m c) t hm, zero_add]
  refine Fin.sum_mul_add_congr fun s k hl => ?_
  have hs : 32 * (t.val / 32) + s.val = s.val := by omega
  exact grad_10 m c ⟨32 * (t.val / 32) + s.val, _⟩ k (y 1) _ (by blk_simp [hs]) (by blk_simp [index_at t])

/-- The kernel and the reference leave the same arrays. -/
theorem algebraic : Cert.algebraic_KernelIdeal_ReferenceIdeal := fun m ρ m' ρ' _ hag =>
  ⟨fun c => dbranch (m ((c : Thread nD τ).loc main_arg0)) (gate 6144 (by decide) (m ((c : Thread nD τ).loc main_arg3)) (m ((c : Thread nD τ).loc main_arg4))), fun c => dbranch (m ((c : Thread nD τ).loc main_arg0)) (gate 8192 (by decide) (m ((c : Thread nD τ).loc main_arg3)) (m ((c : Thread nD τ).loc main_arg5))), fun c => dgate (m ((c : Thread nD τ).loc main_arg0)) (m ((c : Thread nD τ).loc main_arg1)) (gate 6144 (by decide) (m ((c : Thread nD τ).loc main_arg3)) (m ((c : Thread nD τ).loc main_arg4))), fun c => dgate (m ((c : Thread nD τ).loc main_arg0)) (m ((c : Thread nD τ).loc main_arg2)) (gate 8192 (by decide) (m ((c : Thread nD τ).loc main_arg3)) (m ((c : Thread nD τ).loc main_arg5))), fun c => dbias (dgate (m ((c : Thread nD τ).loc main_arg0)) (m ((c : Thread nD τ).loc main_arg1)) (gate 6144 (by decide) (m ((c : Thread nD τ).loc main_arg3)) (m ((c : Thread nD τ).loc main_arg4)))), fun c => dbias (dgate (m ((c : Thread nD τ).loc main_arg0)) (m ((c : Thread nD τ).loc main_arg2)) (gate 8192 (by decide) (m ((c : Thread nD τ).loc main_arg3)) (m ((c : Thread nD τ).loc main_arg5)))),
   (θ_run defs _ _).mono (fun _ h c => ⟨(h c).1.trans (final_7 m c), (h c).2.1.trans (final_8 m c), (h c).2.2.1.trans (final_9 m c), (h c).2.2.2.1.trans (final_10 m c), (h c).2.2.2.2.1.trans (final_11 m c), (h c).2.2.2.2.2.1.trans (final_12 m c), (h c).2.2.2.2.2.2⟩) (Value.run_blocks m ρ),
   (θ_run Cert.ReferenceIdeal.defs _ _).mono (fun _ h c => ⟨(h c).1.trans (by
        rw [(hag c).1, (hag c).2.2.2.1, (hag c).2.2.2.2.1]
        funext j
        pointwise [gate, dbranch, dgate, dbias, logistic, Ideal.ofBits_one_f32]
        exact mul_comm (G := EReal) _ _),
      (h c).2.1.trans (by
        rw [(hag c).1, (hag c).2.2.2.1, (hag c).2.2.2.2.2]
        funext j
        pointwise [gate, dbranch, dgate, dbias, logistic, Ideal.ofBits_one_f32]
        exact mul_comm (G := EReal) _ _),
      (h c).2.2.1.trans (by
        rw [(hag c).1, (hag c).2.1, (hag c).2.2.2.1, (hag c).2.2.2.2.1]
        funext j
        pointwise [gate, dbranch, dgate, dbias, logistic, Ideal.ofBits_one_f32]),
      (h c).2.2.2.1.trans (by
        rw [(hag c).1, (hag c).2.2.1, (hag c).2.2.2.1, (hag c).2.2.2.2.2]
        funext j
        pointwise [gate, dbranch, dgate, dbias, logistic, Ideal.ofBits_one_f32]),
      (h c).2.2.2.2.1.trans (by
        rw [(hag c).1, (hag c).2.1, (hag c).2.2.2.1, (hag c).2.2.2.2.1]
        funext j
        pointwise [gate, dbranch, dgate, dbias, logistic, Ideal.ofBits_one_f32]),
      (h c).2.2.2.2.2.1.trans (by
        rw [(hag c).1, (hag c).2.2.1, (hag c).2.2.2.1, (hag c).2.2.2.2.2]
        funext j
        pointwise [gate, dbranch, dgate, dbias, logistic, Ideal.ofBits_one_f32]),
      (h c).2.2.2.2.2.2⟩)
    (Cert.ReferenceIdeal.Value.run m' ρ')⟩

end Cert.Proof.GateMerge

end
-- ==== Proof.FfnHidden.lean ====
/-
  The gradients of a feed-forward layer's gate and up products from the gradient `dy` of its output: with
  `da = 0.5 · dy · w_downᵀ` and `s = logistic g`, the up's is `da · (g · s)` and the gate's `da · u · (s · (1 + g · (1 − s)))`.
  Each grid point computes a 2048×512 block of both in eight slabs of 256 rows. The reference's gate gradient is
  `da · u · s + g · (da · u) · (s · (1 − s))`; for a finite `da · u` the two are the same, at every `g`. For an infinite one
  and a negative `g` they are not: hence the precondition.
-/
module

public import proofs.«01_k».proof.Defs
public import proofs.«01_k».proof.Proof.Common
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Proof.FfnHidden

open Idealize.ShloMosaic Idealize.ShloMosaic.TcCoe Idealize.SL.Sem
open Cert.Kernel2Ideal Cert.Kernel2Ideal.Gen

instance : Cert.Pre_finite_operands.Facts where
  bitsLt_bf16_f32 := by decide
  bcast_S_S8192x2048 := by decide
  bcast_S_S5632x2048 := by decide
  bcast_S_S8192x5632 := by decide

/-- Half of the product `dy · wᵀ`. -/
def half (d : S8192x2048.Idx → EReal) (w : S5632x2048.Idx → EReal) : S8192x5632.Idx → EReal :=
  fun i => ((1 / 2 : ℝ) : EReal) * ∑ k : Fin 2048, d (ix2 (i 0) k) * w (ix2 (i 1) k)

/-- The gate's gradient. -/
def dgate (d : S8192x2048.Idx → EReal) (w : S5632x2048.Idx → EReal) (g u : S8192x5632.Idx → EReal) : S8192x5632.Idx → EReal :=
  fun i => half d w i * u i * (logistic (g i) * (1 + g i * (1 - logistic (g i))))

/-- The up's gradient. -/
def dup (d : S8192x2048.Idx → EReal) (w : S5632x2048.Idx → EReal) (g : S8192x5632.Idx → EReal) : S8192x5632.Idx → EReal :=
  fun i => half d w i * (g i * logistic (g i))

/-- Which block each window holds at grid point `t`. -/
theorem index_at : ∀ t : Fin grid0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] := by decide +kernel

variable (m : (ℓ : Loc nD τ sig) → Buf (Elt Ideal) ℓ)

/-- An entry of the gate's block is an entry of the gate, -/
theorem gate_entry (c : Dev nD) (t : Fin cfg0.N) (r : Fin 2048) (q : Fin 512) (i : S8192x5632.Idx)
    (h0 : (i 0 : ℕ) = t.val / 11 * 2048 + r) (h1 : (i 1 : ℕ) = t.val % 11 * 512 + q) :
    iblk m c 2 t (ix2 r q) = (m ((c : Thread nD τ).loc main_arg2)) i := by
  blk_ext [iblk, V, index_at t]

/-- one of the up's block one of the up, -/
theorem up_entry (c : Dev nD) (t : Fin cfg0.N) (r : Fin 2048) (q : Fin 512) (i : S8192x5632.Idx)
    (h0 : (i 0 : ℕ) = t.val / 11 * 2048 + r) (h1 : (i 1 : ℕ) = t.val % 11 * 512 + q) :
    iblk m c 3 t (ix2 r q) = (m ((c : Thread nD τ).loc main_arg3)) i := by
  blk_ext [iblk, V, index_at t]

/-- and row `r` of the block of `dy` against row `q` of the block of the weights is one entry of the product. -/
theorem product_entry (c : Dev nD) (t : Fin cfg0.N) (r : Fin 2048) (q : Fin 512) (i : S8192x5632.Idx)
    (h0 : (i 0 : ℕ) = t.val / 11 * 2048 + r) (h1 : (i 1 : ℕ) = t.val % 11 * 512 + q) :
    Ideal.ofBits .f32 0x3F000000#32 * rowDot (n := 2048) (fun k => iblk m c 0 t (ix2 r k)) (fun k => iblk m c 1 t (ix2 q k))
      = half (m ((c : Thread nD τ).loc main_arg0)) (m ((c : Thread nD τ).loc main_arg1)) i := by
  rw [half_bits]
  refine congrArg (((1 / 2 : ℝ) : EReal) * ·) (Finset.sum_congr (M := EReal) rfl fun k _ => ?_)
  congr 1 <;> blk_ext [iblk, V, index_at t]

/-- The kernel's gate gradient at one index, from the operands there, -/
theorem dgate_of (d : S8192x2048.Idx → EReal) (w : S5632x2048.Idx → EReal) (g u : S8192x5632.Idx → EReal) (i : S8192x5632.Idx)
    {a b z : EReal} (hz : z = half d w i) (ha : a = g i) (hb : b = u i) :
    z * b * ((Ideal.ofBits .f32 0x3F000000#32 + Ideal.ofBits .f32 0x3F000000#32 * Ideal.tanh (Ideal.ofBits .f32 0x3F000000#32 * a))
      * (1 + a * (1
        - (Ideal.ofBits .f32 0x3F000000#32 + Ideal.ofBits .f32 0x3F000000#32 * Ideal.tanh (Ideal.ofBits .f32 0x3F000000#32 * a)))))
      = dgate d w g u i := by
  subst hz ha hb
  rw [half_bits, kernel_logistic]
  rfl

/-- and its up gradient. -/
theorem dup_of (d : S8192x2048.Idx → EReal) (w : S5632x2048.Idx → EReal) (g : S8192x5632.Idx → EReal) (i : S8192x5632.Idx)
    {a z : EReal} (hz : z = half d w i) (ha : a = g i) :
    z * (a * (Ideal.ofBits .f32 0x3F000000#32 + Ideal.ofBits .f32 0x3F000000#32 * Ideal.tanh (Ideal.ofBits .f32 0x3F000000#32 * a)))
      = dup d w g i := by
  subst hz ha
  rw [half_bits, kernel_logistic]
  rfl

/-- The reference scales `dy` before its product, the kernel the product. -/
theorem half_of (d : S8192x2048.Idx → EReal) (w : S5632x2048.Idx → EReal) (i : S8192x5632.Idx) :
    ∑ k : Fin 2048, Ideal.ofBits .f32 0x3F000000#32 * d (ix2 (i 0) k) * w (ix2 (i 1) k) = half d w i := by
  unfold half
  rw [half_bits, mul_sum_coe _ _ (by norm_num)]
  exact Finset.sum_congr rfl fun k _ => mul_assoc _ _ _

/-- The gate's gradient after the run, -/
theorem final_gate (c : Dev nD) : (dats m 0 c).arrAt 4 cfg0.N = dgate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold_out out0_4
  canon_tiles x h
  all_goals
    open_payloads
    pointwise
    simp only [← h0]
    exact dgate_of _ _ _ _ _ (product_entry m c t ⟨(y 0).val, (y 0).isLt⟩ (x 1) (((View.whole main_v0_0).slice (win0_4.rect t)).emb y)
      (by blk_simp [index_at t]) (by blk_simp [index_at t]; omega))
      (gate_entry m c t ⟨(y 0).val, (y 0).isLt⟩ (x 1) (((View.whole main_v0_0).slice (win0_4.rect t)).emb y)
      (by blk_simp [index_at t]) (by blk_simp [index_at t]; omega))
      (up_entry m c t ⟨(y 0).val, (y 0).isLt⟩ (x 1) (((View.whole main_v0_0).slice (win0_4.rect t)).emb y)
      (by blk_simp [index_at t]) (by blk_simp [index_at t]; omega))

/-- and the up's. -/
theorem final_up (c : Dev nD) : (dats m 0 c).arrAt 5 cfg0.N = dup (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold_out out0_5
  canon_tiles x h
  all_goals
    open_payloads
    pointwise
    simp only [← h0]
    exact dup_of _ _ _ _ (product_entry m c t ⟨(y 0).val, (y 0).isLt⟩ (x 1) (((View.whole main_v0_1).slice (win0_5.rect t)).emb y)
      (by blk_simp [index_at t]) (by blk_simp [index_at t]; omega))
      (gate_entry m c t ⟨(y 0).val, (y 0).isLt⟩ (x 1) (((View.whole main_v0_1).slice (win0_5.rect t)).emb y)
      (by blk_simp [index_at t]) (by blk_simp [index_at t]; omega))

/-- What the precondition says of one element. -/
theorem isFinite_of_lt (x : EReal) (h : Ideal.cmp .olt (max x (-x)) (Ideal.ofBits .f32 0x7F800000#32) = 1#1) : IsFinite x := by
  have hi : Ideal.ofBits .f32 0x7F800000#32 = ⊤ := by simp [Ideal.ofBits, Ideal.ieee]
  rw [hi] at h
  constructor <;> rintro rfl <;> simp [Ideal.cmp] at h

/-- The operands are finite. -/
theorem operands_finite (h : Cert.Pre_Kernel2Ideal_finite_operands m) :
    (∀ (c : Dev nD) i, IsFinite ((m ((c : Thread nD τ).loc main_arg0)) i)) ∧ (∀ (c : Dev nD) i, IsFinite ((m ((c : Thread nD τ).loc main_arg1)) i))
      ∧ ∀ (c : Dev nD) i, IsFinite ((m ((c : Thread nD τ).loc main_arg3)) i) :=
  ⟨fun c i => isFinite_of_lt _ (congrFun (h c).1 i), fun c i => isFinite_of_lt _ (congrFun (h c).2.1 i),
    fun c i => isFinite_of_lt _ (congrFun (h c).2.2 i)⟩

/-- On finite operands the kernel and the reference leave the same arrays. -/
theorem algebraic : Cert.algebraic_Kernel2Ideal_Reference2Ideal_pre_finite_operands := fun m ρ m' ρ' hpre hag =>
  have finite := operands_finite m hpre
  ⟨fun c => dgate (m ((c : Thread nD τ).loc main_arg0)) (m ((c : Thread nD τ).loc main_arg1)) (m ((c : Thread nD τ).loc main_arg2)) (m ((c : Thread nD τ).loc main_arg3)), fun c => dup (m ((c : Thread nD τ).loc main_arg0)) (m ((c : Thread nD τ).loc main_arg1)) (m ((c : Thread nD τ).loc main_arg2)),
   (θ_run defs _ _).mono (fun _ h c => ⟨(h c).1.trans (final_gate m c), (h c).2.1.trans (final_up m c), (h c).2.2⟩) (Value.run_blocks m ρ),
   (θ_run Cert.Reference2Ideal.defs _ _).mono (fun _ h c => ⟨(h c).1.trans (by
        rw [(hag c).1, (hag c).2.1, (hag c).2.2.1, (hag c).2.2.2]
        funext j
        pointwise
        rw [half_of]
        have hx : IsFinite (half (m ((c : Thread nD τ).loc main_arg0)) (m ((c : Thread nD τ).loc main_arg1)) j * (m ((c : Thread nD τ).loc main_arg3)) j) :=
          (IsFinite.sum _ _ fun k _ => (finite.1 c _).mul (finite.2.1 c _)).half.mul (finite.2.2 c j)
        exact (gate_gradient hx ((m ((c : Thread nD τ).loc main_arg2)) j)).symm),
      (h c).2.1.trans (by
        rw [(hag c).1, (hag c).2.1, (hag c).2.2.1]
        funext j
        pointwise
        rw [half_of]
        unfold dup
        exact mul_comm (G := EReal) _ _),
      (h c).2.2⟩)
    (Cert.Reference2Ideal.Value.run m' ρ')⟩

end Cert.Proof.FfnHidden

end
-- ==== Proof.FfnDwDown.lean ====
/-
  The gradient of the down weights of a feed-forward layer, `aᵀ · (0.5 · dy)` (8192×5632 and 8192×2048, contracted over
  the 8192 tokens): for each block of 512 hidden columns the kernel takes four steps of 2048 tokens, adding each step's
  product into a scratch that it zeroes at the first step; at the last it writes out half of the scratch.
-/
module

public import proofs.«01_k».proof.Defs
public import proofs.«01_k».proof.Proof.Common
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FfnDwDown

open Idealize.ShloMosaic Idealize.ShloMosaic.TcCoe Idealize.SL.Sem
open Cert.Kernel3Ideal Cert.Kernel3Ideal.Gen

/-- The whole gradient. -/
def gradient (a : S8192x5632.Idx → EReal) (d : S8192x2048.Idx → EReal) : S5632x2048.Idx → EReal :=
  fun i => ((1 / 2 : ℝ) : EReal) * ∑ k : Fin 8192, a (ix2 k (i 0)) * d (ix2 k (i 1))

/-- Which block each window holds at grid point `t`. -/
theorem index_at : ∀ t : Fin grid0.N, win0_0.index t = ![t.val % 4, t.val / 4]
    ∧ win0_1.index t = ![t.val % 4, 0] ∧ win0_2.index t = ![t.val / 4, 0] := by decide +kernel

variable (m : (ℓ : Loc nD τ sig) → Buf (Elt Ideal) ℓ)

/-- What point `t` adds into the scratch: the product of its two blocks. -/
def term (c : Dev nD) (t : Fin cfg0.N) (j : S512x2048.Idx) : EReal :=
  rowDot (n := 2048) (fun k => iblk m c 0 t (ix2 k (j 0))) fun k => iblk m c 1 t (ix2 k (j 1))

/-- A run's first point leaves its own product in the scratch, -/
theorem scratch_first (c : Dev nD) (t : Fin cfg0.N) (h0 : t.val % 4 = 0) (j : S512x2048.Idx) :
    (outsAt0 m c t.val t.isLt).2 j = 0 + term m c t j := by
  rw [outsAt0_A m c t h0 (by omega)]
  frame_out
  pointwise [k0_pay1, k0_pay2, term]

/-- every later one adds its own to what the point before left. -/
theorem scratch_next (c : Dev nD) (t : Fin cfg0.N) (h0 : ¬t.val % 4 = 0) (j : S512x2048.Idx) :
    (outsAt0 m c t.val t.isLt).2 j
      = (outsAt0 m c (t.val - 1) (Nat.lt_of_le_of_lt (Nat.sub_le _ _) t.isLt)).2 j + term m c t j := by
  by_cases h1 : t.val % 4 = 3
  · rw [outsAt0_C m c t h0 h1]
    frame_out
    simp only [read_unread_whole]
    pointwise [k0_pay2, term]
  · rw [outsAt0_B m c t h0 h1]
    frame_out
    simp only [read_unread_whole]
    pointwise [k0_pay2, term]

/-- At a run's last point the output block is half of the scratch. -/
theorem out_last (c : Dev nD) (t : Fin cfg0.N) (h1 : t.val % 4 = 3) (j : S512x2048.Idx) :
    (outsAt0 m c t.val t.isLt).1 j = ((1 / 2 : ℝ) : EReal) * (outsAt0 m c t.val t.isLt).2 j := by
  rw [outsAt0_C m c t (by omega) h1, ← half_bits]
  frame_out
  pointwise [k0_pay3]

/-- The result array after the run is the whole gradient. -/
theorem final (c : Dev nD) : (dats m 0 c).arrAt 2 cfg0.N = gradient (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2, out_last m c t hm, Pipeline.eq_sum_fin_of_reset_step_apply_of_flush (fun n h => (outsAt0 m c n h).2) 4
    (fun _ => (0 : EReal)) (term m c) (scratch_first m c) (scratch_next m c) t hm, zero_add]
  refine congrArg (((1 / 2 : ℝ) : EReal) * ·) (Fin.sum_mul_add_congr fun s k hl => ?_)
  have hs : (4 * (t.val / 4) + s.val) / 4 = t.val / 4 := by omega
  have hs' : (4 * (t.val / 4) + s.val) % 4 = s.val := by omega
  congr 1 <;> blk_ext [iblk, V, index_at ⟨4 * (t.val / 4) + s.val, _⟩, index_at t, hs, hs']

/-- The kernel and the reference leave the same array. -/
theorem algebraic : Cert.algebraic_Kernel3Ideal_Reference3Ideal := fun m ρ m' ρ' _ hag =>
  ⟨fun c => gradient (m ((c : Thread nD τ).loc main_arg0)) (m ((c : Thread nD τ).loc main_arg1)),
   (θ_run defs _ _).mono (fun _ h c => ⟨(h c).1.trans (final m c), (h c).2⟩) (Value.run_blocks m ρ),
   (θ_run Cert.Reference3Ideal.defs _ _).mono (fun _ h c => ⟨(h c).1.trans (by
        rw [(hag c).1, (hag c).2]
        funext j
        pointwise [gradient]
        rw [mul_sum_coe _ _ (by norm_num)]
        refine Finset.sum_congr (M := EReal) rfl fun k _ => ?_
        rw [half_bits, mul_assoc, mul_comm (G := EReal) (m ((c : Thread nD τ).loc main_arg0) _)]),
      (h c).2⟩)
    (Cert.Reference3Ideal.Value.run m' ρ')⟩

end Cert.Proof.FfnDwDown

end
-- ==== Proof.FfnDwGateUp.lean ====
/-
  The gradients of the gate and up weights of a feed-forward layer, `dgᵀ · h` and `duᵀ · h` (8192×5632 and 8192×2048,
  contracted over the 8192 tokens): for each block of 512 hidden columns the kernel takes four steps of 2048 tokens,
  adding each step's two products into two scratches that it zeroes at the first step and writes out at the last.
-/
module

public import proofs.«01_k».proof.Defs
public import proofs.«01_k».proof.Proof.Common
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FfnDwGateUp

open Idealize.ShloMosaic Idealize.ShloMosaic.TcCoe Idealize.SL.Sem
open Cert.Kernel4Ideal Cert.Kernel4Ideal.Gen

/-- One whole product. -/
def product (d : S8192x5632.Idx → EReal) (h : S8192x2048.Idx → EReal) : S5632x2048.Idx → EReal :=
  fun i => ∑ k : Fin 8192, d (ix2 k (i 0)) * h (ix2 k (i 1))

/-- Which block each window holds at grid point `t`. -/
theorem index_at : ∀ t : Fin grid0.N, win0_0.index t = ![t.val % 4, t.val / 4] ∧ win0_1.index t = ![t.val % 4, t.val / 4]
    ∧ win0_2.index t = ![t.val % 4, 0] ∧ win0_3.index t = ![t.val / 4, 0] ∧ win0_4.index t = ![t.val / 4, 0] := by decide +kernel

variable (m : (ℓ : Loc nD τ sig) → Buf (Elt Ideal) ℓ)

/-- What point `t` adds into the gate's scratch, and into the up's: the products of its blocks. -/
def gateTerm (c : Dev nD) (t : Fin cfg0.N) (j : S512x2048.Idx) : EReal :=
  rowDot (n := 2048) (fun k => iblk m c 0 t (ix2 k (j 0))) fun k => iblk m c 2 t (ix2 k (j 1))

def upTerm (c : Dev nD) (t : Fin cfg0.N) (j : S512x2048.Idx) : EReal :=
  rowDot (n := 2048) (fun k => iblk m c 1 t (ix2 k (j 0))) fun k => iblk m c 2 t (ix2 k (j 1))

/-- A run's first point leaves its own product in the gate's scratch, -/
theorem gate_first (c : Dev nD) (t : Fin cfg0.N) (h0 : t.val % 4 = 0) (j : S512x2048.Idx) :
    (outsAt0 m c t.val t.isLt).2.2.1 j = 0 + gateTerm m c t j := by
  rw [outsAt0_A m c t h0 (by omega) h0 (by omega)]
  frame_out
  pointwise [k0_pay1, k0_pay2, k0_pay4, k0_pay5, gateTerm]

/-- every later one adds its own to what the point before left, -/
theorem gate_next (c : Dev nD) (t : Fin cfg0.N) (h0 : ¬t.val % 4 = 0) (j : S512x2048.Idx) :
    (outsAt0 m c t.val t.isLt).2.2.1 j
      = (outsAt0 m c (t.val - 1) (Nat.lt_of_le_of_lt (Nat.sub_le _ _) t.isLt)).2.2.1 j + gateTerm m c t j := by
  by_cases h1 : t.val % 4 = 3
  · rw [outsAt0_C m c t h0 h1 h0 h1]
    frame_out
    simp only [read_unread_whole]
    pointwise [k0_pay2, k0_pay5, gateTerm]
  · rw [outsAt0_B m c t h0 h1 h0 h1]
    frame_out
    simp only [read_unread_whole]
    pointwise [k0_pay2, k0_pay5, gateTerm]

/-- and at a run's last point the output block is the scratch. -/
theorem gate_last (c : Dev nD) (t : Fin cfg0.N) (h1 : t.val % 4 = 3) (j : S512x2048.Idx) :
    (outsAt0 m c t.val t.isLt).1 j = (outsAt0 m c t.val t.isLt).2.2.1 j := by
  rw [outsAt0_C m c t (by omega) h1 (by omega) h1]
  frame_out
  pointwise [k0_pay3, k0_pay6, Ideal.ofBits_one_f32]

/-- The gate's result array after the run is the whole product. -/
theorem final_gate (c : Dev nD) : (dats m 0 c).arrAt 3 cfg0.N = product (m ((c : Thread nD τ).loc main_arg0)) (m ((c : Thread nD τ).loc main_arg2)) := by
  refine (dats m 0 c).arrAt_eq_of_covers 3 _ (by decide +kernel) fun t hf y => ?_
  have hm : t.val % 4 = 3 := (flush0_3 t).mp hf
  blk_simp
  rw [after0_3, gate_last m c t hm, Pipeline.eq_sum_fin_of_reset_step_apply_of_flush (fun n h => (outsAt0 m c n h).2.2.1) 4
    (fun _ => (0 : EReal)) (gateTerm m c) (gate_first m c) (gate_next m c) t hm, zero_add]
  refine Fin.sum_mul_add_congr fun s k hl => ?_
  have hs : (4 * (t.val / 4) + s.val) / 4 = t.val / 4 := by omega
  have hs' : (4 * (t.val / 4) + s.val) % 4 = s.val := by omega
  congr 1 <;> blk_ext [iblk, V, index_at ⟨4 * (t.val / 4) + s.val, _⟩, index_at t, hs, hs']

/-- A run's first point leaves its own product in the up's scratch, -/
theorem up_first (c : Dev nD) (t : Fin cfg0.N) (h0 : t.val % 4 = 0) (j : S512x2048.Idx) :
    (outsAt0 m c t.val t.isLt).2.2.2 j = 0 + upTerm m c t j := by
  rw [outsAt0_A m c t h0 (by omega) h0 (by omega)]
  frame_out
  pointwise [k0_pay1, k0_pay2, k0_pay4, k0_pay5, upTerm]

/-- every later one adds its own to what the point before left, -/
theorem up_next (c : Dev nD) (t : Fin cfg0.N) (h0 : ¬t.val % 4 = 0) (j : S512x2048.Idx) :
    (outsAt0 m c t.val t.isLt).2.2.2 j
      = (outsAt0 m c (t.val - 1) (Nat.lt_of_le_of_lt (Nat.sub_le _ _) t.isLt)).2.2.2 j + upTerm m c t j := by
  by_cases h1 : t.val % 4 = 3
  · rw [outsAt0_C m c t h0 h1 h0 h1]
    frame_out
    simp only [read_unread_whole]
    pointwise [k0_pay2, k0_pay5, upTerm]
  · rw [outsAt0_B m c t h0 h1 h0 h1]
    frame_out
    simp only [read_unread_whole]
    pointwise [k0_pay2, k0_pay5, upTerm]

/-- and at a run's last point the output block is the scratch. -/
theorem up_last (c : Dev nD) (t : Fin cfg0.N) (h1 : t.val % 4 = 3) (j : S512x2048.Idx) :
    (outsAt0 m c t.val t.isLt).2.1 j = (outsAt0 m c t.val t.isLt).2.2.2 j := by
  rw [outsAt0_C m c t (by omega) h1 (by omega) h1]
  frame_out
  pointwise [k0_pay3, k0_pay6, Ideal.ofBits_one_f32]

/-- The up's result array after the run is the whole product. -/
theorem final_up (c : Dev nD) : (dats m 0 c).arrAt 4 cfg0.N = product (m ((c : Thread nD τ).loc main_arg1)) (m ((c : Thread nD τ).loc main_arg2)) := by
  refine (dats m 0 c).arrAt_eq_of_covers 4 _ (by decide +kernel) fun t hf y => ?_
  have hm : t.val % 4 = 3 := (flush0_4 t).mp hf
  blk_simp
  rw [after0_4, up_last m c t hm, Pipeline.eq_sum_fin_of_reset_step_apply_of_flush (fun n h => (outsAt0 m c n h).2.2.2) 4
    (fun _ => (0 : EReal)) (upTerm m c) (up_first m c) (up_next m c) t hm, zero_add]
  refine Fin.sum_mul_add_congr fun s k hl => ?_
  have hs : (4 * (t.val / 4) + s.val) / 4 = t.val / 4 := by omega
  have hs' : (4 * (t.val / 4) + s.val) % 4 = s.val := by omega
  congr 1 <;> blk_ext [iblk, V, index_at ⟨4 * (t.val / 4) + s.val, _⟩, index_at t, hs, hs']

/-- The kernel and the reference leave the same arrays. -/
theorem algebraic : Cert.algebraic_Kernel4Ideal_Reference4Ideal := fun m ρ m' ρ' _ hag =>
  ⟨fun c => product (m ((c : Thread nD τ).loc main_arg0)) (m ((c : Thread nD τ).loc main_arg2)), fun c => product (m ((c : Thread nD τ).loc main_arg1)) (m ((c : Thread nD τ).loc main_arg2)),
   (θ_run defs _ _).mono (fun _ h c => ⟨(h c).1.trans (final_gate m c), (h c).2.1.trans (final_up m c), (h c).2.2⟩) (Value.run_blocks m ρ),
   (θ_run Cert.Reference4Ideal.defs _ _).mono (fun _ h c => ⟨(h c).1.trans (by
        rw [(hag c).1, (hag c).2.2]
        funext j
        pointwise [product]),
      (h c).2.1.trans (by
        rw [(hag c).2.1, (hag c).2.2]
        funext j
        pointwise [product]),
      (h c).2.2⟩)
    (Cert.Reference4Ideal.Value.run m' ρ')⟩

end Cert.Proof.FfnDwGateUp

end
-- ==== Proof.FfnInput.lean ====
/-
  The gradient of a feed-forward layer's input, `dg · w_gate + du · w_up` (8192×5632 by 5632×2048, each contracted over
  the 5632 hidden columns): for each block of 1024 rows the kernel takes eleven steps of 512 hidden columns, adding both
  of a step's products into the output block, which it zeroes at the first step.
-/
module

public import proofs.«01_k».proof.Defs
public import proofs.«01_k».proof.Proof.Common
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FfnInput

open Idealize.ShloMosaic Idealize.ShloMosaic.TcCoe Idealize.SL.Sem
open Cert.Kernel5Ideal Cert.Kernel5Ideal.Gen

/-- The whole gradient. -/
def gradient (dg du : S8192x5632.Idx → EReal) (wg wu : S5632x2048.Idx → EReal) : S8192x2048.Idx → EReal :=
  fun i => (∑ k : Fin 5632, dg (ix2 (i 0) k) * wg (ix2 k (i 1))) + ∑ k : Fin 5632, du (ix2 (i 0) k) * wu (ix2 k (i 1))

/-- Which block each window holds at grid point `t`. -/
theorem index_at : ∀ t : Fin grid0.N, win0_0.index t = ![t.val / 11, t.val % 11] ∧ win0_1.index t = ![t.val / 11, t.val % 11]
    ∧ win0_2.index t = ![t.val % 11, 0] ∧ win0_3.index t = ![t.val % 11, 0] ∧ win0_4.index t = ![t.val / 11, 0] := by decide +kernel

variable (m : (ℓ : Loc nD τ sig) → Buf (Elt Ideal) ℓ)

/-- The gate's and the up's part of what point `t` adds. -/
def gateTerm (c : Dev nD) (t : Fin cfg0.N) (j : S1024x2048.Idx) : EReal :=
  rowDot (n := 512) (fun k => iblk m c 0 t (ix2 (j 0) k)) fun k => iblk m c 2 t (ix2 k (j 1))

def upTerm (c : Dev nD) (t : Fin cfg0.N) (j : S1024x2048.Idx) : EReal :=
  rowDot (n := 512) (fun k => iblk m c 1 t (ix2 (j 0) k)) fun k => iblk m c 3 t (ix2 k (j 1))

/-- A run's first point leaves its own two products in the output block, -/
theorem out_first (c : Dev nD) (t : Fin cfg0.N) (h0 : t.val % 11 = 0) (j : S1024x2048.Idx) :
    outsAt0 m c t.val t.isLt j = 0 + (gateTerm m c t j + upTerm m c t j) := by
  rw [outsAt0_A m c t h0]
  frame_out
  pointwise [k0_pay1, k0_pay2, gateTerm, upTerm]

/-- every later one adds its own to what the point before left. -/
theorem out_next (c : Dev nD) (t : Fin cfg0.N) (h0 : ¬t.val % 11 = 0) (j : S1024x2048.Idx) :
    outsAt0 m c t.val t.isLt j
      = outsAt0 m c (t.val - 1) (Nat.lt_of_le_of_lt (Nat.sub_le _ _) t.isLt) j + (gateTerm m c t j + upTerm m c t j) := by
  rw [outsAt0_B m c t h0]
  frame_out
  pointwise [k0_pay2, gateTerm, upTerm]

/-- The result array after the run is the whole gradient. -/
theorem final (c : Dev nD) : (dats m 0 c).arrAt 4 cfg0.N = gradient (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hm : t.val % 11 = 10 := (flush0_4 t).mp hf
  blk_simp
  rw [after0_4, Pipeline.eq_sum_fin_of_reset_step_apply_of_flush (fun n h => outsAt0 m c n h) 11 (fun _ => (0 : EReal))
    (fun t j => gateTerm m c t j + upTerm m c t j) (out_first m c) (out_next m c) t hm, zero_add, Finset.sum_add_distrib]
  refine congr (congrArg HAdd.hAdd (Fin.sum_mul_add_congr fun s k hl => ?_)) (Fin.sum_mul_add_congr fun s k hl => ?_)
  all_goals
    have hs : (11 * (t.val / 11) + s.val) / 11 = t.val / 11 := by omega
    have hs' : (11 * (t.val / 11) + s.val) % 11 = s.val := by omega
    congr 1 <;> blk_ext [iblk, V, index_at ⟨11 * (t.val / 11) + s.val, _⟩, index_at t, hs, hs']

/-- The kernel and the reference leave the same array. -/
theorem algebraic : Cert.algebraic_Kernel5Ideal_Reference5Ideal := fun m ρ m' ρ' _ hag =>
  ⟨fun c => gradient (m ((c : Thread nD τ).loc main_arg0)) (m ((c : Thread nD τ).loc main_arg1)) (m ((c : Thread nD τ).loc main_arg2)) (m ((c : Thread nD τ).loc main_arg3)),
   (θ_run defs _ _).mono (fun _ h c => ⟨(h c).1.trans (final m c), (h c).2⟩) (Value.run_blocks m ρ),
   (θ_run Cert.Reference5Ideal.defs _ _).mono (fun _ h c => ⟨(h c).1.trans (by
        rw [(hag c).1, (hag c).2.1, (hag c).2.2.1, (hag c).2.2.2]
        funext j
        pointwise [gradient]
        exact add_comm (G := EReal) _ _),
      (h c).2⟩)
    (Cert.Reference5Ideal.Value.run m' ρ')⟩

end Cert.Proof.FfnInput

end
-- ==== Proof.FfnGateUp.lean ====
/-
  The forward gate and up products of the feed-forward layer, `h · w_gateᵀ` and `h · w_upᵀ`, and the SwiGLU
  `g · logistic g · u` of the two. Each grid point computes a 2048×512 block of all three, in eight slabs of 256 rows.
-/
module

public import proofs.«01_k».proof.Defs
public import proofs.«01_k».proof.Proof.Common
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Proof.FfnGateUp

open Idealize.ShloMosaic Idealize.ShloMosaic.TcCoe Idealize.SL.Sem
open Cert.Kernel6Ideal Cert.Kernel6Ideal.Gen

/-- The product `h · wᵀ`. -/
def product (h : S8192x2048.Idx → EReal) (w : S5632x2048.Idx → EReal) : S8192x5632.Idx → EReal :=
  fun i => ∑ k : Fin 2048, h (ix2 (i 0) k) * w (ix2 (i 1) k)

/-- The SwiGLU of the two products. -/
def act (h : S8192x2048.Idx → EReal) (wg wu : S5632x2048.Idx → EReal) : S8192x5632.Idx → EReal :=
  fun i => product h wg i * logistic (product h wg i) * product h wu i

/-- Which block each window holds at grid point `t`. -/
theorem index_at : ∀ t : Fin grid0.N, win0_0.index t = ![t.val % 4, 0] ∧ win0_1.index t = ![t.val / 4, 0]
    ∧ win0_2.index t = ![t.val / 4, 0] ∧ win0_3.index t = ![t.val % 4, t.val / 4]
    ∧ win0_4.index t = ![t.val % 4, t.val / 4] ∧ win0_5.index t = ![t.val % 4, t.val / 4] := by decide +kernel

variable (m : (ℓ : Loc nD τ sig) → Buf (Elt Ideal) ℓ)

/-- Row `r` of the block of `h` against row `q` of the block of the gate weights is one entry of the gate product, -/
theorem gate_entry (c : Dev nD) (t : Fin cfg0.N) (r : Fin 2048) (q : Fin 512) (i : S8192x5632.Idx)
    (h0 : (i 0 : ℕ) = t.val % 4 * 2048 + r) (h1 : (i 1 : ℕ) = t.val / 4 * 512 + q) :
    rowDot (n := 2048) (fun k => iblk m c 0 t (ix2 r k)) (fun k => iblk m c 1 t (ix2 q k))
      = product (m ((c : Thread nD τ).loc main_arg0)) (m ((c : Thread nD τ).loc main_arg1)) i := by
  refine Finset.sum_congr (M := EReal) rfl fun k _ => ?_
  congr 1 <;> blk_ext [iblk, V, index_at t]

/-- and likewise of the up product. -/
theorem up_entry (c : Dev nD) (t : Fin cfg0.N) (r : Fin 2048) (q : Fin 512) (i : S8192x5632.Idx)
    (h0 : (i 0 : ℕ) = t.val % 4 * 2048 + r) (h1 : (i 1 : ℕ) = t.val / 4 * 512 + q) :
    rowDot (n := 2048) (fun k => iblk m c 0 t (ix2 r k)) (fun k => iblk m c 2 t (ix2 q k))
      = product (m ((c : Thread nD τ).loc main_arg0)) (m ((c : Thread nD τ).loc main_arg2)) i := by
  refine Finset.sum_congr (M := EReal) rfl fun k _ => ?_
  congr 1 <;> blk_ext [iblk, V, index_at t]

/-- The kernel's SwiGLU at one index, from the two products there. -/
theorem act_of (h : S8192x2048.Idx → EReal) (wg wu : S5632x2048.Idx → EReal) (i : S8192x5632.Idx) {a b : EReal}
    (ha : a = product h wg i) (hb : b = product h wu i) :
    a * (Ideal.ofBits .f32 0x3F000000#32 + Ideal.ofBits .f32 0x3F000000#32 * Ideal.tanh (Ideal.ofBits .f32 0x3F000000#32 * a)) * b
      = act h wg wu i := by
  subst ha hb
  rw [half_bits, kernel_logistic]
  rfl

/-- The gate product's array after the run, -/
theorem final_gate (c : Dev nD) : (dats m 0 c).arrAt 3 cfg0.N = product (m ((c : Thread nD τ).loc main_arg0)) (m ((c : Thread nD τ).loc main_arg1)) := by
  refine (dats m 0 c).arrAt_eq_of_covers 3 _ (by decide +kernel) fun t hf y => ?_
  blk_simp
  rw [after0_3]
  unfold_out out0_3
  canon_tiles x h
  all_goals
    open_payloads
    pointwise
    simp only [← h0]
    exact gate_entry m c t ⟨(y 0).val, (y 0).isLt⟩ (x 1) (((View.whole main_v0_0).slice (win0_3.rect t)).emb y)
      (by blk_simp [index_at t]) (by blk_simp [index_at t]; omega)

/-- the up product's, -/
theorem final_up (c : Dev nD) : (dats m 0 c).arrAt 4 cfg0.N = product (m ((c : Thread nD τ).loc main_arg0)) (m ((c : Thread nD τ).loc main_arg2)) := by
  refine (dats m 0 c).arrAt_eq_of_covers 4 _ (by decide +kernel) fun t hf y => ?_
  blk_simp
  rw [after0_4]
  unfold_out out0_4
  canon_tiles x h
  all_goals
    open_payloads
    pointwise
    simp only [← h0]
    exact up_entry m c t ⟨(y 0).val, (y 0).isLt⟩ (x 1) (((View.whole main_v0_1).slice (win0_4.rect t)).emb y)
      (by blk_simp [index_at t]) (by blk_simp [index_at t]; omega)

/-- and the SwiGLU's. -/
theorem final_act (c : Dev nD) : (dats m 0 c).arrAt 5 cfg0.N = act (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold_out out0_5
  canon_tiles x h
  all_goals
    open_payloads
    pointwise
    simp only [← h0]
    exact act_of _ _ _ _ (gate_entry m c t ⟨(y 0).val, (y 0).isLt⟩ (x 1) (((View.whole main_v0_2).slice (win0_5.rect t)).emb y)
      (by blk_simp [index_at t]) (by blk_simp [index_at t]; omega))
      (up_entry m c t ⟨(y 0).val, (y 0).isLt⟩ (x 1) (((View.whole main_v0_2).slice (win0_5.rect t)).emb y)
      (by blk_simp [index_at t]) (by blk_simp [index_at t]; omega))

/-- The kernel and the reference leave the same arrays. -/
theorem algebraic : Cert.algebraic_Kernel6Ideal_Reference6Ideal := fun m ρ m' ρ' _ hag =>
  ⟨fun c => product (m ((c : Thread nD τ).loc main_arg0)) (m ((c : Thread nD τ).loc main_arg1)), fun c => product (m ((c : Thread nD τ).loc main_arg0)) (m ((c : Thread nD τ).loc main_arg2)), fun c => act (m ((c : Thread nD τ).loc main_arg0)) (m ((c : Thread nD τ).loc main_arg1)) (m ((c : Thread nD τ).loc main_arg2)),
   (θ_run defs _ _).mono (fun _ h c => ⟨(h c).1.trans (final_gate m c), (h c).2.1.trans (final_up m c), (h c).2.2.1.trans (final_act m c), (h c).2.2.2⟩) (Value.run_blocks m ρ),
   (θ_run Cert.Reference6Ideal.defs _ _).mono (fun _ h c => ⟨(h c).1.trans (by
        rw [(hag c).1, (hag c).2.1]
        funext j
        pointwise [product]),
      (h c).2.1.trans (by
        rw [(hag c).1, (hag c).2.2]
        funext j
        pointwise [product]),
      (h c).2.2.1.trans (by
        rw [(hag c).1, (hag c).2.1, (hag c).2.2]
        funext j
        pointwise [act, product, logistic, Ideal.ofBits_one_f32]),
      (h c).2.2.2⟩)
    (Cert.Reference6Ideal.Value.run m' ρ')⟩

end Cert.Proof.FfnGateUp

end
-- ==== Proof.FfnDown.lean ====
/-
  The forward down product of a feed-forward layer with its residual, `x + 0.5 · (a · w_down)` (8192×5632 by 5632×2048):
  for each block of 1024 rows the kernel starts from the residual's block and takes eleven steps of 512 hidden columns,
  adding half of each step's product.
-/
module

public import proofs.«01_k».proof.Defs
public import proofs.«01_k».proof.Proof.Common
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FfnDown

open Idealize.ShloMosaic Idealize.ShloMosaic.TcCoe Idealize.SL.Sem
open Cert.Kernel7Ideal Cert.Kernel7Ideal.Gen

/-- The whole result. -/
def result (a : S8192x5632.Idx → EReal) (w : S5632x2048.Idx → EReal) (x : S8192x2048.Idx → EReal) : S8192x2048.Idx → EReal :=
  fun i => x i + ((1 / 2 : ℝ) : EReal) * ∑ k : Fin 5632, a (ix2 (i 0) k) * w (ix2 k (i 1))

/-- Which block each window holds at grid point `t`. -/
theorem index_at : ∀ t : Fin grid0.N, win0_0.index t = ![t.val / 11, t.val % 11] ∧ win0_1.index t = ![t.val % 11, 0]
    ∧ win0_2.index t = ![t.val / 11, 0] ∧ win0_3.index t = ![t.val / 11, 0] := by decide +kernel

variable (m : (ℓ : Loc nD τ sig) → Buf (Elt Ideal) ℓ)

/-- The residual as point `t` adds it: at a run's first point only. -/
def start (c : Dev nD) (t : Fin cfg0.N) (j : S1024x2048.Idx) : EReal :=
  if t.val % 11 = 0 then iblk m c 2 t j else 0

/-- The product of point `t`'s two blocks. -/
def term (c : Dev nD) (t : Fin cfg0.N) (j : S1024x2048.Idx) : EReal :=
  rowDot (n := 512) (fun k => iblk m c 0 t (ix2 (j 0) k)) fun k => iblk m c 1 t (ix2 k (j 1))

/-- A run's first point leaves the residual and half of its own product in the output block, -/
theorem out_first (c : Dev nD) (t : Fin cfg0.N) (h0 : t.val % 11 = 0) (j : S1024x2048.Idx) :
    outsAt0 m c t.val t.isLt j = 0 + (start m c t j + ((1 / 2 : ℝ) : EReal) * term m c t j) := by
  rw [outsAt0_A m c t h0, start, if_pos h0, zero_add, ← half_bits]
  frame_out
  pointwise [k0_pay1, term]

/-- every later one adds half of its own product to what the point before left. -/
theorem out_next (c : Dev nD) (t : Fin cfg0.N) (h0 : ¬t.val % 11 = 0) (j : S1024x2048.Idx) :
    outsAt0 m c t.val t.isLt j
      = outsAt0 m c (t.val - 1) (Nat.lt_of_le_of_lt (Nat.sub_le _ _) t.isLt) j
        + (start m c t j + ((1 / 2 : ℝ) : EReal) * term m c t j) := by
  rw [outsAt0_B m c t h0, start, if_neg h0, zero_add, ← half_bits]
  frame_out
  pointwise [k0_pay1, term]

/-- The result array after the run. -/
theorem final (c : Dev nD) : (dats m 0 c).arrAt 3 cfg0.N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm : t.val % 11 = 10 := (flush0_3 t).mp hf
  blk_simp
  rw [after0_3, Pipeline.eq_sum_fin_of_reset_step_apply_of_flush (fun n h => outsAt0 m c n h) 11 (fun _ => (0 : EReal))
    (fun t j => start m c t j + ((1 / 2 : ℝ) : EReal) * term m c t j) (out_first m c) (out_next m c) t hm, zero_add,
    Finset.sum_add_distrib, ← mul_sum_coe _ _ (by norm_num)]
  refine congr (congrArg HAdd.hAdd ?_) (congrArg (((1 / 2 : ℝ) : EReal) * ·) (Fin.sum_mul_add_congr fun s k hl => ?_))
  · rw [Finset.sum_eq_single (0 : Fin 11)]
    · have hs : (11 * (t.val / 11) + ((0 : Fin 11) : ℕ)) / 11 = t.val / 11 := by simp
      have hs' : (11 * (t.val / 11) + ((0 : Fin 11) : ℕ)) % 11 = 0 := by simp
      rw [start, if_pos hs']
      blk_ext [iblk, V, index_at ⟨11 * (t.val / 11) + ((0 : Fin 11) : ℕ), _⟩, index_at t, hs, hs']
    · intro s _ h
      have hs : s.val ≠ 0 := fun e => h (Fin.ext e)
      exact if_neg (by show ¬(11 * (t.val / 11) + s.val) % 11 = 0; omega)
    · exact fun h => absurd (Finset.mem_univ _) h
  · have hs : (11 * (t.val / 11) + s.val) / 11 = t.val / 11 := by omega
    have hs' : (11 * (t.val / 11) + s.val) % 11 = s.val := by omega
    congr 1 <;> blk_ext [iblk, V, index_at ⟨11 * (t.val / 11) + s.val, _⟩, index_at t, hs, hs']

/-- The kernel and the reference leave the same array. -/
theorem algebraic : Cert.algebraic_Kernel7Ideal_Reference7Ideal := fun m ρ m' ρ' _ hag =>
  ⟨fun c => result (m ((c : Thread nD τ).loc main_arg0)) (m ((c : Thread nD τ).loc main_arg1)) (m ((c : Thread nD τ).loc main_arg2)),
   (θ_run defs _ _).mono (fun _ h c => ⟨(h c).1.trans (final m c), (h c).2⟩) (Value.run_blocks m ρ),
   (θ_run Cert.Reference7Ideal.defs _ _).mono (fun _ h c => ⟨(h c).1.trans (by
        rw [(hag c).1, (hag c).2.1, (hag c).2.2]
        funext j
        pointwise [result, half_bits]),
      (h c).2⟩)
    (Cert.Reference7Ideal.Value.run m' ρ')⟩

end Cert.Proof.FfnDown

end
-- ==== Proof.FfnGate.lean ====
/-
  The forward gate product of the first feed-forward layer, `h · w_gateᵀ`, kept in f32: each grid point computes one
  2048×512 block of it in a single product.
-/
module

public import proofs.«01_k».proof.Defs
public import proofs.«01_k».proof.Proof.Common
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Proof.FfnGate

open Idealize.ShloMosaic Idealize.ShloMosaic.TcCoe Idealize.SL.Sem
open Cert.Kernel8Ideal Cert.Kernel8Ideal.Gen

/-- The product `h · wᵀ`. -/
def product (h : S8192x2048.Idx → EReal) (w : S5632x2048.Idx → EReal) : S8192x5632.Idx → EReal :=
  fun i => ∑ k : Fin 2048, h (ix2 (i 0) k) * w (ix2 (i 1) k)

/-- Which block each window holds at grid point `t`. -/
theorem index_at : ∀ t : Fin grid0.N, win0_0.index t = ![t.val % 4, 0] ∧ win0_1.index t = ![t.val / 4, 0]
    ∧ win0_2.index t = ![t.val % 4, t.val / 4] := by decide +kernel

variable (m : (ℓ : Loc nD τ sig) → Buf (Elt Ideal) ℓ)

/-- The result array after the run is the whole product. -/
theorem final (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, product]
  refine Finset.sum_congr (M := EReal) rfl fun k _ => ?_
  congr 1 <;> blk_ext [iblk, V, index_at t]

/-- The kernel and the reference leave the same array. -/
theorem algebraic : Cert.algebraic_Kernel8Ideal_Reference8Ideal := fun m ρ m' ρ' _ hag =>
  ⟨fun c => product (m ((c : Thread nD τ).loc main_arg0)) (m ((c : Thread nD τ).loc main_arg1)),
   (θ_run defs _ _).mono (fun _ h c => ⟨(h c).1.trans (final m c), (h c).2⟩) (Value.run_blocks m ρ),
   (θ_run Cert.Reference8Ideal.defs _ _).mono (fun _ h c => ⟨(h c).1.trans (by
        rw [(hag c).1, (hag c).2]
        funext j
        pointwise [product]),
      (h c).2⟩)
    (Cert.Reference8Ideal.Value.run m' ρ')⟩

end Cert.Proof.FfnGate

end
-- ==== Proof.FfnUpAct.lean ====
/-
  The forward up product of the first feed-forward layer, `h · w_upᵀ`, and the SwiGLU `g · logistic g · u` over the gate
  product `g` that is given in f32; the gate is also passed on in bf16. Each grid point computes a 2048×512 block of all
  three, in eight slabs of 256 rows.
-/
module

public import proofs.«01_k».proof.Defs
public import proofs.«01_k».proof.Proof.Common
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Proof.FfnUpAct

open Idealize.ShloMosaic Idealize.ShloMosaic.TcCoe Idealize.SL.Sem
open Cert.Kernel9Ideal Cert.Kernel9Ideal.Gen

/-- The product `h · wᵀ`. -/
def product (h : S8192x2048.Idx → EReal) (w : S5632x2048.Idx → EReal) : S8192x5632.Idx → EReal :=
  fun i => ∑ k : Fin 2048, h (ix2 (i 0) k) * w (ix2 (i 1) k)

/-- The SwiGLU of a gate and the up product. -/
def act (h : S8192x2048.Idx → EReal) (wu : S5632x2048.Idx → EReal) (g : S8192x5632.Idx → EReal) : S8192x5632.Idx → EReal :=
  fun i => g i * logistic (g i) * product h wu i

/-- Which block each window holds at grid point `t`. -/
theorem index_at : ∀ t : Fin grid0.N, win0_0.index t = ![t.val % 4, 0] ∧ win0_1.index t = ![t.val / 4, 0]
    ∧ win0_2.index t = ![t.val % 4, t.val / 4] ∧ win0_3.index t = ![t.val % 4, t.val / 4]
    ∧ win0_4.index t = ![t.val % 4, t.val / 4] ∧ win0_5.index t = ![t.val % 4, t.val / 4] := by decide +kernel

variable (m : (ℓ : Loc nD τ sig) → Buf (Elt Ideal) ℓ)

/-- An entry of the gate's block is an entry of the gate, -/
theorem gate_entry (c : Dev nD) (t : Fin cfg0.N) (r : Fin 2048) (q : Fin 512) (i : S8192x5632.Idx)
    (h0 : (i 0 : ℕ) = t.val % 4 * 2048 + r) (h1 : (i 1 : ℕ) = t.val / 4 * 512 + q) :
    iblk m c 2 t (ix2 r q) = (m ((c : Thread nD τ).loc main_arg2)) i := by
  blk_ext [iblk, V, index_at t]

/-- and row `r` of the block of `h` against row `q` of the block of the weights is one entry of the product. -/
theorem up_entry (c : Dev nD) (t : Fin cfg0.N) (r : Fin 2048) (q : Fin 512) (i : S8192x5632.Idx)
    (h0 : (i 0 : ℕ) = t.val % 4 * 2048 + r) (h1 : (i 1 : ℕ) = t.val / 4 * 512 + q) :
    rowDot (n := 2048) (fun k => iblk m c 0 t (ix2 r k)) (fun k => iblk m c 1 t (ix2 q k)) = product (m ((c : Thread nD τ).loc main_arg0)) (m ((c : Thread nD τ).loc main_arg1)) i := by
  refine Finset.sum_congr (M := EReal) rfl fun k _ => ?_
  congr 1 <;> blk_ext [iblk, V, index_at t]

/-- The kernel's SwiGLU at one index, from the gate and the product there. -/
theorem act_of (h : S8192x2048.Idx → EReal) (wu : S5632x2048.Idx → EReal) (g : S8192x5632.Idx → EReal) (i : S8192x5632.Idx)
    {a b : EReal} (ha : a = g i) (hb : b = product h wu i) :
    a * (Ideal.ofBits .f32 0x3F000000#32 + Ideal.ofBits .f32 0x3F000000#32 * Ideal.tanh (Ideal.ofBits .f32 0x3F000000#32 * a)) * b
      = act h wu g i := by
  subst ha hb
  rw [half_bits, kernel_logistic]
  rfl

/-- The gate passed on, -/
theorem final_gate (c : Dev nD) : (dats m 0 c).arrAt 3 cfg0.N = (m ((c : Thread nD τ).loc main_arg2)) := by
  refine (dats m 0 c).arrAt_eq_of_covers 3 _ (by decide +kernel) fun t hf y => ?_
  blk_simp
  rw [after0_3]
  unfold_out out0_3
  canon_tiles x h
  all_goals
    open_payloads
    pointwise
    simp only [← h0]
    exact gate_entry m c t ⟨(y 0).val, (y 0).isLt⟩ (x 1) (((View.whole main_v0_0).slice (win0_3.rect t)).emb y)
      (by blk_simp [index_at t]) (by blk_simp [index_at t]; omega)

/-- the up product's array after the run, -/
theorem final_up (c : Dev nD) : (dats m 0 c).arrAt 4 cfg0.N = product (m ((c : Thread nD τ).loc main_arg0)) (m ((c : Thread nD τ).loc main_arg1)) := by
  refine (dats m 0 c).arrAt_eq_of_covers 4 _ (by decide +kernel) fun t hf y => ?_
  blk_simp
  rw [after0_4]
  unfold_out out0_4
  canon_tiles x h
  all_goals
    open_payloads
    pointwise
    simp only [← h0]
    exact up_entry m c t ⟨(y 0).val, (y 0).isLt⟩ (x 1) (((View.whole main_v0_1).slice (win0_4.rect t)).emb y)
      (by blk_simp [index_at t]) (by blk_simp [index_at t]; omega)

/-- and the SwiGLU's. -/
theorem final_act (c : Dev nD) : (dats m 0 c).arrAt 5 cfg0.N = act (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold_out out0_5
  canon_tiles x h
  all_goals
    open_payloads
    pointwise
    simp only [← h0]
    exact act_of _ _ _ _ (gate_entry m c t ⟨(y 0).val, (y 0).isLt⟩ (x 1) (((View.whole main_v0_2).slice (win0_5.rect t)).emb y)
      (by blk_simp [index_at t]) (by blk_simp [index_at t]; omega))
      (up_entry m c t ⟨(y 0).val, (y 0).isLt⟩ (x 1) (((View.whole main_v0_2).slice (win0_5.rect t)).emb y)
      (by blk_simp [index_at t]) (by blk_simp [index_at t]; omega))

/-- The kernel and the reference leave the same arrays. -/
theorem algebraic : Cert.algebraic_Kernel9Ideal_Reference9Ideal := fun m ρ m' ρ' _ hag =>
  ⟨fun c => (m ((c : Thread nD τ).loc main_arg2)), fun c => product (m ((c : Thread nD τ).loc main_arg0)) (m ((c : Thread nD τ).loc main_arg1)), fun c => act (m ((c : Thread nD τ).loc main_arg0)) (m ((c : Thread nD τ).loc main_arg1)) (m ((c : Thread nD τ).loc main_arg2)),
   (θ_run defs _ _).mono (fun _ h c => ⟨(h c).1.trans (final_gate m c), (h c).2.1.trans (final_up m c), (h c).2.2.1.trans (final_act m c), (h c).2.2.2⟩) (Value.run_blocks m ρ),
   (θ_run Cert.Reference9Ideal.defs _ _).mono (fun _ h c => ⟨(h c).1.trans (by
        rw [(hag c).2.2]
        funext j
        pointwise),
      (h c).2.1.trans (by
        rw [(hag c).1, (hag c).2.1]
        funext j
        pointwise [product]),
      (h c).2.2.1.trans (by
        rw [(hag c).1, (hag c).2.1, (hag c).2.2]
        funext j
        pointwise [act, product, logistic, Ideal.ofBits_one_f32]),
      (h c).2.2.2⟩)
    (Cert.Reference9Ideal.Value.run m' ρ')⟩

end Cert.Proof.FfnUpAct

end
-- ==== Proof.WInFwd.lean ====
/-
  The projection's forward product, `hm · w_in` (8192×2048 by 2048×10752), computed by the kernel block by block: grid
  point (j, i) multiplies rows 1024·i … of the left array by columns 1536·j … of the right one over the whole contracted
  axis and writes the block once. So the array it leaves is the whole product, and the reference's.
-/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Proof.WInFwd

open Idealize.ShloMosaic Idealize.ShloMosaic.TcCoe Idealize.SL.Sem
open Cert.Kernel10Ideal Cert.Kernel10Ideal.Gen

/-- The whole product. -/
def product (x : S8192x2048.Idx → EReal) (w : S2048x10752.Idx → EReal) : S8192x10752.Idx → EReal :=
  fun i => ∑ k : Fin 2048, x (ix2 (i 0) k) * w (ix2 k (i 1))

/-- Which block each window holds at grid point `t`. -/
theorem index_at : ∀ t : Fin grid0.N, win0_0.index t = ![(grid0.coords t 1).val, 0]
    ∧ win0_1.index t = ![0, (grid0.coords t 0).val]
    ∧ win0_2.index t = ![(grid0.coords t 1).val, (grid0.coords t 0).val] := by decide +kernel

variable (m : (ℓ : Loc nD τ sig) → Buf (Elt Ideal) ℓ)

/-- The result array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, product]
  refine Finset.sum_congr (M := EReal) rfl fun k _ => ?_
  congr 1 <;> blk_ext [iblk, V, index_at t]

/-- The kernel and the reference leave the same array. -/
theorem algebraic : Cert.algebraic_Kernel10Ideal_Reference10Ideal := fun m ρ m' ρ' _ hag =>
  ⟨fun c => product (m ((c : Thread nD τ).loc main_arg0)) (m ((c : Thread nD τ).loc main_arg1)),
   (θ_run defs _ _).mono (fun _ h c => ⟨(h c).1.trans (final m c), (h c).2⟩) (Value.run_blocks m ρ),
   (θ_run Cert.Reference10Ideal.defs _ _).mono (fun _ h c => ⟨(h c).1.trans (by
      rw [(hag c).1, (hag c).2]
      funext j
      pointwise [product]), (h c).2⟩)
    (Cert.Reference10Ideal.Value.run m' ρ')⟩

end Cert.Proof.WInFwd

end
-- ==== Proof.WInDw.lean ====
/-
  The gradient of the projection's weights, `xnᵀ · dproj`, with `xn` given transposed (2048×8192 by 8192×10752,
  contracted over the 8192 tokens): for each block of 768 columns the kernel takes four steps of 2048 tokens, adding each
  step's product into a scratch that it zeroes at the first step and writes out at the last.
-/
module

public import proofs.«01_k».proof.Defs
public import proofs.«01_k».proof.Proof.Common
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WInDw

open Idealize.ShloMosaic Idealize.ShloMosaic.TcCoe Idealize.SL.Sem
open Cert.Kernel11Ideal Cert.Kernel11Ideal.Gen

/-- The whole product. -/
def product (x : S2048x8192.Idx → EReal) (d : S8192x10752.Idx → EReal) : S2048x10752.Idx → EReal :=
  fun i => ∑ k : Fin 8192, x (ix2 (i 0) k) * d (ix2 k (i 1))

/-- Which block each window holds at grid point `t`. -/
theorem index_at : ∀ t : Fin grid0.N, win0_0.index t = ![0, t.val % 4]
    ∧ win0_1.index t = ![t.val % 4, t.val / 4] ∧ win0_2.index t = ![0, t.val / 4] := by decide +kernel

variable (m : (ℓ : Loc nD τ sig) → Buf (Elt Ideal) ℓ)

/-- What point `t` adds into the scratch: the product of its two blocks. -/
def term (c : Dev nD) (t : Fin cfg0.N) (j : S2048x768.Idx) : EReal :=
  rowDot (n := 2048) (fun k => iblk m c 0 t (ix2 (j 0) k)) fun k => iblk m c 1 t (ix2 k (j 1))

/-- A run's first point leaves its own product in the scratch, -/
theorem scratch_first (c : Dev nD) (t : Fin cfg0.N) (h0 : t.val % 4 = 0) (j : S2048x768.Idx) :
    (outsAt0 m c t.val t.isLt).2 j = 0 + term m c t j := by
  rw [outsAt0_A m c t h0 (by omega)]
  frame_out
  pointwise [k0_pay1, k0_pay2, term]

/-- every later one adds its own to what the point before left. -/
theorem scratch_next (c : Dev nD) (t : Fin cfg0.N) (h0 : ¬t.val % 4 = 0) (j : S2048x768.Idx) :
    (outsAt0 m c t.val t.isLt).2 j
      = (outsAt0 m c (t.val - 1) (Nat.lt_of_le_of_lt (Nat.sub_le _ _) t.isLt)).2 j + term m c t j := by
  by_cases h1 : t.val % 4 = 3
  · rw [outsAt0_C m c t h0 h1]
    frame_out
    simp only [read_unread_whole]
    pointwise [k0_pay2, term]
  · rw [outsAt0_B m c t h0 h1]
    frame_out
    simp only [read_unread_whole]
    pointwise [k0_pay2, term]

/-- At a run's last point the output block is the scratch. -/
theorem out_last (c : Dev nD) (t : Fin cfg0.N) (h1 : t.val % 4 = 3) (j : S2048x768.Idx) :
    (outsAt0 m c t.val t.isLt).1 j = (outsAt0 m c t.val t.isLt).2 j := by
  rw [outsAt0_C m c t (by omega) h1]
  frame_out
  pointwise [k0_pay3]

/-- The result array after the run is the whole product. -/
theorem final (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2, out_last m c t hm, Pipeline.eq_sum_fin_of_reset_step_apply_of_flush (fun n h => (outsAt0 m c n h).2) 4
    (fun _ => (0 : EReal)) (term m c) (scratch_first m c) (scratch_next m c) t hm, zero_add]
  refine Fin.sum_mul_add_congr fun s k hl => ?_
  have hs : (4 * (t.val / 4) + s.val) / 4 = t.val / 4 := by omega
  have hs' : (4 * (t.val / 4) + s.val) % 4 = s.val := by omega
  congr 1 <;> blk_ext [iblk, V, index_at ⟨4 * (t.val / 4) + s.val, _⟩, index_at t, hs, hs']

/-- The kernel and the reference leave the same array. -/
theorem algebraic : Cert.algebraic_Kernel11Ideal_Reference11Ideal := fun m ρ m' ρ' _ hag =>
  ⟨fun c => product (m ((c : Thread nD τ).loc main_arg0)) (m ((c : Thread nD τ).loc main_arg1)),
   (θ_run defs _ _).mono (fun _ h c => ⟨(h c).1.trans (final m c), (h c).2⟩) (Value.run_blocks m ρ),
   (θ_run Cert.Reference11Ideal.defs _ _).mono (fun _ h c => ⟨(h c).1.trans (by
        rw [(hag c).1, (hag c).2]
        funext j
        pointwise [product]
        exact Finset.sum_congr (M := EReal) rfl fun k _ => mul_comm (G := EReal) _ _),
      (h c).2⟩)
    (Cert.Reference11Ideal.Value.run m' ρ')⟩

end Cert.Proof.WInDw

end
-- ==== Proof.WInBwd.lean ====
/-
  The gradient of the projection's input, `dproj · w_inᵀ` (8192×10752 by 2048×10752, contracted over the 10752 columns):
  for each block of 1024 rows the kernel takes seven steps of 1536 columns, adding each step's product into a scratch
  that it zeroes at the first step and copies out at the last. Seven partial sums of 1536 terms are the whole sum.
-/
module

public import proofs.«01_k».proof.Defs
public import proofs.«01_k».proof.Proof.Common
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WInBwd

open Idealize.ShloMosaic Idealize.ShloMosaic.TcCoe Idealize.SL.Sem
open Cert.Kernel12Ideal Cert.Kernel12Ideal.Gen

/-- The whole product. -/
def product (x : S8192x10752.Idx → EReal) (w : S2048x10752.Idx → EReal) : S8192x2048.Idx → EReal :=
  fun i => ∑ k : Fin 10752, x (ix2 (i 0) k) * w (ix2 (i 1) k)

/-- Which block each window holds at grid point `t`. -/
theorem index_at : ∀ t : Fin grid0.N, win0_0.index t = ![t.val / 7, t.val % 7]
    ∧ win0_1.index t = ![0, t.val % 7] ∧ win0_2.index t = ![t.val / 7, 0] := by decide +kernel

variable (m : (ℓ : Loc nD τ sig) → Buf (Elt Ideal) ℓ)

/-- What point `t` adds into the scratch: the product of its two blocks. -/
def term (c : Dev nD) (t : Fin cfg0.N) (j : S1024x2048.Idx) : EReal :=
  rowDot (n := 1536) (fun k => iblk m c 0 t (ix2 (j 0) k)) fun k => iblk m c 1 t (ix2 (j 1) k)

/-- A run's first point leaves its own product in the scratch, -/
theorem scratch_first (c : Dev nD) (t : Fin cfg0.N) (h0 : t.val % 7 = 0) (j : S1024x2048.Idx) :
    (outsAt0 m c t.val t.isLt).2 j = 0 + term m c t j := by
  rw [outsAt0_A m c t h0 (by omega)]
  frame_out
  pointwise [k0_pay1, k0_pay2, term]

/-- every later one adds its own to what the point before left. -/
theorem scratch_next (c : Dev nD) (t : Fin cfg0.N) (h0 : ¬t.val % 7 = 0) (j : S1024x2048.Idx) :
    (outsAt0 m c t.val t.isLt).2 j
      = (outsAt0 m c (t.val - 1) (Nat.lt_of_le_of_lt (Nat.sub_le _ _) t.isLt)).2 j + term m c t j := by
  by_cases h1 : t.val % 7 = 6
  · rw [outsAt0_C m c t h0 h1]
    frame_out
    simp only [read_unread_whole]
    pointwise [k0_pay2, term]
  · rw [outsAt0_B m c t h0 h1]
    frame_out
    simp only [read_unread_whole]
    pointwise [k0_pay2, term]

/-- At a run's last point the output block is the scratch. -/
theorem out_last (c : Dev nD) (t : Fin cfg0.N) (h1 : t.val % 7 = 6) :
    (outsAt0 m c t.val t.isLt).1 = (outsAt0 m c t.val t.isLt).2 := by
  rw [outsAt0_C m c t (by omega) h1]
  frame_out

/-- The result array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have hm : t.val % 7 = 6 := (flush0_2 t).mp hf
  blk_simp
  rw [after0_2, out_last m c t hm, Pipeline.eq_sum_fin_of_reset_step_apply_of_flush (fun n h => (outsAt0 m c n h).2) 7
    (fun _ => (0 : EReal)) (term m c) (scratch_first m c) (scratch_next m c) t hm, zero_add]
  refine Fin.sum_mul_add_congr fun s k hl => ?_
  have hs : (7 * (t.val / 7) + s.val) / 7 = t.val / 7 := by omega
  have hs' : (7 * (t.val / 7) + s.val) % 7 = s.val := by omega
  congr 1 <;> blk_ext [iblk, V, index_at ⟨7 * (t.val / 7) + s.val, _⟩, index_at t, hs, hs']

/-- The kernel and the reference leave the same array. -/
theorem algebraic : Cert.algebraic_Kernel12Ideal_Reference12Ideal := fun m ρ m' ρ' _ hag =>
  ⟨fun c => product (m ((c : Thread nD τ).loc main_arg0)) (m ((c : Thread nD τ).loc main_arg1)),
   (θ_run defs _ _).mono (fun _ h c => ⟨(h c).1.trans (final m c), (h c).2⟩) (Value.run_blocks m ρ),
   (θ_run Cert.Reference12Ideal.defs _ _).mono (fun _ h c => ⟨(h c).1.trans (by
      rw [(hag c).1, (hag c).2]
      funext j
      pointwise [product]), (h c).2⟩)
    (Cert.Reference12Ideal.Value.run m' ρ')⟩

end Cert.Proof.WInBwd

end
-- ==== Proof.WOutFwd.lean ====
/-
  The output projection of the mixers, `x1 + merged · w_out` (8192×2048 by 2048×2048 with the residual): grid point (j, i)
  multiplies 512 rows by 1024 columns over the whole contracted axis, adds the residual's block and writes once.
-/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

namespace Cert.Proof.WOutFwd

open Idealize.ShloMosaic Idealize.ShloMosaic.TcCoe Idealize.SL.Sem
open Cert.Kernel13Ideal Cert.Kernel13Ideal.Gen

/-- The whole product, added to the residual. -/
def product (x : S8192x2048.Idx → EReal) (w : S2048x2048.Idx → EReal) (r : S8192x2048.Idx → EReal) : S8192x2048.Idx → EReal :=
  fun i => r i + ∑ k : Fin 2048, x (ix2 (i 0) k) * w (ix2 k (i 1))

/-- Which block each window holds at grid point `t`. -/
theorem index_at : ∀ t : Fin grid0.N, win0_0.index t = ![(grid0.coords t 1).val, 0]
    ∧ win0_1.index t = ![0, (grid0.coords t 0).val]
    ∧ win0_2.index t = ![(grid0.coords t 1).val, (grid0.coords t 0).val]
    ∧ win0_3.index t = ![(grid0.coords t 1).val, (grid0.coords t 0).val] := by decide +kernel

variable (m : (ℓ : Loc nD τ sig) → Buf (Elt Ideal) ℓ)

/-- The result array after the run is the residual plus the whole product. -/
theorem final (c : Dev nD) : (dats m 0 c).arrAt 3 cfg0.N
    = product (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, product]
  congr 1
  refine Finset.sum_congr (M := EReal) rfl fun k _ => ?_
  congr 1 <;> blk_ext [iblk, V, index_at t]

/-- The kernel and the reference leave the same array. -/
theorem algebraic : Cert.algebraic_Kernel13Ideal_Reference13Ideal := fun m ρ m' ρ' _ hag =>
  ⟨fun c => product (m ((c : Thread nD τ).loc main_arg0)) (m ((c : Thread nD τ).loc main_arg1)) (m ((c : Thread nD τ).loc main_arg2)),
   (θ_run defs _ _).mono (fun _ h c => ⟨(h c).1.trans (final m c), (h c).2⟩) (Value.run_blocks m ρ),
   (θ_run Cert.Reference13Ideal.defs _ _).mono (fun _ h c => ⟨(h c).1.trans (by
      rw [(hag c).1, (hag c).2.1, (hag c).2.2]
      funext j
      pointwise [product]), (h c).2⟩)
    (Cert.Reference13Ideal.Value.run m' ρ')⟩

end Cert.Proof.WOutFwd

end
-- ==== Proof.WOutBwd.lean ====
/-
  The gradient of the output projection's input, `dx2 · w_outᵀ` (8192×2048 by 2048×2048): each grid point takes 512 rows and
  1024 columns over the whole contracted axis, adding its product into a scratch just zeroed and copying that out.
-/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WOutBwd

open Idealize.ShloMosaic Idealize.ShloMosaic.TcCoe Idealize.SL.Sem
open Cert.Kernel14Ideal Cert.Kernel14Ideal.Gen

/-- The whole product. -/
def product (x : S8192x2048.Idx → EReal) (w : S2048x2048.Idx → EReal) : S8192x2048.Idx → EReal :=
  fun i => ∑ k : Fin 2048, x (ix2 (i 0) k) * w (ix2 (i 1) k)

/-- Which block each window holds at grid point `t`. -/
theorem index_at : ∀ t : Fin grid0.N, win0_0.index t = ![t.val % 16, 0]
    ∧ win0_1.index t = ![t.val / 16, 0] ∧ win0_2.index t = ![t.val % 16, t.val / 16] := by decide +kernel

variable (m : (ℓ : Loc nD τ sig) → Buf (Elt Ideal) ℓ)

/-- The result array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2, product]
  refine Finset.sum_congr (M := EReal) rfl fun k _ => ?_
  congr 1 <;> blk_ext [iblk, V, index_at t]

/-- The kernel and the reference leave the same array. -/
theorem algebraic : Cert.algebraic_Kernel14Ideal_Reference14Ideal := fun m ρ m' ρ' _ hag =>
  ⟨fun c => product (m ((c : Thread nD τ).loc main_arg0)) (m ((c : Thread nD τ).loc main_arg1)),
   (θ_run defs _ _).mono (fun _ h c => ⟨(h c).1.trans (final m c), (h c).2⟩) (Value.run_blocks m ρ),
   (θ_run Cert.Reference14Ideal.defs _ _).mono (fun _ h c => ⟨(h c).1.trans (by
      rw [(hag c).1, (hag c).2]
      funext j
      pointwise [product]), (h c).2⟩)
    (Cert.Reference14Ideal.Value.run m' ρ')⟩

end Cert.Proof.WOutBwd

end
-- ==== Proof.WOutDw.lean ====
/-
  The gradient of the output projection's weights, `mergedᵀ · dx2` (both 8192×2048, contracted over the 8192 tokens): for
  each half of the columns the kernel takes four steps of 2048 tokens, adding each step's product into a scratch that it
  zeroes at the first step and writes out at the last.
-/
module

public import proofs.«01_k».proof.Defs
public import proofs.«01_k».proof.Proof.Common
public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WOutDw

open Idealize.ShloMosaic Idealize.ShloMosaic.TcCoe Idealize.SL.Sem
open Cert.Kernel15Ideal Cert.Kernel15Ideal.Gen

/-- The whole product. -/
def product (x : S8192x2048.Idx → EReal) (d : S8192x2048.Idx → EReal) : S2048x2048.Idx → EReal :=
  fun i => ∑ k : Fin 8192, x (ix2 k (i 0)) * d (ix2 k (i 1))

/-- Which block each window holds at grid point `t`. -/
theorem index_at : ∀ t : Fin grid0.N, win0_0.index t = ![t.val % 4, 0]
    ∧ win0_1.index t = ![t.val % 4, t.val / 4] ∧ win0_2.index t = ![0, t.val / 4] := by decide +kernel

variable (m : (ℓ : Loc nD τ sig) → Buf (Elt Ideal) ℓ)

/-- What point `t` adds into the scratch: the product of its two blocks. -/
def term (c : Dev nD) (t : Fin cfg0.N) (j : S2048x1024.Idx) : EReal :=
  rowDot (n := 2048) (fun k => iblk m c 0 t (ix2 k (j 0))) fun k => iblk m c 1 t (ix2 k (j 1))

/-- A run's first point leaves its own product in the scratch, -/
theorem scratch_first (c : Dev nD) (t : Fin cfg0.N) (h0 : t.val % 4 = 0) (j : S2048x1024.Idx) :
    (outsAt0 m c t.val t.isLt).2 j = 0 + term m c t j := by
  rw [outsAt0_A m c t h0 (by omega)]
  frame_out
  pointwise [k0_pay1, k0_pay2, term]

/-- every later one adds its own to what the point before left. -/
theorem scratch_next (c : Dev nD) (t : Fin cfg0.N) (h0 : ¬t.val % 4 = 0) (j : S2048x1024.Idx) :
    (outsAt0 m c t.val t.isLt).2 j
      = (outsAt0 m c (t.val - 1) (Nat.lt_of_le_of_lt (Nat.sub_le _ _) t.isLt)).2 j + term m c t j := by
  by_cases h1 : t.val % 4 = 3
  · rw [outsAt0_C m c t h0 h1]
    frame_out
    simp only [read_unread_whole]
    pointwise [k0_pay2, term]
  · rw [outsAt0_B m c t h0 h1]
    frame_out
    simp only [read_unread_whole]
    pointwise [k0_pay2, term]

/-- At a run's last point the output block is the scratch. -/
theorem out_last (c : Dev nD) (t : Fin cfg0.N) (h1 : t.val % 4 = 3) (j : S2048x1024.Idx) :
    (outsAt0 m c t.val t.isLt).1 j = (outsAt0 m c t.val t.isLt).2 j := by
  rw [outsAt0_C m c t (by omega) h1]
  frame_out
  pointwise [k0_pay3]

/-- The result array after the run is the whole product. -/
theorem final (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2, out_last m c t hm, Pipeline.eq_sum_fin_of_reset_step_apply_of_flush (fun n h => (outsAt0 m c n h).2) 4
    (fun _ => (0 : EReal)) (term m c) (scratch_first m c) (scratch_next m c) t hm, zero_add]
  refine Fin.sum_mul_add_congr fun s k hl => ?_
  have hs : (4 * (t.val / 4) + s.val) / 4 = t.val / 4 := by omega
  have hs' : (4 * (t.val / 4) + s.val) % 4 = s.val := by omega
  congr 1 <;> blk_ext [iblk, V, index_at ⟨4 * (t.val / 4) + s.val, _⟩, index_at t, hs, hs']

/-- The kernel and the reference leave the same array. -/
theorem algebraic : Cert.algebraic_Kernel15Ideal_Reference15Ideal := fun m ρ m' ρ' _ hag =>
  ⟨fun c => product (m ((c : Thread nD τ).loc main_arg0)) (m ((c : Thread nD τ).loc main_arg1)),
   (θ_run defs _ _).mono (fun _ h c => ⟨(h c).1.trans (final m c), (h c).2⟩) (Value.run_blocks m ρ),
   (θ_run Cert.Reference15Ideal.defs _ _).mono (fun _ h c => ⟨(h c).1.trans (by
        rw [(hag c).1, (hag c).2]
        funext j
        pointwise [product]
        exact Finset.sum_congr (M := EReal) rfl fun k _ => mul_comm (G := EReal) _ _),
      (h c).2⟩)
    (Cert.Reference15Ideal.Value.run m' ρ')⟩

end Cert.Proof.WOutDw

end
-- ==== Proof.ProjBwd.lean ====
/-
  The gradient of a branch projection's input, `dp · w_projᵀ` (8192×2048 by 1024×2048): each grid point takes 512 rows and
  all 1024 columns over the whole contracted axis, adding its product into a scratch just zeroed and writing that out.
-/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.ProjBwd

open Idealize.ShloMosaic Idealize.ShloMosaic.TcCoe Idealize.SL.Sem
open Cert.Kernel16Ideal Cert.Kernel16Ideal.Gen

/-- The whole product. -/
def product (x : S8192x2048.Idx → EReal) (w : S1024x2048.Idx → EReal) : S8192x1024.Idx → EReal :=
  fun i => ∑ k : Fin 2048, x (ix2 (i 0) k) * w (ix2 (i 1) k)

/-- Which block each window holds at grid point `t`. -/
theorem index_at : ∀ t : Fin grid0.N, win0_0.index t = ![t.val % 16, 0]
    ∧ win0_1.index t = ![t.val / 16, 0] ∧ win0_2.index t = ![t.val % 16, t.val / 16] := by decide +kernel

variable (m : (ℓ : Loc nD τ sig) → Buf (Elt Ideal) ℓ)

/-- The result array after the run is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2, k0_pay3, product]
  refine Finset.sum_congr (M := EReal) rfl fun k _ => ?_
  congr 1 <;> blk_ext [iblk, V, index_at t]

/-- The kernel and the reference leave the same array. -/
theorem algebraic : Cert.algebraic_Kernel16Ideal_Reference16Ideal := fun m ρ m' ρ' _ hag =>
  ⟨fun c => product (m ((c : Thread nD τ).loc main_arg0)) (m ((c : Thread nD τ).loc main_arg1)),
   (θ_run defs _ _).mono (fun _ h c => ⟨(h c).1.trans (final m c), (h c).2⟩) (Value.run_blocks m ρ),
   (θ_run Cert.Reference16Ideal.defs _ _).mono (fun _ h c => ⟨(h c).1.trans (by
      rw [(hag c).1, (hag c).2]
      funext j
      pointwise [product]), (h c).2⟩)
    (Cert.Reference16Ideal.Value.run m' ρ')⟩

end Cert.Proof.ProjBwd

end
-- ==== Proof.ProjDw.lean ====
/-
  The gradient of a branch projection's weights, `yᵀ · dp` (8192×1024 and 8192×2048, contracted over the 8192 tokens): for
  each half of the columns the kernel takes four steps of 2048 tokens, adding each step's product into a scratch that it
  zeroes at the first step and writes out at the last.
-/
module

public import proofs.«01_k».proof.Defs
public import proofs.«01_k».proof.Proof.Common
public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.ProjDw

open Idealize.ShloMosaic Idealize.ShloMosaic.TcCoe Idealize.SL.Sem
open Cert.Kernel17Ideal Cert.Kernel17Ideal.Gen

/-- The whole product. -/
def product (x : S8192x1024.Idx → EReal) (d : S8192x2048.Idx → EReal) : S1024x2048.Idx → EReal :=
  fun i => ∑ k : Fin 8192, x (ix2 k (i 0)) * d (ix2 k (i 1))

/-- Which block each window holds at grid point `t`. -/
theorem index_at : ∀ t : Fin grid0.N, win0_0.index t = ![t.val % 4, 0]
    ∧ win0_1.index t = ![t.val % 4, t.val / 4] ∧ win0_2.index t = ![0, t.val / 4] := by decide +kernel

variable (m : (ℓ : Loc nD τ sig) → Buf (Elt Ideal) ℓ)

/-- What point `t` adds into the scratch: the product of its two blocks. -/
def term (c : Dev nD) (t : Fin cfg0.N) (j : S1024x1024.Idx) : EReal :=
  rowDot (n := 2048) (fun k => iblk m c 0 t (ix2 k (j 0))) fun k => iblk m c 1 t (ix2 k (j 1))

/-- A run's first point leaves its own product in the scratch, -/
theorem scratch_first (c : Dev nD) (t : Fin cfg0.N) (h0 : t.val % 4 = 0) (j : S1024x1024.Idx) :
    (outsAt0 m c t.val t.isLt).2 j = 0 + term m c t j := by
  rw [outsAt0_A m c t h0 (by omega)]
  frame_out
  pointwise [k0_pay1, k0_pay2, term]

/-- every later one adds its own to what the point before left. -/
theorem scratch_next (c : Dev nD) (t : Fin cfg0.N) (h0 : ¬t.val % 4 = 0) (j : S1024x1024.Idx) :
    (outsAt0 m c t.val t.isLt).2 j
      = (outsAt0 m c (t.val - 1) (Nat.lt_of_le_of_lt (Nat.sub_le _ _) t.isLt)).2 j + term m c t j := by
  by_cases h1 : t.val % 4 = 3
  · rw [outsAt0_C m c t h0 h1]
    frame_out
    simp only [read_unread_whole]
    pointwise [k0_pay2, term]
  · rw [outsAt0_B m c t h0 h1]
    frame_out
    simp only [read_unread_whole]
    pointwise [k0_pay2, term]

/-- At a run's last point the output block is the scratch. -/
theorem out_last (c : Dev nD) (t : Fin cfg0.N) (h1 : t.val % 4 = 3) (j : S1024x1024.Idx) :
    (outsAt0 m c t.val t.isLt).1 j = (outsAt0 m c t.val t.isLt).2 j := by
  rw [outsAt0_C m c t (by omega) h1]
  frame_out
  pointwise [k0_pay3]

/-- The result array after the run is the whole product. -/
theorem final (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2, out_last m c t hm, Pipeline.eq_sum_fin_of_reset_step_apply_of_flush (fun n h => (outsAt0 m c n h).2) 4
    (fun _ => (0 : EReal)) (term m c) (scratch_first m c) (scratch_next m c) t hm, zero_add]
  refine Fin.sum_mul_add_congr fun s k hl => ?_
  have hs : (4 * (t.val / 4) + s.val) / 4 = t.val / 4 := by omega
  have hs' : (4 * (t.val / 4) + s.val) % 4 = s.val := by omega
  congr 1 <;> blk_ext [iblk, V, index_at ⟨4 * (t.val / 4) + s.val, _⟩, index_at t, hs, hs']

/-- The kernel and the reference leave the same array. -/
theorem algebraic : Cert.algebraic_Kernel17Ideal_Reference17Ideal := fun m ρ m' ρ' _ hag =>
  ⟨fun c => product (m ((c : Thread nD τ).loc main_arg0)) (m ((c : Thread nD τ).loc main_arg1)),
   (θ_run defs _ _).mono (fun _ h c => ⟨(h c).1.trans (final m c), (h c).2⟩) (Value.run_blocks m ρ),
   (θ_run Cert.Reference17Ideal.defs _ _).mono (fun _ h c => ⟨(h c).1.trans (by
        rw [(hag c).1, (hag c).2]
        funext j
        pointwise [product]
        exact Finset.sum_congr (M := EReal) rfl fun k _ => mul_comm (G := EReal) _ _),
      (h c).2⟩)
    (Cert.Reference17Ideal.Value.run m' ρ')⟩

end Cert.Proof.ProjDw

end
-- ==== Proof.ProjMerge.lean ====
/-
  The output projections of the two attention branches and the gates that merge them: both products, and the sum of the two
  with each multiplied by the logistic function of its columns of the projection plus a bias row. Each grid point computes 256
  rows of all three.
-/
module

public import proofs.«01_k».proof.Defs
public import proofs.«01_k».proof.Proof.Common
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise

@[expose] public section

set_option maxRecDepth 16384

noncomputable section

namespace Cert.Proof.ProjMerge

open Idealize.ShloMosaic Idealize.ShloMosaic.TcCoe Idealize.SL.Sem
open Cert.Kernel18Ideal Cert.Kernel18Ideal.Gen

/-- A branch's output projection. -/
def product (y : S8192x1024.Idx → EReal) (w : S1024x2048.Idx → EReal) : S8192x2048.Idx → EReal :=
  fun i => ∑ k : Fin 1024, y (ix2 (i 0) k) * w (ix2 k (i 1))

/-- The logistic function of 2048 columns of the projection, from column `o` on, plus the bias row. -/
def gate (o : ℕ) (ho : o + 2048 ≤ 10752) (p : S8192x10752.Idx → EReal) (b : S1x2048.Idx → EReal) : S8192x2048.Idx → EReal :=
  fun i => logistic (p (ix2 (i 0) ⟨o + (i 1 : ℕ), lt_of_lt_of_le (Nat.add_lt_add_left (i 1).isLt o) ho⟩) + b (ix2 0 (i 1)))

/-- The two branches, each through its gate, added. -/
def merged (s d u f : S8192x2048.Idx → EReal) : S8192x2048.Idx → EReal := fun i => s i * d i + u i * f i

/-- The logistic function as the kernel computes it, through the hyperbolic tangent, -/
def halfTanh (p b : EReal) : EReal := Ideal.ofBits .f32 0x3F000000#32 + Ideal.ofBits .f32 0x3F000000#32 * Ideal.tanh (Ideal.ofBits .f32 0x3F000000#32 * (p + b))

/-- and the merge at one index. -/
def mergeAt (s d u f : EReal) : EReal := s * d + u * f

/-- Which block each window holds at grid point `t`. -/
theorem index_at : ∀ t : Fin grid0.N, win0_0.index t = ![t.val, 0] ∧ win0_1.index t = ![t.val, 0] ∧ win0_2.index t = ![0, 0]
    ∧ win0_3.index t = ![0, 0] ∧ win0_4.index t = ![t.val, 3] ∧ win0_5.index t = ![t.val, 4] ∧ win0_6.index t = ![0, 0]
    ∧ win0_7.index t = ![0, 0] ∧ win0_8.index t = ![t.val, 0] ∧ win0_9.index t = ![t.val, 0] ∧ win0_10.index t = ![t.val, 0] := by
  decide +kernel

variable (m : (ℓ : Loc nD τ sig) → Buf (Elt Ideal) ℓ)

/-- An entry of the first product of blocks is one of the whole product, -/
theorem entry_d (c : Dev nD) (t : Fin cfg0.N) (r : Fin 256) (q : Fin 2048) (i : S8192x2048.Idx)
    (h0 : (i 0 : ℕ) = t.val * 256 + r) (h1 : (i 1 : ℕ) = q) :
    rowDot (fun k : Fin 1024 => iblk m c 0 t (ix2 r k)) (fun k => iblk m c 2 t (ix2 k q)) = product (m ((c : Thread nD τ).loc main_arg0)) (m ((c : Thread nD τ).loc main_arg2)) i := by
  refine Finset.sum_congr (M := EReal) rfl fun k _ => ?_
  congr 1 <;> blk_ext [iblk, V, index_at t]

/-- and so is one of the second. -/
theorem entry_f (c : Dev nD) (t : Fin cfg0.N) (r : Fin 256) (q : Fin 2048) (i : S8192x2048.Idx)
    (h0 : (i 0 : ℕ) = t.val * 256 + r) (h1 : (i 1 : ℕ) = q) :
    rowDot (fun k : Fin 1024 => iblk m c 1 t (ix2 r k)) (fun k => iblk m c 3 t (ix2 k q)) = product (m ((c : Thread nD τ).loc main_arg1)) (m ((c : Thread nD τ).loc main_arg3)) i := by
  refine Finset.sum_congr (M := EReal) rfl fun k _ => ?_
  congr 1 <;> blk_ext [iblk, V, index_at t]

/-- The first gate as the kernel computes it is the logistic function of the columns from 6144 on, -/
theorem gate_d (c : Dev nD) (t : Fin cfg0.N) (r : Fin 256) (q : Fin 2048) (i : S8192x2048.Idx)
    (h0 : (i 0 : ℕ) = t.val * 256 + r) (h1 : (i 1 : ℕ) = q) :
    halfTanh (X0_4 m c t (ix2 r q)) (iblk m c 6 t (ix2 0 q)) = gate 6144 (by decide) (m ((c : Thread nD τ).loc main_arg4)) (m ((c : Thread nD τ).loc main_arg5)) i := by
  have hp : X0_4 m c t (ix2 r q) = (m ((c : Thread nD τ).loc main_arg4)) (ix2 (i 0) ⟨6144 + (i 1 : ℕ), lt_of_lt_of_le (Nat.add_lt_add_left (i 1).isLt 6144) (by decide)⟩) := by
    unfold X0_4 Pipeline.Window.fill
    rw [dif_pos (moved0_4 t _)]
    blk_ext [iblk, V, index_at t]
  have hb : iblk m c 6 t (ix2 0 q) = (m ((c : Thread nD τ).loc main_arg5)) (ix2 0 (i 1)) := by
    blk_ext [iblk, V, index_at t]
  unfold halfTanh
  rw [hp, hb, half_bits, kernel_logistic]
  rfl

/-- and the second that of those from 8192 on. -/
theorem gate_f (c : Dev nD) (t : Fin cfg0.N) (r : Fin 256) (q : Fin 2048) (i : S8192x2048.Idx)
    (h0 : (i 0 : ℕ) = t.val * 256 + r) (h1 : (i 1 : ℕ) = q) :
    halfTanh (X0_5 m c t (ix2 r q)) (iblk m c 7 t (ix2 0 q)) = gate 8192 (by decide) (m ((c : Thread nD τ).loc main_arg4)) (m ((c : Thread nD τ).loc main_arg6)) i := by
  have hp : X0_5 m c t (ix2 r q) = (m ((c : Thread nD τ).loc main_arg4)) (ix2 (i 0) ⟨8192 + (i 1 : ℕ), lt_of_lt_of_le (Nat.add_lt_add_left (i 1).isLt 8192) (by decide)⟩) := by
    unfold X0_5 Pipeline.Window.fill
    rw [dif_pos (moved0_5 t _)]
    blk_ext [iblk, V, index_at t]
  have hb : iblk m c 7 t (ix2 0 q) = (m ((c : Thread nD τ).loc main_arg6)) (ix2 0 (i 1)) := by
    blk_ext [iblk, V, index_at t]
  unfold halfTanh
  rw [hp, hb, half_bits, kernel_logistic]
  rfl

/-- Both through their gates are an entry of the merged array. -/
theorem merge_entry (c : Dev nD) (t : Fin cfg0.N) (r : Fin 256) (q : Fin 2048) (i : S8192x2048.Idx)
    (h0 : (i 0 : ℕ) = t.val * 256 + r) (h1 : (i 1 : ℕ) = q) :
    mergeAt (halfTanh (X0_4 m c t (ix2 r q)) (iblk m c 6 t (ix2 0 q))) (rowDot (fun k : Fin 1024 => iblk m c 0 t (ix2 r k)) (fun k => iblk m c 2 t (ix2 k q)))
        (halfTanh (X0_5 m c t (ix2 r q)) (iblk m c 7 t (ix2 0 q))) (rowDot (fun k : Fin 1024 => iblk m c 1 t (ix2 r k)) (fun k => iblk m c 3 t (ix2 k q)))
      = merged (gate 6144 (by decide) (m ((c : Thread nD τ).loc main_arg4)) (m ((c : Thread nD τ).loc main_arg5))) (product (m ((c : Thread nD τ).loc main_arg0)) (m ((c : Thread nD τ).loc main_arg2))) (gate 8192 (by decide) (m ((c : Thread nD τ).loc main_arg4)) (m ((c : Thread nD τ).loc main_arg6))) (product (m ((c : Thread nD τ).loc main_arg1)) (m ((c : Thread nD τ).loc main_arg3))) i := by
  rw [gate_d m c t r q i h0 h1, gate_f m c t r q i h0 h1, entry_d m c t r q i h0 h1, entry_f m c t r q i h0 h1]
  rfl

/-- What point `t` leaves of the first branch's projection, -/
theorem out_8 (c : Dev nD) (t : Fin cfg0.N) (y : S256x2048.Idx) :
    (outsAt0 m c t).1 y = rowDot (fun k : Fin 1024 => iblk m c 0 t (ix2 (y 0) k)) (fun k => iblk m c 2 t (ix2 k (y 1))) := by
  unfold outsAt0
  frame_out
  pointwise [k0_pay2]

/-- of the second's, -/
theorem out_9 (c : Dev nD) (t : Fin cfg0.N) (y : S256x2048.Idx) :
    (outsAt0 m c t).2.1 y = rowDot (fun k : Fin 1024 => iblk m c 1 t (ix2 (y 0) k)) (fun k => iblk m c 3 t (ix2 k (y 1))) := by
  unfold outsAt0
  frame_out
  pointwise [k0_pay3]

/-- and of the merged array. -/
theorem out_10 (c : Dev nD) (t : Fin cfg0.N) (y : S256x2048.Idx) :
    (outsAt0 m c t).2.2 y = mergeAt (halfTanh (X0_4 m c t (ix2 (y 0) (y 1))) (iblk m c 6 t (ix2 0 (y 1)))) (rowDot (fun k : Fin 1024 => iblk m c 0 t (ix2 (y 0) k)) (fun k => iblk m c 2 t (ix2 k (y 1))))
        (halfTanh (X0_5 m c t (ix2 (y 0) (y 1))) (iblk m c 7 t (ix2 0 (y 1)))) (rowDot (fun k : Fin 1024 => iblk m c 1 t (ix2 (y 0) k)) (fun k => iblk m c 3 t (ix2 k (y 1)))) := by
  unfold outsAt0
  frame_out
  pointwise [k0_pay1, k0_pay4, k0_pay5, k0_pay2, k0_pay3, mergeAt, halfTanh]

/-- The first branch's projection after the run, -/
theorem final_8 (c : Dev nD) : (dats m 0 c).arrAt 8 cfg0.N = product (m ((c : Thread nD τ).loc main_arg0)) (m ((c : Thread nD τ).loc main_arg2)) := by
  refine (dats m 0 c).arrAt_eq_of_covers 8 _ (by decide +kernel) fun t hf y => ?_
  blk_simp
  rw [after0_8, out_8]
  exact entry_d m c t (y 0) (y 1) (((View.whole main_v0_0).slice (win0_8.rect t)).emb y)
    (by blk_simp [index_at t]) (by blk_simp [index_at t])

/-- the second branch's -/
theorem final_9 (c : Dev nD) : (dats m 0 c).arrAt 9 cfg0.N = product (m ((c : Thread nD τ).loc main_arg1)) (m ((c : Thread nD τ).loc main_arg3)) := by
  refine (dats m 0 c).arrAt_eq_of_covers 9 _ (by decide +kernel) fun t hf y => ?_
  blk_simp
  rw [after0_9, out_9]
  exact entry_f m c t (y 0) (y 1) (((View.whole main_v0_1).slice (win0_9.rect t)).emb y)
    (by blk_simp [index_at t]) (by blk_simp [index_at t])

/-- and the merged array. -/
theorem final_10 (c : Dev nD) : (dats m 0 c).arrAt 10 cfg0.N
    = merged (gate 6144 (by decide) (m ((c : Thread nD τ).loc main_arg4)) (m ((c : Thread nD τ).loc main_arg5))) (product (m ((c : Thread nD τ).loc main_arg0)) (m ((c : Thread nD τ).loc main_arg2))) (gate 8192 (by decide) (m ((c : Thread nD τ).loc main_arg4)) (m ((c : Thread nD τ).loc main_arg6))) (product (m ((c : Thread nD τ).loc main_arg1)) (m ((c : Thread nD τ).loc main_arg3))) := by
  refine (dats m 0 c).arrAt_eq_of_covers 10 _ (by decide +kernel) fun t hf y => ?_
  blk_simp
  rw [after0_10, out_10]
  exact merge_entry m c t (y 0) (y 1) (((View.whole main_v0_2).slice (win0_10.rect t)).emb y)
    (by blk_simp [index_at t]) (by blk_simp [index_at t])

/-- The kernel and the reference leave the same arrays. -/
theorem algebraic : Cert.algebraic_Kernel18Ideal_Reference18Ideal := fun m ρ m' ρ' _ hag =>
  ⟨fun c => product (m ((c : Thread nD τ).loc main_arg0)) (m ((c : Thread nD τ).loc main_arg2)), fun c => product (m ((c : Thread nD τ).loc main_arg1)) (m ((c : Thread nD τ).loc main_arg3)),
   fun c => merged (gate 6144 (by decide) (m ((c : Thread nD τ).loc main_arg4)) (m ((c : Thread nD τ).loc main_arg5))) (product (m ((c : Thread nD τ).loc main_arg0)) (m ((c : Thread nD τ).loc main_arg2))) (gate 8192 (by decide) (m ((c : Thread nD τ).loc main_arg4)) (m ((c : Thread nD τ).loc main_arg6))) (product (m ((c : Thread nD τ).loc main_arg1)) (m ((c : Thread nD τ).loc main_arg3))),
   (θ_run defs _ _).mono (fun _ h c => ⟨(h c).1.trans (final_8 m c), (h c).2.1.trans (final_9 m c), (h c).2.2.1.trans (final_10 m c), (h c).2.2.2⟩) (Value.run_blocks m ρ),
   (θ_run Cert.Reference18Ideal.defs _ _).mono (fun _ h c => ⟨(h c).1.trans (by
        rw [(hag c).1, (hag c).2.2.1]
        funext j
        pointwise [product]),
      (h c).2.1.trans (by
        rw [(hag c).2.1, (hag c).2.2.2.1]
        funext j
        pointwise [product]),
      (h c).2.2.1.trans (by
        rw [(hag c).1, (hag c).2.1, (hag c).2.2.1, (hag c).2.2.2.1, (hag c).2.2.2.2.1, (hag c).2.2.2.2.2.1, (hag c).2.2.2.2.2.2]
        funext j
        pointwise [merged, gate, product, logistic, Ideal.ofBits_one_f32]),
      (h c).2.2.2⟩)
    (Cert.Reference18Ideal.Value.run m' ρ')⟩

end Cert.Proof.ProjMerge

end
-- ==== Proof.RmsFwd.lean ====
/-
  The forward normalisation: every row of `x` divided by the root of its mean square (plus the small constant) and multiplied by
  the gain, once as it is and once transposed. Each grid point computes 256 rows of the first and 256 columns of the second.
-/
module

public import proofs.«01_k».proof.Defs
public import proofs.«01_k».proof.Proof.Common
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise

@[expose] public section

set_option maxRecDepth 16384

noncomputable section

namespace Cert.Proof.RmsFwd

open Idealize.ShloMosaic Idealize.ShloMosaic.TcCoe Idealize.SL.Sem
open Cert.Kernel19Ideal Cert.Kernel19Ideal.Gen

/-- An entry `a` of a row `x`, normalised and multiplied by the gain `g`. -/
def norm (x : Fin 2048 → EReal) (a g : EReal) : EReal :=
  a * Ideal.rsqrt (Ideal.div (∑ k : Fin 2048, x k * x k) (Ideal.ofBits .f32 0x45000000#32) + Ideal.ofBits .f32 0x358637BD#32) * g

/-- All rows normalised, -/
def normed (x : S8192x2048.Idx → EReal) (g : S1x2048.Idx → EReal) : S8192x2048.Idx → EReal :=
  fun i => norm (fun k => x (ix2 (i 0) k)) (x i) (g (ix2 0 (i 1)))

/-- and their transpose. -/
def normedT (x : S8192x2048.Idx → EReal) (g : S1x2048.Idx → EReal) : S2048x8192.Idx → EReal :=
  fun i => normed x g (ix2 (i 1) (i 0))

/-- Which block each window holds at grid point `t`. -/
theorem index_at : ∀ t : Fin grid0.N, win0_0.index t = ![t.val, 0] ∧ win0_1.index t = ![0, 0] ∧ win0_2.index t = ![t.val, 0]
    ∧ win0_3.index t = ![0, t.val] := by decide +kernel

variable (m : (ℓ : Loc nD τ sig) → Buf (Elt Ideal) ℓ)

/-- An entry of the block of rows, normalised, is one of the normalised array. -/
theorem norm_entry (c : Dev nD) (t : Fin cfg0.N) (r : Fin 256) (q : Fin 2048) (i : S8192x2048.Idx)
    (h0 : (i 0 : ℕ) = t.val * 256 + r) (h1 : (i 1 : ℕ) = q) :
    norm (fun k => iblk m c 0 t (ix2 r k)) (iblk m c 0 t (ix2 r q)) (iblk m c 1 t (ix2 0 q)) = normed (m ((c : Thread nD τ).loc main_arg0)) (m ((c : Thread nD τ).loc main_arg1)) i := by
  have hx : ∀ (k : Fin 2048) (j : S8192x2048.Idx), (j 0 : ℕ) = t.val * 256 + r → (j 1 : ℕ) = k → iblk m c 0 t (ix2 r k) = (m ((c : Thread nD τ).loc main_arg0)) j := by
    intro k j g0 g1
    blk_ext [iblk, V, index_at t]
  have hg : iblk m c 1 t (ix2 0 q) = (m ((c : Thread nD τ).loc main_arg1)) (ix2 0 (i 1)) := by
    blk_ext [iblk, V, index_at t]
  have hr : (fun k => iblk m c 0 t (ix2 r k)) = fun k => (m ((c : Thread nD τ).loc main_arg0)) (ix2 (i 0) k) := funext fun k => hx k _ h0 rfl
  unfold normed
  rw [hr, hg, hx q i h0 h1]

/-- What point `t` leaves of the rows, -/
theorem out_2 (c : Dev nD) (t : Fin cfg0.N) (y : S256x2048.Idx) :
    out0_2 (iblk m c 0 t) (iblk m c 1 t) y
      = norm (fun k => iblk m c 0 t (ix2 (y 0) k)) (iblk m c 0 t (ix2 (y 0) (y 1))) (iblk m c 1 t (ix2 0 (y 1))) := by
  frame_out
  pointwise [k0_pay2, k0_pay1, norm]

/-- and of their transpose. -/
theorem out_3 (c : Dev nD) (t : Fin cfg0.N) (y : S2048x256.Idx) :
    out0_3 (iblk m c 0 t) (iblk m c 1 t) y
      = norm (fun k => iblk m c 0 t (ix2 (y 1) k)) (iblk m c 0 t (ix2 (y 1) (y 0))) (iblk m c 1 t (ix2 0 (y 0))) := by
  frame_out
  pointwise [k0_pay3, k0_pay1, norm]

/-- The normalised array after the run, -/
theorem final_2 (c : Dev nD) : (dats m 0 c).arrAt 2 cfg0.N = normed (m ((c : Thread nD τ).loc main_arg0)) (m ((c : Thread nD τ).loc main_arg1)) := by
  refine (dats m 0 c).arrAt_eq_of_covers 2 _ (by decide +kernel) fun t hf y => ?_
  blk_simp
  rw [after0_2, out_2]
  exact norm_entry m c t (y 0) (y 1) (((View.whole main_v0_0).slice (win0_2.rect t)).emb y)
    (by blk_simp [index_at t]) (by blk_simp [index_at t])

/-- and its transpose. -/
theorem final_3 (c : Dev nD) : (dats m 0 c).arrAt 3 cfg0.N = normedT (m ((c : Thread nD τ).loc main_arg0)) (m ((c : Thread nD τ).loc main_arg1)) := by
  refine (dats m 0 c).arrAt_eq_of_covers 3 _ (by decide +kernel) fun t hf y => ?_
  blk_simp
  rw [after0_3, out_3]
  exact norm_entry m c t (y 1) (y 0) (ix2 ((((View.whole main_v0_1).slice (win0_3.rect t)).emb y) 1) ((((View.whole main_v0_1).slice (win0_3.rect t)).emb y) 0))
    (by blk_simp [index_at t]) (by blk_simp [index_at t])

/-- The kernel and the reference leave the same arrays. -/
theorem algebraic : Cert.algebraic_Kernel19Ideal_Reference19Ideal := fun m ρ m' ρ' _ hag =>
  ⟨fun c => normed (m ((c : Thread nD τ).loc main_arg0)) (m ((c : Thread nD τ).loc main_arg1)), fun c => normedT (m ((c : Thread nD τ).loc main_arg0)) (m ((c : Thread nD τ).loc main_arg1)),
   (θ_run defs _ _).mono (fun _ h c => ⟨(h c).1.trans (final_2 m c), (h c).2.1.trans (final_3 m c), (h c).2.2⟩) (Value.run_blocks m ρ),
   (θ_run Cert.Reference19Ideal.defs _ _).mono (fun _ h c => ⟨(h c).1.trans (by
        rw [(hag c).1, (hag c).2]
        funext j
        pointwise [normed, norm]),
      (h c).2.1.trans (by
        rw [(hag c).1, (hag c).2]
        funext j
        pointwise [normedT, normed, norm]),
      (h c).2.2⟩)
    (Cert.Reference19Ideal.Value.run m' ρ')⟩

end Cert.Proof.RmsFwd

end
-- ==== Proof.RmsBwd.lean ====
/-
  The backward pass of the normalisation, added to the gradient that came past it: `dx`, in f32 and in bf16, and the gain's
  gradient, a sum over all rows. Each grid point computes 256 rows in two halves and adds into the gain's gradient. The kernel
  factors `dx` through the normalised row; the reference differentiates the root and the mean square apart. The two agree at
  all extended reals: if a row of `x` has an infinite entry, its root's inverse is zero and nothing is left on either side.
-/
module

public import proofs.«01_k».proof.Defs
public import proofs.«01_k».proof.Proof.Common
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise

@[expose] public section

set_option maxRecDepth 16384

noncomputable section

namespace Cert.Proof.RmsBwd

open Idealize.ShloMosaic Idealize.ShloMosaic.TcCoe Idealize.SL.Sem
open Cert.Kernel20Ideal Cert.Kernel20Ideal.Gen

/-- The mean square of a row plus the small constant, -/
def meanSquare (x : Fin 2048 → EReal) : EReal :=
  Ideal.div (∑ k : Fin 2048, x k * x k) (Ideal.ofBits .f32 0x45000000#32) + Ideal.ofBits .f32 0x358637BD#32

/-- one over its root, -/
def inv (x : Fin 2048 → EReal) : EReal := Ideal.rsqrt (meanSquare x)

/-- and the gradient at one entry of a row `x` as the kernel computes it, `a`, `b`, `u` and `e` the entry's own values. -/
def back (x d g : Fin 2048 → EReal) (a b u e : EReal) : EReal :=
  inv x * (b * u - a * inv x * Ideal.div (∑ k : Fin 2048, d k * g k * (x k * inv x)) (Ideal.ofBits .f32 0x45000000#32)) + e

/-- What the mean square contributes to the gradient in the reference. -/
def slope (x d g : Fin 2048 → EReal) : EReal :=
  Ideal.div ((∑ k : Fin 2048, x k * (d k * g k)) * (Ideal.ofBits .f32 0xBF000000#32 * Ideal.div (inv x) (meanSquare x)))
    (Ideal.ofBits .f32 0x45000000#32)

/-- The whole gradient, -/
def dx (d x : S8192x2048.Idx → EReal) (g : S1x2048.Idx → EReal) (e : S8192x2048.Idx → EReal) : S8192x2048.Idx → EReal :=
  fun i => back (fun k => x (ix2 (i 0) k)) (fun k => d (ix2 (i 0) k)) (fun k => g (ix2 0 k)) (x i) (d i) (g (ix2 0 (i 1))) (e i)

/-- an addend of the gain's gradient, `r` one over its row's root, -/
def weigh (b a r : EReal) : EReal := b * (a * r)

/-- all of them, -/
def weighed (d x : S8192x2048.Idx → EReal) : S8192x2048.Idx → EReal :=
  fun i => weigh (d i) (x i) (inv fun k => x (ix2 (i 0) k))

/-- and their sums over the rows. -/
def dgain (d x : S8192x2048.Idx → EReal) : S1x2048.Idx → EReal := fun i => ∑ k : Fin 8192, weighed d x (ix2 k (i 1))

theorem width_bits : Ideal.ofBits .f32 0x45000000#32 = ((2048 : ℝ) : EReal) := by
  simp [Ideal.ofBits, Ideal.ieee, -EReal.coe_mul]
  norm_num

theorem neg_half_bits : Ideal.ofBits .f32 0xBF000000#32 = ((-(1 / 2) : ℝ) : EReal) := by
  simp [Ideal.ofBits, Ideal.ieee, -EReal.coe_mul]
  norm_num

theorem eps_bits : Ideal.ofBits .f32 0x358637BD#32 = ((8796093 / 8796093022208 : ℝ) : EReal) := by
  simp [Ideal.ofBits, Ideal.ieee, -EReal.coe_mul]
  norm_num

theorem sum_coe {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The mean square of a row of reals is a positive real. -/
theorem meanSquare_coe (x : Fin 2048 → ℝ) :
    ∃ v : ℝ, 0 < v ∧ meanSquare (fun k => (x k : EReal)) = (v : EReal) := by
  refine ⟨(∑ k, x k * x k) * (1 / 2048) + 8796093 / 8796093022208, ?_, ?_⟩
  · have := Finset.sum_nonneg fun k (_ : k ∈ Finset.univ) => mul_self_nonneg (x k)
    positivity
  · unfold meanSquare
    simp only [← EReal.coe_mul]
    rw [sum_coe, width_bits, eps_bits, Ideal.div_coe (by norm_num), ← EReal.coe_mul, ← EReal.coe_add]

/-- The mean square of a row with an infinite entry is infinite. -/
theorem meanSquare_top (x : Fin 2048 → EReal) (k : Fin 2048) (hk : ¬IsFinite (x k)) : meanSquare x = ⊤ := by
  have hnn : ∀ a : EReal, 0 ≤ a * a := by
    intro a
    induction a using EReal.rec with
    | bot => simp
    | top => simp
    | coe r => exact_mod_cast mul_self_nonneg r
  have ht : x k * x k = ⊤ := by
    have h : x k = ⊥ ∨ x k = ⊤ := by
      by_contra h
      exact hk ⟨fun h' => h (.inl h'), fun h' => h (.inr h')⟩
    rcases h with h | h <;> simp [h]
  have hs : ∑ k : Fin 2048, x k * x k = ⊤ :=
    top_le_iff.mp (ht ▸ Finset.single_le_sum (f := fun k => x k * x k) (fun k _ => hnn (x k)) (Finset.mem_univ k))
  unfold meanSquare
  rw [hs, width_bits, eps_bits, Ideal.div_coe (by norm_num), EReal.top_mul_coe_of_pos (by norm_num), EReal.top_add_coe]

/-- A positive real times a difference, the subtrahend also in two equal halves. -/
theorem mul_sub_halves (a z : EReal) (ρ s : ℝ) (hρ : 0 < ρ) (hs : 0 < s) :
    a * (ρ : EReal) + ((-(ρ * s / 2) : ℝ) : EReal) * z + ((-(ρ * s / 2) : ℝ) : EReal) * z = (ρ : EReal) * (a - (s : EReal) * z) := by
  have hn : -(ρ * s / 2) < 0 := by
    have := mul_pos hρ hs
    linarith
  induction z using EReal.rec with
  | bot =>
    rw [EReal.coe_mul_bot_of_neg hn, EReal.coe_mul_bot_of_pos hs]
    induction a using EReal.rec with
    | bot => simp [EReal.coe_mul_bot_of_pos hρ, EReal.bot_mul_coe_of_pos hρ]
    | top => simp [EReal.coe_mul_top_of_pos hρ, EReal.top_mul_coe_of_pos hρ]
    | coe r => rw [← EReal.coe_mul, EReal.coe_add_top, EReal.top_add_top, EReal.coe_sub_bot, EReal.coe_mul_top_of_pos hρ]
  | top =>
    rw [EReal.coe_mul_top_of_neg hn, EReal.coe_mul_top_of_pos hs]
    induction a using EReal.rec with
    | bot => simp [EReal.coe_mul_bot_of_pos hρ]
    | top => simp [EReal.coe_mul_bot_of_pos hρ]
    | coe r => simp [EReal.coe_mul_bot_of_pos hρ]
  | coe z =>
    induction a using EReal.rec with
    | bot =>
      rw [EReal.bot_mul_coe_of_pos hρ, ← EReal.coe_mul, ← EReal.coe_mul, EReal.bot_sub, EReal.coe_mul_bot_of_pos hρ]
      simp
    | top =>
      rw [EReal.top_mul_coe_of_pos hρ, ← EReal.coe_mul, ← EReal.coe_mul, EReal.top_sub_coe, EReal.coe_mul_top_of_pos hρ,
        EReal.top_add_coe, EReal.top_add_coe]
    | coe r =>
      simp only [← EReal.coe_mul, ← EReal.coe_add, ← EReal.coe_sub]
      congr 1
      ring

/-- The kernel's form of the gradient is the reference's. -/
theorem back_eq (x d g : Fin 2048 → EReal) (q : Fin 2048) (e : EReal) :
    e + (d q * g q * inv x + x q * slope x d g + slope x d g * x q) = back x d g (x q) (d q) (g q) e := by
  by_cases hx : ∀ k, IsFinite (x k)
  · obtain ⟨f, rfl⟩ : ∃ f : Fin 2048 → ℝ, (fun k => (f k : EReal)) = x :=
      ⟨fun k => (x k).toReal, funext fun k => EReal.coe_toReal (hx k).2 (hx k).1⟩
    obtain ⟨v, hv, hm⟩ := meanSquare_coe f
    obtain ⟨ρ, hρ, hq, hi⟩ : ∃ ρ : ℝ, 0 < ρ ∧ 1 / v = ρ * ρ ∧ inv (fun k => (f k : EReal)) = (ρ : EReal) := by
      refine ⟨(Real.sqrt v)⁻¹, inv_pos.mpr (Real.sqrt_pos.mpr hv), ?_, ?_⟩
      · rw [← mul_inv, Real.mul_self_sqrt hv.le, one_div]
      · unfold inv
        rw [hm, Ideal.rsqrt_coe, if_neg hv.not_gt, if_neg hv.ne']
    have hs : ∑ k, d k * g k * ((f k : EReal) * (ρ : EReal)) = (ρ : EReal) * ∑ k, (f k : EReal) * (d k * g k) := by
      rw [mul_sum_coe _ _ hρ.le]
      exact Finset.sum_congr rfl fun k _ => by rw [mul_comm (d k * g k), mul_right_comm, mul_comm (ρ : EReal)]
    unfold back slope
    rw [hi, hm, hs, width_bits, neg_half_bits, Ideal.div_coe hv.ne', Ideal.div_coe (by norm_num), Ideal.div_coe (by norm_num), hq]
    have h := mul_sub_halves (d q * g q) ((f q : EReal) * ∑ k, (f k : EReal) * (d k * g k)) ρ (ρ * ρ * (1 / 2048)) hρ (by positivity)
    rw [add_comm]
    congr 1
    refine Eq.trans ?_ (h.trans ?_)
    · have hk : (-(ρ * (ρ * ρ * (1 / 2048)) / 2) : ℝ) = -(1 / 2) * (ρ * (ρ * ρ)) * (1 / 2048) := by ring
      rw [hk]
      push_cast
      congr 1
      · congr 1
        ac_rfl
      · ac_rfl
    · push_cast
      congr 2
      ac_rfl
  · obtain ⟨k, hk⟩ := not_forall.mp hx
    have hm := meanSquare_top x k hk
    have hi : inv x = 0 := by
      unfold inv
      rw [hm]
      rfl
    unfold back slope
    have h0 : Ideal.div 0 ⊤ = 0 := by simp [Ideal.div]
    rw [hi, hm, h0, width_bits, Ideal.div_coe (by norm_num), Ideal.div_coe (by norm_num)]
    simp

/-- The same at an index of the arrays, in the order of the reference's operations. -/
theorem dx_eq (d x : S8192x2048.Idx → EReal) (g : S1x2048.Idx → EReal) (e : S8192x2048.Idx → EReal) (j : S8192x2048.Idx) :
    e j + (d j * g (ix2 0 (j 1)) * inv (fun k => x (ix2 (j 0) k))
        + x j * (∑ _ : Fin 1, slope (fun k => x (ix2 (j 0) k)) (fun k => d (ix2 (j 0) k)) fun k => g (ix2 0 k))
        + (∑ _ : Fin 1, slope (fun k => x (ix2 (j 0) k)) (fun k => d (ix2 (j 0) k)) fun k => g (ix2 0 k)) * x j)
      = dx d x g e j := by
  have h := back_eq (fun k => x (ix2 (j 0) k)) (fun k => d (ix2 (j 0) k)) (fun k => g (ix2 0 k)) (j 1) (e j)
  simp only [Fin.sum_univ_one]
  simp only [ix2_eta] at h
  exact h

/-- A sum over 256 rows is the sum of its halves, -/
theorem halves (f : Fin 256 → EReal) :
    (∑ k : Fin 128, f ⟨k.val, lt_trans k.isLt (by decide)⟩) + ∑ k : Fin 128, f ⟨128 + k.val, Nat.add_lt_add_left k.isLt 128⟩
      = ∑ k : Fin 256, f k :=
  (Fin.sum_univ_add (a := 128) (b := 128) f).symm

/-- and adding it is adding them one after the other. -/
theorem add_halves (a : EReal) (f : Fin 256 → EReal) :
    a + (∑ k : Fin 128, f ⟨k.val, lt_trans k.isLt (by decide)⟩) + ∑ k : Fin 128, f ⟨128 + k.val, Nat.add_lt_add_left k.isLt 128⟩
      = a + ∑ k : Fin 256, f k := by
  rw [add_assoc, halves]

/-- Which block each window holds at grid point `t`. -/
theorem index_at : ∀ t : Fin grid0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] := by
  decide +kernel

variable (m : (ℓ : Loc nD τ sig) → Buf (Elt Ideal) ℓ)

/-- An entry of the block of `dy` is one of `dy`, -/
theorem entry_0 (c : Dev nD) (t : Fin cfg0.N) (r : Fin 256) (q : Fin 2048) (i : S8192x2048.Idx)
    (h0 : (i 0 : ℕ) = t.val * 256 + r) (h1 : (i 1 : ℕ) = q) :
    iblk m c 0 t (ix2 r q) = (m ((c : Thread nD τ).loc main_arg0)) i := by
  blk_ext [iblk, V, index_at t]

/-- one of the block of `x` one of `x`, -/
theorem entry_1 (c : Dev nD) (t : Fin cfg0.N) (r : Fin 256) (q : Fin 2048) (i : S8192x2048.Idx)
    (h0 : (i 0 : ℕ) = t.val * 256 + r) (h1 : (i 1 : ℕ) = q) :
    iblk m c 1 t (ix2 r q) = (m ((c : Thread nD τ).loc main_arg1)) i := by
  blk_ext [iblk, V, index_at t]

/-- one of the gain's block one of the gain, -/
theorem entry_2 (c : Dev nD) (t : Fin cfg0.N) (q : Fin 2048) (i : S1x2048.Idx) (h1 : (i 1 : ℕ) = q) :
    iblk m c 2 t (ix2 0 q) = (m ((c : Thread nD τ).loc main_arg2)) i := by
  blk_ext [iblk, V, index_at t]

/-- and one of the block of the gradient that came past one of that. -/
theorem entry_3 (c : Dev nD) (t : Fin cfg0.N) (r : Fin 256) (q : Fin 2048) (i : S8192x2048.Idx)
    (h0 : (i 0 : ℕ) = t.val * 256 + r) (h1 : (i 1 : ℕ) = q) :
    iblk m c 3 t (ix2 r q) = (m ((c : Thread nD τ).loc main_arg3)) i := by
  blk_ext [iblk, V, index_at t]

/-- The gradient at an index of the blocks, as the kernel computes it, -/
def backAt (c : Dev nD) (t : Fin cfg0.N) (r : Fin 256) (q : Fin 2048) : EReal :=
  back (fun k => iblk m c 1 t (ix2 r k)) (fun k => iblk m c 0 t (ix2 r k)) (fun k => iblk m c 2 t (ix2 0 k))
    (iblk m c 1 t (ix2 r q)) (iblk m c 0 t (ix2 r q)) (iblk m c 2 t (ix2 0 q)) (iblk m c 3 t (ix2 r q))

/-- and an addend of the gain's. -/
def gainAt (c : Dev nD) (t : Fin cfg0.N) (r : Fin 256) (q : Fin 2048) : EReal :=
  weigh (iblk m c 0 t (ix2 r q)) (iblk m c 1 t (ix2 r q)) (inv fun k => iblk m c 1 t (ix2 r k))

theorem back_entry (c : Dev nD) (t : Fin cfg0.N) (r : Fin 256) (q : Fin 2048) (i : S8192x2048.Idx)
    (h0 : (i 0 : ℕ) = t.val * 256 + r) (h1 : (i 1 : ℕ) = q) :
    backAt m c t r q = dx (m ((c : Thread nD τ).loc main_arg0)) (m ((c : Thread nD τ).loc main_arg1)) (m ((c : Thread nD τ).loc main_arg2)) (m ((c : Thread nD τ).loc main_arg3)) i := by
  have hx : (fun k => iblk m c 1 t (ix2 r k)) = fun k => (m ((c : Thread nD τ).loc main_arg1)) (ix2 (i 0) k) := funext fun k => entry_1 m c t r k _ h0 rfl
  have hd : (fun k => iblk m c 0 t (ix2 r k)) = fun k => (m ((c : Thread nD τ).loc main_arg0)) (ix2 (i 0) k) := funext fun k => entry_0 m c t r k _ h0 rfl
  have hg : (fun k => iblk m c 2 t (ix2 0 k)) = fun k => (m ((c : Thread nD τ).loc main_arg2)) (ix2 0 k) := funext fun k => entry_2 m c t k _ rfl
  unfold backAt dx
  rw [hx, hd, hg, entry_0 m c t r q i h0 h1, entry_1 m c t r q i h0 h1, entry_2 m c t q (ix2 0 (i 1)) h1, entry_3 m c t r q i h0 h1]

theorem gain_entry (c : Dev nD) (t : Fin cfg0.N) (r : Fin 256) (q : Fin 2048) (i : S8192x2048.Idx)
    (h0 : (i 0 : ℕ) = t.val * 256 + r) (h1 : (i 1 : ℕ) = q) :
    gainAt m c t r q = weighed (m ((c : Thread nD τ).loc main_arg0)) (m ((c : Thread nD τ).loc main_arg1)) i := by
  have hx : (fun k => iblk m c 1 t (ix2 r k)) = fun k => (m ((c : Thread nD τ).loc main_arg1)) (ix2 (i 0) k) := funext fun k => entry_1 m c t r k _ h0 rfl
  unfold gainAt weighed
  rw [hx, entry_0 m c t r q i h0 h1, entry_1 m c t r q i h0 h1]

/-- What point `t` leaves of the gradient in f32, -/
theorem out_4 (c : Dev nD) (t : Fin cfg0.N) (y : S256x2048.Idx) :
    (outsAt0 m c t.val t.isLt).1 y = backAt m c t (y 0) (y 1) := by
  by_cases hc : t.val % 32 = 0
  · rw [outsAt0_A m c t hc]
    frame_out
    canon_tiles x h
    all_goals
      open_payloads
      pointwise
      have e : (x 1 : Fin 2048) = y 1 := Fin.ext h1.symm
      simp only [← h0, e]
      unfold backAt back inv meanSquare
      rfl
  · rw [outsAt0_B m c t hc]
    frame_out
    canon_tiles x h
    all_goals
      open_payloads
      pointwise
      have e : (x 1 : Fin 2048) = y 1 := Fin.ext h1.symm
      simp only [← h0, e]
      unfold backAt back inv meanSquare
      rfl

/-- and in bf16. -/
theorem out_5 (c : Dev nD) (t : Fin cfg0.N) (y : S256x2048.Idx) :
    (outsAt0 m c t.val t.isLt).2.1 y = backAt m c t (y 0) (y 1) := by
  by_cases hc : t.val % 32 = 0
  · rw [outsAt0_A m c t hc]
    frame_out
    canon_tiles x h
    all_goals
      open_payloads
      pointwise
      have e : (x 1 : Fin 2048) = y 1 := Fin.ext h1.symm
      simp only [← h0, e]
      unfold backAt back inv meanSquare
      rfl
  · rw [outsAt0_B m c t hc]
    frame_out
    canon_tiles x h
    all_goals
      open_payloads
      pointwise
      have e : (x 1 : Fin 2048) = y 1 := Fin.ext h1.symm
      simp only [← h0, e]
      unfold backAt back inv meanSquare
      rfl

/-- What point `t` adds into the gain's gradient: the sum of its 256 rows. -/
def term_6 (c : Dev nD) (t : Fin cfg0.N) (j : S1x2048.Idx) : EReal := ∑ k : Fin 256, gainAt m c t k (j 1)

/-- The first point starts from zero, -/
theorem first_6 (c : Dev nD) (t : Fin cfg0.N) (h : t.val % 32 = 0) (j : S1x2048.Idx) :
    (outsAt0 m c t.val t.isLt).2.2 j = 0 + term_6 m c t j := by
  rw [outsAt0_A m c t h]
  frame_out
  open_payloads
  pointwise
  refine Eq.trans ?_ (halves fun k => gainAt m c t k (j 1))
  unfold gainAt weigh inv meanSquare
  rfl

/-- every later one from what the point before left. -/
theorem next_6 (c : Dev nD) (t : Fin cfg0.N) (h : ¬t.val % 32 = 0) (j : S1x2048.Idx) :
    (outsAt0 m c t.val t.isLt).2.2 j
      = (outsAt0 m c (t.val - 1) (Nat.lt_of_le_of_lt (Nat.sub_le _ _) t.isLt)).2.2 j + term_6 m c t j := by
  rw [outsAt0_B m c t h]
  frame_out
  open_payloads
  pointwise
  refine Eq.trans ?_ (add_halves ((outsAt0 m c (t.val - 1) (Nat.lt_of_le_of_lt (Nat.sub_le _ _) t.isLt)).2.2 j) fun k => gainAt m c t k (j 1))
  unfold gainAt weigh inv meanSquare
  rfl

/-- The gradient after the run, -/
theorem final_4 (c : Dev nD) : (dats m 0 c).arrAt 4 cfg0.N = dx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out_4]
  exact back_entry m c t (y 0) (y 1) (((View.whole main_v0_0).slice (win0_4.rect t)).emb y)
    (by blk_simp [index_at t]) (by blk_simp [index_at t])

/-- the same in bf16, -/
theorem final_5 (c : Dev nD) : (dats m 0 c).arrAt 5 cfg0.N = dx (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, out_5]
  exact back_entry m c t (y 0) (y 1) (((View.whole main_v0_1).slice (win0_5.rect t)).emb y)
    (by blk_simp [index_at t]) (by blk_simp [index_at t])

/-- and the gain's. -/
theorem final_6 (c : Dev nD) : (dats m 0 c).arrAt 6 cfg0.N = dgain (m ((c : Thread nD τ).loc main_arg0)) (m ((c : Thread nD τ).loc main_arg1)) := by
  refine (dats m 0 c).arrAt_eq_of_covers 6 _ (by decide +kernel) fun t hf y => ?_
  have hm : t.val % 32 = 31 := (flush0_6 t).mp hf
  have ht : t.val < 32 := lt_of_lt_of_eq t.isLt (by decide)
  blk_simp
  rw [after0_6, Pipeline.eq_sum_fin_of_reset_step_apply_of_flush (fun n h => (outsAt0 m c n h).2.2) 32
    (fun _ => (0 : EReal)) (term_6 m c) (first_6 m c) (next_6 m c) t hm, zero_add]
  refine Fin.sum_mul_add_congr fun s k hl => ?_
  have hs : 32 * (t.val / 32) + s.val = s.val := by omega
  exact gain_entry m c ⟨32 * (t.val / 32) + s.val, _⟩ k (y 1) _ (by blk_simp [hs]) (by blk_simp [index_at t])

/-- The kernel and the reference leave the same arrays. -/
theorem algebraic : Cert.algebraic_Kernel20Ideal_Reference20Ideal := fun m ρ m' ρ' _ hag =>
  ⟨fun c => dx (m ((c : Thread nD τ).loc main_arg0)) (m ((c : Thread nD τ).loc main_arg1)) (m ((c : Thread nD τ).loc main_arg2)) (m ((c : Thread nD τ).loc main_arg3)), fun c => dx (m ((c : Thread nD τ).loc main_arg0)) (m ((c : Thread nD τ).loc main_arg1)) (m ((c : Thread nD τ).loc main_arg2)) (m ((c : Thread nD τ).loc main_arg3)), fun c => dgain (m ((c : Thread nD τ).loc main_arg0)) (m ((c : Thread nD τ).loc main_arg1)),
   (θ_run defs _ _).mono (fun _ h c => ⟨(h c).1.trans (final_4 m c), (h c).2.1.trans (final_5 m c), (h c).2.2.1.trans (final_6 m c), (h c).2.2.2⟩) (Value.run_blocks m ρ),
   (θ_run Cert.Reference20Ideal.defs _ _).mono (fun _ h c => ⟨(h c).1.trans (by
        rw [(hag c).1, (hag c).2.1, (hag c).2.2.1, (hag c).2.2.2]
        funext j
        pointwise
        refine Eq.trans ?_ (dx_eq (m ((c : Thread nD τ).loc main_arg0)) (m ((c : Thread nD τ).loc main_arg1)) (m ((c : Thread nD τ).loc main_arg2)) (m ((c : Thread nD τ).loc main_arg3)) j)
        unfold slope inv meanSquare
        rfl),
      (h c).2.1.trans (by
        rw [(hag c).1, (hag c).2.1, (hag c).2.2.1, (hag c).2.2.2]
        funext j
        pointwise
        refine Eq.trans ?_ (dx_eq (m ((c : Thread nD τ).loc main_arg0)) (m ((c : Thread nD τ).loc main_arg1)) (m ((c : Thread nD τ).loc main_arg2)) (m ((c : Thread nD τ).loc main_arg3)) j)
        unfold slope inv meanSquare
        rfl),
      (h c).2.2.1.trans (by
        rw [(hag c).1, (hag c).2.1]
        funext j
        pointwise
        exact Finset.sum_congr (M := EReal) rfl fun k _ => mul_comm (G := EReal) _ _),
      (h c).2.2.2⟩)
    (Cert.Reference20Ideal.Value.run m' ρ')⟩

end Cert.Proof.RmsBwd

end
-- ==== Proof.AdamStep.lean ====
/-
  One step of the optimiser: the sum of the eight devices' gradients, the two moments after it and the change of the weights,
  first on one entry and then on arrays of any size, so that a kernel's block and the whole array are two cases of the same
  functions. The constants are the binary32 values of the step's decay rates, corrections, step length and weight decay.
-/
module

public import Idealize.ShloMosaic.Lib.Pipeline.ValueKit
public import Idealize.ShloMosaic.Lib.Pointwise

@[expose] public section

noncomputable section

namespace Cert.Proof.AdamStep

open Idealize.ShloMosaic

/-- The gradient: the eight devices' parts added up, -/
def total (p : Fin 8 → EReal) : EReal := ∑ s : Fin 8, p s

/-- the first moment after the step, -/
def moment1 (g m : EReal) : EReal := Ideal.ofBits .f32 0x3F666666#32 * m + Ideal.ofBits .f32 0x3DCCCCCD#32 * g

/-- the second, -/
def moment2 (g v : EReal) : EReal := Ideal.ofBits .f32 0x3F7FBE77#32 * v + Ideal.ofBits .f32 0x3A83126F#32 * (g * g)

/-- and the change of the weight `w`. -/
def change (w g m v : EReal) : EReal :=
  Ideal.ofBits .f32 0xBA83126F#32
    * (Ideal.div (Ideal.div (moment1 g m) (Ideal.ofBits .f32 0x3F26BD02#32))
        (Ideal.sqrt (Ideal.div (moment2 g v) (Ideal.ofBits .f32 0x3C231ACC#32)) + Ideal.ofBits .f32 0x322BCC77#32)
      + Ideal.ofBits .f32 0x3C23D70A#32 * w)

/-- The parts added one after the other are their sum. -/
theorem total_eq (p : Fin 8 → EReal) : p 0 + p 1 + p 2 + p 3 + p 4 + p 5 + p 6 + p 7 = total p :=
  (Fin.sum_univ_eight p).symm

/-- The indices of an array of weights, -/
abbrev At (R C : ℕ) : Type := (⟨2, ![R, C]⟩ : Shape).Idx

/-- the array, -/
abbrev Whole (R C : ℕ) : Type := At R C → EReal

/-- and the eight devices' parts of its gradient. -/
abbrev Parts (R C : ℕ) : Type := (⟨3, ![8, R, C]⟩ : Shape).Idx → EReal

/-- The gradient of an array, -/
def grad {R C : ℕ} (p : Parts R C) : Whole R C := fun i => total fun s => p (ix3 s (i 0) (i 1))

/-- the change of its weights, -/
def delta {R C : ℕ} (p : Parts R C) (w m v : Whole R C) : Whole R C := fun i => change (w i) (grad p i) (m i) (v i)

/-- the first moment, -/
def first {R C : ℕ} (p : Parts R C) (m : Whole R C) : Whole R C := fun i => moment1 (grad p i) (m i)

/-- and the second. -/
def second {R C : ℕ} (p : Parts R C) (v : Whole R C) : Whole R C := fun i => moment2 (grad p i) (v i)

/-- The blocks `bp`, `bw`, `bm`, `bv` are the parts of the arrays `p`, `w`, `m`, `v` that start at row `o`. -/
structure From {R C r : ℕ} (o : ℕ) (p : Parts R C) (w m v : Whole R C) (bp : Parts r C) (bw bm bv : Whole r C) : Prop where
  parts : ∀ (s : Fin 8) (y : At r C) (i : At R C), (i 0 : ℕ) = o + (y 0 : ℕ) → (i 1 : ℕ) = (y 1 : ℕ) →
    bp (ix3 s (y 0) (y 1)) = p (ix3 s (i 0) (i 1))
  weights : ∀ (y : At r C) (i : At R C), (i 0 : ℕ) = o + (y 0 : ℕ) → (i 1 : ℕ) = (y 1 : ℕ) → bw y = w i
  moment : ∀ (y : At r C) (i : At R C), (i 0 : ℕ) = o + (y 0 : ℕ) → (i 1 : ℕ) = (y 1 : ℕ) → bm y = m i
  square : ∀ (y : At r C) (i : At R C), (i 0 : ℕ) = o + (y 0 : ℕ) → (i 1 : ℕ) = (y 1 : ℕ) → bv y = v i

variable {R C r o : ℕ} {p : Parts R C} {w m v : Whole R C} {bp : Parts r C} {bw bm bv : Whole r C}

/-- Then the step on the blocks is the blocks of the step: of the gradient, -/
theorem From.grad (h : From o p w m v bp bw bm bv) (y : At r C) (i : At R C) (h0 : (i 0 : ℕ) = o + (y 0 : ℕ))
    (h1 : (i 1 : ℕ) = (y 1 : ℕ)) : AdamStep.grad bp y = AdamStep.grad p i :=
  congrArg total (funext fun s => h.parts s y i h0 h1)

/-- the change of the weights, -/
theorem From.delta (h : From o p w m v bp bw bm bv) (y : At r C) (i : At R C) (h0 : (i 0 : ℕ) = o + (y 0 : ℕ))
    (h1 : (i 1 : ℕ) = (y 1 : ℕ)) : AdamStep.delta bp bw bm bv y = AdamStep.delta p w m v i := by
  unfold AdamStep.delta
  rw [h.grad y i h0 h1, h.weights y i h0 h1, h.moment y i h0 h1, h.square y i h0 h1]

/-- the first moment, -/
theorem From.first (h : From o p w m v bp bw bm bv) (y : At r C) (i : At R C) (h0 : (i 0 : ℕ) = o + (y 0 : ℕ))
    (h1 : (i 1 : ℕ) = (y 1 : ℕ)) : AdamStep.first bp bm y = AdamStep.first p m i := by
  unfold AdamStep.first
  rw [h.grad y i h0 h1, h.moment y i h0 h1]

/-- and the second. -/
theorem From.second (h : From o p w m v bp bw bm bv) (y : At r C) (i : At R C) (h0 : (i 0 : ℕ) = o + (y 0 : ℕ))
    (h1 : (i 1 : ℕ) = (y 1 : ℕ)) : AdamStep.second bp bv y = AdamStep.second p v i := by
  unfold AdamStep.second
  rw [h.grad y i h0 h1, h.square y i h0 h1]

end Cert.Proof.AdamStep

end
-- ==== Proof.AdamFfn.lean ====
/-
  The optimiser's step for the feed-forward layers' weights, from the eight devices' partial gradients: their sum, the change
  of the weights, and both moments. Each grid point computes 176 rows of all four.
-/
module

public import proofs.«01_k».proof.Defs
public import proofs.«01_k».proof.Proof.AdamStep
public import proofs.«01_k».proof.Proof.Gen.Kernel21Ideal.Value
public import proofs.«01_k».proof.Proof.Gen.Reference21Ideal.Run
public import Idealize.ShloMosaic.Lib.Pipeline.ValueKit
public import Idealize.ShloMosaic.Lib.Pointwise

@[expose] public section

set_option maxRecDepth 16384

noncomputable section

namespace Cert.Proof.AdamFfn

open Idealize.ShloMosaic Idealize.ShloMosaic.TcCoe Idealize.SL.Sem
open Cert.Kernel21Ideal Cert.Kernel21Ideal.Gen
open Cert.Proof.AdamStep

/-- Which block each window holds at grid point `t`. -/
theorem index_at : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by decide +kernel

/-- What the body leaves of one point's blocks is the step on these: the sum, which the other three start from, -/
theorem body_sum (x0 : Parts 176 2048) (x1 x2 x3 : Whole 176 2048) : k0_pay5 (F := Ideal) x0 x1 x2 x3 = grad x0 := by
  funext y
  unfold k0_pay5
  pointwise [k0_pay4]
  exact total_eq fun s => x0 (ix3 s (y 0) (y 1))

/-- the gradient, the change of the weights, and both moments. -/
theorem body (x0 : Parts 176 2048) (x1 x2 x3 : Whole 176 2048) :
    out0_4 (F := Ideal) x0 x1 x2 x3 = grad x0 ∧ out0_5 (F := Ideal) x0 x1 x2 x3 = delta x0 x1 x2 x3
      ∧ out0_6 (F := Ideal) x0 x1 x2 x3 = first x0 x2 ∧ out0_7 (F := Ideal) x0 x1 x2 x3 = second x0 x3 := by
  refine ⟨?_, ?_, ?_, ?_⟩ <;> funext y
  · frame_out
    pointwise [body_sum]
  · frame_out
    pointwise [k0_pay3, k0_pay2, k0_pay1]
    rw [body_sum]
    rfl
  · frame_out
    pointwise [k0_pay1]
    rw [body_sum]
    rfl
  · frame_out
    pointwise [k0_pay2]
    rw [body_sum]
    rfl

variable (m : (ℓ : Loc nD τ sig) → Buf (Elt Ideal) ℓ)

/-- The blocks at point `t` start at row `176 * t` of the arrays. -/
theorem blocks (c : Dev nD) (t : Fin cfg0.N) :
    From (t.val * 176) (m ((c : Thread nD τ).loc main_arg0)) (m ((c : Thread nD τ).loc main_arg1)) (m ((c : Thread nD τ).loc main_arg2))
      (m ((c : Thread nD τ).loc main_arg3)) (iblk m c 0 t) (iblk m c 1 t) (iblk m c 2 t) (iblk m c 3 t) where
  parts s y i h0 h1 := by blk_ext [iblk, V, index_at t]
  weights y i h0 h1 := by blk_ext [iblk, V, index_at t]
  moment y i h0 h1 := by blk_ext [iblk, V, index_at t]
  square y i h0 h1 := by blk_ext [iblk, V, index_at t]

/-- So the arrays after the run are the step on the whole arrays: the gradient, -/
theorem final_4 (c : Dev nD) : (dats m 0 c).arrAt 4 cfg0.N = grad (R := 704) (C := 2048) (m ((c : Thread nD τ).loc main_arg0)) := by
  refine (dats m 0 c).arrAt_eq_of_covers 4 _ (by decide +kernel) fun t hf y => ?_
  blk_simp
  rw [after0_4, (body _ _ _ _).1]
  exact (blocks m c t).grad y _ (by blk_simp [index_at t]) (by blk_simp [index_at t])

/-- the change of the weights, -/
theorem final_5 (c : Dev nD) : (dats m 0 c).arrAt 5 cfg0.N
    = delta (R := 704) (C := 2048) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5, (body _ _ _ _).2.1]
  exact (blocks m c t).delta y _ (by blk_simp [index_at t]) (by blk_simp [index_at t])

/-- the first moment, -/
theorem final_6 (c : Dev nD) : (dats m 0 c).arrAt 6 cfg0.N
    = first (R := 704) (C := 2048) (m ((c : Thread nD τ).loc main_arg0)) (m ((c : Thread nD τ).loc main_arg2)) := by
  refine (dats m 0 c).arrAt_eq_of_covers 6 _ (by decide +kernel) fun t hf y => ?_
  blk_simp
  rw [after0_6, (body _ _ _ _).2.2.1]
  exact (blocks m c t).first y _ (by blk_simp [index_at t]) (by blk_simp [index_at t])

/-- and the second. -/
theorem final_7 (c : Dev nD) : (dats m 0 c).arrAt 7 cfg0.N
    = second (R := 704) (C := 2048) (m ((c : Thread nD τ).loc main_arg0)) (m ((c : Thread nD τ).loc main_arg3)) := by
  refine (dats m 0 c).arrAt_eq_of_covers 7 _ (by decide +kernel) fun t hf y => ?_
  blk_simp
  rw [after0_7, (body _ _ _ _).2.2.2]
  exact (blocks m c t).second y _ (by blk_simp [index_at t]) (by blk_simp [index_at t])

/-- The kernel and the reference leave the same arrays. -/
theorem algebraic : Cert.algebraic_Kernel21Ideal_Reference21Ideal := fun m ρ m' ρ' _ hag =>
  ⟨_, _, _, _,
   (θ_run defs _ _).mono (fun _ h c => ⟨(h c).1.trans (final_4 m c), (h c).2.1.trans (final_5 m c), (h c).2.2.1.trans (final_6 m c),
      (h c).2.2.2.1.trans (final_7 m c), (h c).2.2.2.2⟩) (Value.run_blocks m ρ),
   (θ_run Cert.Reference21Ideal.defs _ _).mono (fun _ h c => by
      obtain ⟨h0, h1, h2, h3⟩ := hag c
      refine ⟨(h c).1.trans ?_, (h c).2.1.trans ?_, (h c).2.2.1.trans ?_, (h c).2.2.2.1.trans ?_, (h c).2.2.2.2⟩ <;>
        simp only [h0, h1, h2, h3] <;> funext j <;> pointwise [delta, first, second, change, moment1, moment2, grad, total])
    (Cert.Reference21Ideal.Value.run m' ρ')⟩

end Cert.Proof.AdamFfn

end
-- ==== Proof.AdamWIn.lean ====
/-
  The optimiser's step for the input projection's weights, from the eight devices' partial gradients: their sum, the change
  of the weights, and both moments. Each grid point computes 256 rows of all four.
-/
module

public import proofs.«01_k».proof.Defs
public import proofs.«01_k».proof.Proof.AdamStep
public import proofs.«01_k».proof.Proof.Gen.Kernel22Ideal.Value
public import proofs.«01_k».proof.Proof.Gen.Reference22Ideal.Run
public import Idealize.ShloMosaic.Lib.Pipeline.ValueKit
public import Idealize.ShloMosaic.Lib.Pointwise

@[expose] public section

set_option maxRecDepth 16384

noncomputable section

namespace Cert.Proof.AdamWIn

open Idealize.ShloMosaic Idealize.ShloMosaic.TcCoe Idealize.SL.Sem
open Cert.Kernel22Ideal Cert.Kernel22Ideal.Gen
open Cert.Proof.AdamStep

/-- Which block each window holds at grid point `t`. -/
theorem index_at : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by decide +kernel

/-- What the body leaves of one point's blocks is the step on these: the sum, which the other three start from, -/
theorem body_sum (x0 : Parts 256 1282) (x1 x2 x3 : Whole 256 1282) : k0_pay5 (F := Ideal) x0 x1 x2 x3 = grad x0 := by
  funext y
  unfold k0_pay5
  pointwise [k0_pay4]
  exact total_eq fun s => x0 (ix3 s (y 0) (y 1))

/-- the gradient, the change of the weights, and both moments. -/
theorem body (x0 : Parts 256 1282) (x1 x2 x3 : Whole 256 1282) :
    out0_4 (F := Ideal) x0 x1 x2 x3 = grad x0 ∧ out0_5 (F := Ideal) x0 x1 x2 x3 = delta x0 x1 x2 x3
      ∧ out0_6 (F := Ideal) x0 x1 x2 x3 = first x0 x2 ∧ out0_7 (F := Ideal) x0 x1 x2 x3 = second x0 x3 := by
  refine ⟨?_, ?_, ?_, ?_⟩ <;> funext y
  · frame_out
    pointwise [body_sum]
  · frame_out
    pointwise [k0_pay3, k0_pay2, k0_pay1]
    rw [body_sum]
    rfl
  · frame_out
    pointwise [k0_pay1]
    rw [body_sum]
    rfl
  · frame_out
    pointwise [k0_pay2]
    rw [body_sum]
    rfl

variable (m : (ℓ : Loc nD τ sig) → Buf (Elt Ideal) ℓ)

/-- The blocks at point `t` start at row `256 * t` of the arrays. -/
theorem blocks (c : Dev nD) (t : Fin cfg0.N) :
    From (t.val * 256) (m ((c : Thread nD τ).loc main_arg0)) (m ((c : Thread nD τ).loc main_arg1)) (m ((c : Thread nD τ).loc main_arg2))
      (m ((c : Thread nD τ).loc main_arg3)) (iblk m c 0 t) (iblk m c 1 t) (iblk m c 2 t) (iblk m c 3 t) where
  parts s y i h0 h1 := by blk_ext [iblk, V, index_at t]
  weights y i h0 h1 := by blk_ext [iblk, V, index_at t]
  moment y i h0 h1 := by blk_ext [iblk, V, index_at t]
  square y i h0 h1 := by blk_ext [iblk, V, index_at t]

/-- So the arrays after the run are the step on the whole arrays: the gradient, -/
theorem final_4 (c : Dev nD) : (dats m 0 c).arrAt 4 cfg0.N = grad (R := 2048) (C := 1282) (m ((c : Thread nD τ).loc main_arg0)) := by
  refine (dats m 0 c).arrAt_eq_of_covers 4 _ (by decide +kernel) fun t hf y => ?_
  blk_simp
  rw [after0_4, (body _ _ _ _).1]
  exact (blocks m c t).grad y _ (by blk_simp [index_at t]) (by blk_simp [index_at t])

/-- the change of the weights, -/
theorem final_5 (c : Dev nD) : (dats m 0 c).arrAt 5 cfg0.N
    = delta (R := 2048) (C := 1282) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5, (body _ _ _ _).2.1]
  exact (blocks m c t).delta y _ (by blk_simp [index_at t]) (by blk_simp [index_at t])

/-- the first moment, -/
theorem final_6 (c : Dev nD) : (dats m 0 c).arrAt 6 cfg0.N
    = first (R := 2048) (C := 1282) (m ((c : Thread nD τ).loc main_arg0)) (m ((c : Thread nD τ).loc main_arg2)) := by
  refine (dats m 0 c).arrAt_eq_of_covers 6 _ (by decide +kernel) fun t hf y => ?_
  blk_simp
  rw [after0_6, (body _ _ _ _).2.2.1]
  exact (blocks m c t).first y _ (by blk_simp [index_at t]) (by blk_simp [index_at t])

/-- and the second. -/
theorem final_7 (c : Dev nD) : (dats m 0 c).arrAt 7 cfg0.N
    = second (R := 2048) (C := 1282) (m ((c : Thread nD τ).loc main_arg0)) (m ((c : Thread nD τ).loc main_arg3)) := by
  refine (dats m 0 c).arrAt_eq_of_covers 7 _ (by decide +kernel) fun t hf y => ?_
  blk_simp
  rw [after0_7, (body _ _ _ _).2.2.2]
  exact (blocks m c t).second y _ (by blk_simp [index_at t]) (by blk_simp [index_at t])

/-- The kernel and the reference leave the same arrays. -/
theorem algebraic : Cert.algebraic_Kernel22Ideal_Reference22Ideal := fun m ρ m' ρ' _ hag =>
  ⟨_, _, _, _,
   (θ_run defs _ _).mono (fun _ h c => ⟨(h c).1.trans (final_4 m c), (h c).2.1.trans (final_5 m c), (h c).2.2.1.trans (final_6 m c),
      (h c).2.2.2.1.trans (final_7 m c), (h c).2.2.2.2⟩) (Value.run_blocks m ρ),
   (θ_run Cert.Reference22Ideal.defs _ _).mono (fun _ h c => by
      obtain ⟨h0, h1, h2, h3⟩ := hag c
      refine ⟨(h c).1.trans ?_, (h c).2.1.trans ?_, (h c).2.2.1.trans ?_, (h c).2.2.2.1.trans ?_, (h c).2.2.2.2⟩ <;>
        simp only [h0, h1, h2, h3] <;> funext j <;> pointwise [delta, first, second, change, moment1, moment2, grad, total])
    (Cert.Reference22Ideal.Value.run m' ρ')⟩

end Cert.Proof.AdamWIn

end
-- ==== Proof.AdamProj.lean ====
/-
  The optimiser's step for a mixer's projection weights, from the eight devices' partial gradients: their sum, the change
  of the weights, and both moments. Each grid point computes 256 rows of all four.
-/
module

public import proofs.«01_k».proof.Defs
public import proofs.«01_k».proof.Proof.AdamStep
public import proofs.«01_k».proof.Proof.Gen.Kernel23Ideal.Value
public import proofs.«01_k».proof.Proof.Gen.Reference23Ideal.Run
public import Idealize.ShloMosaic.Lib.Pipeline.ValueKit
public import Idealize.ShloMosaic.Lib.Pointwise

@[expose] public section

set_option maxRecDepth 16384

noncomputable section

namespace Cert.Proof.AdamProj

open Idealize.ShloMosaic Idealize.ShloMosaic.TcCoe Idealize.SL.Sem
open Cert.Kernel23Ideal Cert.Kernel23Ideal.Gen
open Cert.Proof.AdamStep

/-- Which block each window holds at grid point `t`. -/
theorem index_at : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by decide +kernel

/-- What the body leaves of one point's blocks is the step on these: the sum, which the other three start from, -/
theorem body_sum (x0 : Parts 256 256) (x1 x2 x3 : Whole 256 256) : k0_pay5 (F := Ideal) x0 x1 x2 x3 = grad x0 := by
  funext y
  unfold k0_pay5
  pointwise [k0_pay4]
  exact total_eq fun s => x0 (ix3 s (y 0) (y 1))

/-- the gradient, the change of the weights, and both moments. -/
theorem body (x0 : Parts 256 256) (x1 x2 x3 : Whole 256 256) :
    out0_4 (F := Ideal) x0 x1 x2 x3 = grad x0 ∧ out0_5 (F := Ideal) x0 x1 x2 x3 = delta x0 x1 x2 x3
      ∧ out0_6 (F := Ideal) x0 x1 x2 x3 = first x0 x2 ∧ out0_7 (F := Ideal) x0 x1 x2 x3 = second x0 x3 := by
  refine ⟨?_, ?_, ?_, ?_⟩ <;> funext y
  · frame_out
    pointwise [body_sum]
  · frame_out
    pointwise [k0_pay3, k0_pay2, k0_pay1]
    rw [body_sum]
    rfl
  · frame_out
    pointwise [k0_pay1]
    rw [body_sum]
    rfl
  · frame_out
    pointwise [k0_pay2]
    rw [body_sum]
    rfl

variable (m : (ℓ : Loc nD τ sig) → Buf (Elt Ideal) ℓ)

/-- The blocks at point `t` start at row `256 * t` of the arrays. -/
theorem blocks (c : Dev nD) (t : Fin cfg0.N) :
    From (t.val * 256) (m ((c : Thread nD τ).loc main_arg0)) (m ((c : Thread nD τ).loc main_arg1)) (m ((c : Thread nD τ).loc main_arg2))
      (m ((c : Thread nD τ).loc main_arg3)) (iblk m c 0 t) (iblk m c 1 t) (iblk m c 2 t) (iblk m c 3 t) where
  parts s y i h0 h1 := by blk_ext [iblk, V, index_at t]
  weights y i h0 h1 := by blk_ext [iblk, V, index_at t]
  moment y i h0 h1 := by blk_ext [iblk, V, index_at t]
  square y i h0 h1 := by blk_ext [iblk, V, index_at t]

/-- So the arrays after the run are the step on the whole arrays: the gradient, -/
theorem final_4 (c : Dev nD) : (dats m 0 c).arrAt 4 cfg0.N = grad (R := 1024) (C := 256) (m ((c : Thread nD τ).loc main_arg0)) := by
  refine (dats m 0 c).arrAt_eq_of_covers 4 _ (by decide +kernel) fun t hf y => ?_
  blk_simp
  rw [after0_4, (body _ _ _ _).1]
  exact (blocks m c t).grad y _ (by blk_simp [index_at t]) (by blk_simp [index_at t])

/-- the change of the weights, -/
theorem final_5 (c : Dev nD) : (dats m 0 c).arrAt 5 cfg0.N
    = delta (R := 1024) (C := 256) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5, (body _ _ _ _).2.1]
  exact (blocks m c t).delta y _ (by blk_simp [index_at t]) (by blk_simp [index_at t])

/-- the first moment, -/
theorem final_6 (c : Dev nD) : (dats m 0 c).arrAt 6 cfg0.N
    = first (R := 1024) (C := 256) (m ((c : Thread nD τ).loc main_arg0)) (m ((c : Thread nD τ).loc main_arg2)) := by
  refine (dats m 0 c).arrAt_eq_of_covers 6 _ (by decide +kernel) fun t hf y => ?_
  blk_simp
  rw [after0_6, (body _ _ _ _).2.2.1]
  exact (blocks m c t).first y _ (by blk_simp [index_at t]) (by blk_simp [index_at t])

/-- and the second. -/
theorem final_7 (c : Dev nD) : (dats m 0 c).arrAt 7 cfg0.N
    = second (R := 1024) (C := 256) (m ((c : Thread nD τ).loc main_arg0)) (m ((c : Thread nD τ).loc main_arg3)) := by
  refine (dats m 0 c).arrAt_eq_of_covers 7 _ (by decide +kernel) fun t hf y => ?_
  blk_simp
  rw [after0_7, (body _ _ _ _).2.2.2]
  exact (blocks m c t).second y _ (by blk_simp [index_at t]) (by blk_simp [index_at t])

/-- The kernel and the reference leave the same arrays. -/
theorem algebraic : Cert.algebraic_Kernel23Ideal_Reference23Ideal := fun m ρ m' ρ' _ hag =>
  ⟨_, _, _, _,
   (θ_run defs _ _).mono (fun _ h c => ⟨(h c).1.trans (final_4 m c), (h c).2.1.trans (final_5 m c), (h c).2.2.1.trans (final_6 m c),
      (h c).2.2.2.1.trans (final_7 m c), (h c).2.2.2.2⟩) (Value.run_blocks m ρ),
   (θ_run Cert.Reference23Ideal.defs _ _).mono (fun _ h c => by
      obtain ⟨h0, h1, h2, h3⟩ := hag c
      refine ⟨(h c).1.trans ?_, (h c).2.1.trans ?_, (h c).2.2.1.trans ?_, (h c).2.2.2.1.trans ?_, (h c).2.2.2.2⟩ <;>
        simp only [h0, h1, h2, h3] <;> funext j <;> pointwise [delta, first, second, change, moment1, moment2, grad, total])
    (Cert.Reference23Ideal.Value.run m' ρ')⟩

end Cert.Proof.AdamProj

end
-- ==== Proof.AdamWOut.lean ====
/-
  The optimiser's step for the output projection's weights, from the eight devices' partial gradients: their sum, the change
  of the weights, and both moments. Each grid point computes 256 rows of all four.
-/
module

public import proofs.«01_k».proof.Defs
public import proofs.«01_k».proof.Proof.AdamStep
public import proofs.«01_k».proof.Proof.Gen.Kernel24Ideal.Value
public import proofs.«01_k».proof.Proof.Gen.Reference24Ideal.Run
public import Idealize.ShloMosaic.Lib.Pipeline.ValueKit
public import Idealize.ShloMosaic.Lib.Pointwise

@[expose] public section

set_option maxRecDepth 16384

noncomputable section

namespace Cert.Proof.AdamWOut

open Idealize.ShloMosaic Idealize.ShloMosaic.TcCoe Idealize.SL.Sem
open Cert.Kernel24Ideal Cert.Kernel24Ideal.Gen
open Cert.Proof.AdamStep

/-- Which block each window holds at grid point `t`. -/
theorem index_at : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by decide +kernel

/-- What the body leaves of one point's blocks is the step on these: the sum, which the other three start from, -/
theorem body_sum (x0 : Parts 256 2048) (x1 x2 x3 : Whole 256 2048) : k0_pay5 (F := Ideal) x0 x1 x2 x3 = grad x0 := by
  funext y
  unfold k0_pay5
  pointwise [k0_pay4]
  exact total_eq fun s => x0 (ix3 s (y 0) (y 1))

/-- the gradient, the change of the weights, and both moments. -/
theorem body (x0 : Parts 256 2048) (x1 x2 x3 : Whole 256 2048) :
    out0_4 (F := Ideal) x0 x1 x2 x3 = grad x0 ∧ out0_5 (F := Ideal) x0 x1 x2 x3 = delta x0 x1 x2 x3
      ∧ out0_6 (F := Ideal) x0 x1 x2 x3 = first x0 x2 ∧ out0_7 (F := Ideal) x0 x1 x2 x3 = second x0 x3 := by
  refine ⟨?_, ?_, ?_, ?_⟩ <;> funext y
  · frame_out
    pointwise [body_sum]
  · frame_out
    pointwise [k0_pay3, k0_pay2, k0_pay1]
    rw [body_sum]
    rfl
  · frame_out
    pointwise [k0_pay1]
    rw [body_sum]
    rfl
  · frame_out
    pointwise [k0_pay2]
    rw [body_sum]
    rfl

variable (m : (ℓ : Loc nD τ sig) → Buf (Elt Ideal) ℓ)

/-- The blocks at point `t` start at row `256 * t` of the arrays. -/
theorem blocks (c : Dev nD) (t : Fin cfg0.N) :
    From (t.val * 256) (m ((c : Thread nD τ).loc main_arg0)) (m ((c : Thread nD τ).loc main_arg1)) (m ((c : Thread nD τ).loc main_arg2))
      (m ((c : Thread nD τ).loc main_arg3)) (iblk m c 0 t) (iblk m c 1 t) (iblk m c 2 t) (iblk m c 3 t) where
  parts s y i h0 h1 := by blk_ext [iblk, V, index_at t]
  weights y i h0 h1 := by blk_ext [iblk, V, index_at t]
  moment y i h0 h1 := by blk_ext [iblk, V, index_at t]
  square y i h0 h1 := by blk_ext [iblk, V, index_at t]

/-- So the arrays after the run are the step on the whole arrays: the gradient, -/
theorem final_4 (c : Dev nD) : (dats m 0 c).arrAt 4 cfg0.N = grad (R := 256) (C := 2048) (m ((c : Thread nD τ).loc main_arg0)) := by
  refine (dats m 0 c).arrAt_eq_of_covers 4 _ (by decide +kernel) fun t hf y => ?_
  blk_simp
  rw [after0_4, (body _ _ _ _).1]
  exact (blocks m c t).grad y _ (by blk_simp [index_at t]) (by blk_simp [index_at t])

/-- the change of the weights, -/
theorem final_5 (c : Dev nD) : (dats m 0 c).arrAt 5 cfg0.N
    = delta (R := 256) (C := 2048) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5, (body _ _ _ _).2.1]
  exact (blocks m c t).delta y _ (by blk_simp [index_at t]) (by blk_simp [index_at t])

/-- the first moment, -/
theorem final_6 (c : Dev nD) : (dats m 0 c).arrAt 6 cfg0.N
    = first (R := 256) (C := 2048) (m ((c : Thread nD τ).loc main_arg0)) (m ((c : Thread nD τ).loc main_arg2)) := by
  refine (dats m 0 c).arrAt_eq_of_covers 6 _ (by decide +kernel) fun t hf y => ?_
  blk_simp
  rw [after0_6, (body _ _ _ _).2.2.1]
  exact (blocks m c t).first y _ (by blk_simp [index_at t]) (by blk_simp [index_at t])

/-- and the second. -/
theorem final_7 (c : Dev nD) : (dats m 0 c).arrAt 7 cfg0.N
    = second (R := 256) (C := 2048) (m ((c : Thread nD τ).loc main_arg0)) (m ((c : Thread nD τ).loc main_arg3)) := by
  refine (dats m 0 c).arrAt_eq_of_covers 7 _ (by decide +kernel) fun t hf y => ?_
  blk_simp
  rw [after0_7, (body _ _ _ _).2.2.2]
  exact (blocks m c t).second y _ (by blk_simp [index_at t]) (by blk_simp [index_at t])

/-- The kernel and the reference leave the same arrays. -/
theorem algebraic : Cert.algebraic_Kernel24Ideal_Reference24Ideal := fun m ρ m' ρ' _ hag =>
  ⟨_, _, _, _,
   (θ_run defs _ _).mono (fun _ h c => ⟨(h c).1.trans (final_4 m c), (h c).2.1.trans (final_5 m c), (h c).2.2.1.trans (final_6 m c),
      (h c).2.2.2.1.trans (final_7 m c), (h c).2.2.2.2⟩) (Value.run_blocks m ρ),
   (θ_run Cert.Reference24Ideal.defs _ _).mono (fun _ h c => by
      obtain ⟨h0, h1, h2, h3⟩ := hag c
      refine ⟨(h c).1.trans ?_, (h c).2.1.trans ?_, (h c).2.2.1.trans ?_, (h c).2.2.2.1.trans ?_, (h c).2.2.2.2⟩ <;>
        simp only [h0, h1, h2, h3] <;> funext j <;> pointwise [delta, first, second, change, moment1, moment2, grad, total])
    (Cert.Reference24Ideal.Value.run m' ρ')⟩

end Cert.Proof.AdamWOut

end
-- ==== Proof.AdamSmall.lean ====
/-
  The optimiser's step for the norms' gains and the biases, packed one to a row: the change of the parameters and both moments,
  from their gradient summed over the devices.
-/
module

public import proofs.«01_k».proof.Defs
public import proofs.«01_k».proof.Proof.AdamStep
public import proofs.«01_k».proof.Proof.Gen.Kernel25Ideal.Value
public import proofs.«01_k».proof.Proof.Gen.Reference25Ideal.Run
public import Idealize.ShloMosaic.Lib.Pipeline.ValueKit
public import Idealize.ShloMosaic.Lib.Pointwise

@[expose] public section

set_option maxRecDepth 16384

noncomputable section

namespace Cert.Proof.AdamSmall

open Idealize.ShloMosaic Idealize.ShloMosaic.TcCoe Idealize.SL.Sem
open Cert.Kernel25Ideal Cert.Kernel25Ideal.Gen
open Cert.Proof.AdamStep

/-- The change of the parameters, -/
def delta (g w m v : S8x2048.Idx → EReal) : S8x2048.Idx → EReal := fun i => change (w i) (g i) (m i) (v i)

/-- the first moment, -/
def first (g m : S8x2048.Idx → EReal) : S8x2048.Idx → EReal := fun i => moment1 (g i) (m i)

/-- and the second. -/
def second (g v : S8x2048.Idx → EReal) : S8x2048.Idx → EReal := fun i => moment2 (g i) (v i)

/-- The kernel and the reference leave the same arrays. -/
theorem algebraic : Cert.algebraic_Kernel25Ideal_Reference25Ideal := fun m ρ m' ρ' _ hag =>
  ⟨fun c => delta (m ((c : Thread nD τ).loc main_arg0)) (m ((c : Thread nD τ).loc main_arg1)) (m ((c : Thread nD τ).loc main_arg2)) (m ((c : Thread nD τ).loc main_arg3)),
   fun c => first (m ((c : Thread nD τ).loc main_arg0)) (m ((c : Thread nD τ).loc main_arg2)),
   fun c => second (m ((c : Thread nD τ).loc main_arg0)) (m ((c : Thread nD τ).loc main_arg3)),
   (θ_run defs _ _).mono (fun _ h c => ⟨(h c).1.trans (by
        funext j
        rfl),
      (h c).2.1.trans (by
        funext j
        rfl),
      (h c).2.2.1.trans (by
        funext j
        rfl),
      (h c).2.2.2⟩) (Value.run m ρ),
   (θ_run Cert.Reference25Ideal.defs _ _).mono (fun _ h c => ⟨(h c).1.trans (by
        rw [(hag c).1, (hag c).2.1, (hag c).2.2.1, (hag c).2.2.2]
        funext j
        pointwise [delta, change, moment1, moment2]),
      (h c).2.1.trans (by
        rw [(hag c).1, (hag c).2.2.1]
        funext j
        pointwise [first, moment1]),
      (h c).2.2.1.trans (by
        rw [(hag c).1, (hag c).2.2.2]
        funext j
        pointwise [second, moment2]),
      (h c).2.2.2⟩)
    (Cert.Reference25Ideal.Value.run m' ρ')⟩

end Cert.Proof.AdamSmall

end
-- ==== Proof.RmsRows.lean ====
/-
  The forward pass of the normalisation before a feed-forward layer: every row divided by the root of its mean square, times the
  gain. Each grid point computes 256 rows.
-/
module

public import proofs.«01_k».proof.Defs
public import proofs.«01_k».proof.Proof.Gen.Kernel26Ideal.Value
public import proofs.«01_k».proof.Proof.Gen.Reference26Ideal.Run
public import Idealize.ShloMosaic.Lib.Pipeline.ValueKit
public import Idealize.ShloMosaic.Lib.Pointwise

@[expose] public section

set_option maxRecDepth 16384

noncomputable section

namespace Cert.Proof.RmsRows

open Idealize.ShloMosaic Idealize.ShloMosaic.TcCoe Idealize.SL.Sem
open Cert.Kernel26Ideal Cert.Kernel26Ideal.Gen

/-- An entry `a` of a row `x`, normalised and multiplied by the gain `g`. -/
def norm (x : Fin 2048 → EReal) (a g : EReal) : EReal :=
  a * Ideal.rsqrt (Ideal.div (∑ k : Fin 2048, x k * x k) (Ideal.ofBits .f32 0x45000000#32) + Ideal.ofBits .f32 0x358637BD#32) * g

/-- All rows normalised. -/
def normed (x : S8192x2048.Idx → EReal) (g : S1x2048.Idx → EReal) : S8192x2048.Idx → EReal :=
  fun i => norm (fun k => x (ix2 (i 0) k)) (x i) (g (ix2 0 (i 1)))

/-- Which block each window holds at grid point `t`. -/
theorem index_at : ∀ t : Fin grid0.N, win0_0.index t = ![t.val, 0] ∧ win0_1.index t = ![0, 0] ∧ win0_2.index t = ![t.val, 0] := by
  decide +kernel

variable (m : (ℓ : Loc nD τ sig) → Buf (Elt Ideal) ℓ)

/-- An entry of the block of rows, normalised, is one of the normalised array. -/
theorem norm_entry (c : Dev nD) (t : Fin cfg0.N) (r : Fin 256) (q : Fin 2048) (i : S8192x2048.Idx)
    (h0 : (i 0 : ℕ) = t.val * 256 + r) (h1 : (i 1 : ℕ) = q) :
    norm (fun k => iblk m c 0 t (ix2 r k)) (iblk m c 0 t (ix2 r q)) (iblk m c 1 t (ix2 0 q)) = normed (m ((c : Thread nD τ).loc main_arg0)) (m ((c : Thread nD τ).loc main_arg1)) i := by
  have hx : ∀ (k : Fin 2048) (j : S8192x2048.Idx), (j 0 : ℕ) = t.val * 256 + r → (j 1 : ℕ) = k → iblk m c 0 t (ix2 r k) = (m ((c : Thread nD τ).loc main_arg0)) j := by
    intro k j g0 g1
    blk_ext [iblk, V, index_at t]
  have hg : iblk m c 1 t (ix2 0 q) = (m ((c : Thread nD τ).loc main_arg1)) (ix2 0 (i 1)) := by
    blk_ext [iblk, V, index_at t]
  have hr : (fun k => iblk m c 0 t (ix2 r k)) = fun k => (m ((c : Thread nD τ).loc main_arg0)) (ix2 (i 0) k) := funext fun k => hx k _ h0 rfl
  unfold normed
  rw [hr, hg, hx q i h0 h1]

/-- What point `t` leaves of the rows. -/
theorem out_2 (c : Dev nD) (t : Fin cfg0.N) (y : S256x2048.Idx) :
    out0_2 (iblk m c 0 t) (iblk m c 1 t) y
      = norm (fun k => iblk m c 0 t (ix2 (y 0) k)) (iblk m c 0 t (ix2 (y 0) (y 1))) (iblk m c 1 t (ix2 0 (y 1))) := by
  frame_out
  open_payloads
  pointwise [norm]

/-- The normalised array after the run. -/
theorem final_2 (c : Dev nD) : (dats m 0 c).arrAt 2 cfg0.N = normed (m ((c : Thread nD τ).loc main_arg0)) (m ((c : Thread nD τ).loc main_arg1)) := by
  refine (dats m 0 c).arrAt_eq_of_covers 2 _ (by decide +kernel) fun t hf y => ?_
  blk_simp
  rw [after0_2, out_2]
  exact norm_entry m c t (y 0) (y 1) (((View.whole main_v0).slice (win0_2.rect t)).emb y)
    (by blk_simp [index_at t]) (by blk_simp [index_at t])

/-- The kernel and the reference leave the same array. -/
theorem algebraic : Cert.algebraic_Kernel26Ideal_Reference26Ideal := fun m ρ m' ρ' _ hag =>
  ⟨fun c => normed (m ((c : Thread nD τ).loc main_arg0)) (m ((c : Thread nD τ).loc main_arg1)),
   (θ_run defs _ _).mono (fun _ h c => ⟨(h c).1.trans (final_2 m c), (h c).2⟩) (Value.run_blocks m ρ),
   (θ_run Cert.Reference26Ideal.defs _ _).mono (fun _ h c => ⟨(h c).1.trans (by
        rw [(hag c).1, (hag c).2]
        funext j
        pointwise [normed, norm]),
      (h c).2⟩)
    (Cert.Reference26Ideal.Value.run m' ρ')⟩

end Cert.Proof.RmsRows

end
-- ==== Proof.LossHead.lean ====
/-
  The loss head: the last normalisation, its squared distance from the target, and the gradient of half the mean of that
  distance over a row: `dx` in f32 and in bf16, the gain's gradient, and the loss of each lane, the last two summed over all
  rows. Each grid point computes 256 rows and adds into the sums. Every result is a function of the rows of `x` and of the
  target and of the gain, the same of a block as of the whole arrays.
-/
module

public import proofs.«01_k».proof.Defs
public import proofs.«01_k».proof.Proof.RmsBwd
public import proofs.«01_k».proof.Proof.Gen.Kernel27Ideal.Value
public import proofs.«01_k».proof.Proof.Gen.Reference27Ideal.Run
public import Idealize.ShloMosaic.Lib.Pipeline.ValueKit
public import Idealize.ShloMosaic.Lib.Pointwise

@[expose] public section

set_option maxRecDepth 16384

noncomputable section

namespace Cert.Proof.LossHead

open Idealize.ShloMosaic Idealize.ShloMosaic.TcCoe Idealize.SL.Sem
open Cert.Kernel27Ideal Cert.Kernel27Ideal.Gen
open Cert.Proof.RmsBwd (inv meanSquare slope back back_eq width_bits)

/-- The distance of a normalised row from the target, -/
def err (x g w : Fin 2048 → EReal) : Fin 2048 → EReal := fun k => x k * inv x * g k - w k

/-- the gradient of the loss with respect to the normalised row, -/
def dy (x g w : Fin 2048 → EReal) : Fin 2048 → EReal := fun k => err x g w k * Ideal.ofBits .f32 0x3A000000#32

/-- with respect to the row, -/
def dx (x g w : Fin 2048 → EReal) (q : Fin 2048) : EReal := back x (dy x g w) g (x q) (dy x g w q) (g q) 0

/-- what the row adds into the gain's gradient, -/
def dgain (x g w : Fin 2048 → EReal) (q : Fin 2048) : EReal := dy x g w q * (x q * inv x)

/-- and what it adds into the loss of a lane. -/
def lane (x g w : Fin 2048 → EReal) (q : Fin 2048) : EReal := err x g w q * err x g w q * Ideal.ofBits .f32 0x39800000#32

theorem two_bits : Ideal.ofBits .f32 0x40000000#32 = ((2 : ℝ) : EReal) := by
  simp [Ideal.ofBits, Ideal.ieee, -EReal.coe_mul]
  norm_num

theorem inv_width_bits : Ideal.ofBits .f32 0x3A000000#32 = ((1 / 2048 : ℝ) : EReal) := by
  simp [Ideal.ofBits, Ideal.ieee, -EReal.coe_mul]
  norm_num

theorem half_inv_width_bits : Ideal.ofBits .f32 0x39800000#32 = ((1 / 4096 : ℝ) : EReal) := by
  simp [Ideal.ofBits, Ideal.ieee, -EReal.coe_mul]
  norm_num

/-- Half over the width, times twice a value, is that value over the width. -/
theorem dy_eq (e : EReal) :
    Ideal.div (Ideal.ofBits .f32 0x3F000000#32) (Ideal.ofBits .f32 0x45000000#32) * (Ideal.ofBits .f32 0x40000000#32 * e)
      = e * Ideal.ofBits .f32 0x3A000000#32 := by
  rw [half_bits, width_bits, two_bits, inv_width_bits, Ideal.div_coe (by norm_num), ← mul_assoc, ← EReal.coe_mul,
    ← EReal.coe_mul, mul_comm e]
  norm_num

/-- A constant factor after a sum is one after every addend, -/
theorem lanes_block {n : ℕ} (f : Fin n → EReal) :
    (∑ k, f k) * Ideal.ofBits .f32 0x39800000#32 = ∑ k, f k * Ideal.ofBits .f32 0x39800000#32 := by
  rw [half_inv_width_bits, mul_comm, mul_sum_coe _ _ (by norm_num)]
  exact Finset.sum_congr rfl fun k _ => mul_comm _ _

/-- and half of a sum of values over the width is such a sum. -/
theorem lanes_eq {n : ℕ} (f : Fin n → EReal) :
    Ideal.ofBits .f32 0x3F000000#32 * ∑ k, Ideal.div (f k) (Ideal.ofBits .f32 0x45000000#32)
      = ∑ k, f k * Ideal.ofBits .f32 0x39800000#32 := by
  rw [half_bits, mul_sum_coe _ _ (by norm_num)]
  refine Finset.sum_congr rfl fun k _ => ?_
  rw [width_bits, half_inv_width_bits, Ideal.div_coe (by norm_num), mul_comm (f k), ← mul_assoc, ← EReal.coe_mul, mul_comm (f k)]
  norm_num

/-- The reference's form of `dx`, in the order of its operations. -/
theorem dx_eq (x g w : Fin 2048 → EReal) (q : Fin 2048) :
    dy x g w q * g q * inv x + x q * (∑ _ : Fin 1, slope x (dy x g w) g) + (∑ _ : Fin 1, slope x (dy x g w) g) * x q = dx x g w q := by
  have h := back_eq x (dy x g w) g q 0
  rw [zero_add] at h
  simp only [Fin.sum_univ_one]
  exact h

/-- A row of an array. -/
abbrev row (a : S8192x2048.Idx → EReal) (r : Fin 8192) : Fin 2048 → EReal := fun k => a (ix2 r k)

/-- The four results. -/
def dxs (x : S8192x2048.Idx → EReal) (g : S1x2048.Idx → EReal) (w : S8192x2048.Idx → EReal) : S8192x2048.Idx → EReal :=
  fun i => dx (row x (i 0)) (fun k => g (ix2 0 k)) (row w (i 0)) (i 1)

def dgains (x : S8192x2048.Idx → EReal) (g : S1x2048.Idx → EReal) (w : S8192x2048.Idx → EReal) : S1x2048.Idx → EReal :=
  fun i => ∑ r : Fin 8192, dgain (row x r) (fun k => g (ix2 0 k)) (row w r) (i 1)

def lanes (x : S8192x2048.Idx → EReal) (g : S1x2048.Idx → EReal) (w : S8192x2048.Idx → EReal) : S1x2048.Idx → EReal :=
  fun i => ∑ r : Fin 8192, lane (row x r) (fun k => g (ix2 0 k)) (row w r) (i 1)

/-- Which block each window holds at grid point `t`. -/
theorem index_at : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] := by
  decide +kernel

variable (m : (ℓ : Loc nD τ sig) → Buf (Elt Ideal) ℓ)

/-- A row of the blocks of `x`, of the gain and of the target. -/
abbrev xAt (c : Dev nD) (t : Fin cfg0.N) (r : Fin 256) : Fin 2048 → EReal := fun k => iblk m c 0 t (ix2 r k)
abbrev gAt (c : Dev nD) (t : Fin cfg0.N) : Fin 2048 → EReal := fun k => iblk m c 1 t (ix2 0 k)
abbrev wAt (c : Dev nD) (t : Fin cfg0.N) (r : Fin 256) : Fin 2048 → EReal := fun k => iblk m c 2 t (ix2 r k)

/-- They are rows of the arrays. -/
theorem xAt_eq (c : Dev nD) (t : Fin cfg0.N) (r : Fin 256) (i : Fin 8192) (h : (i : ℕ) = t.val * 256 + r) :
    xAt m c t r = row (m ((c : Thread nD τ).loc main_arg0)) i := by
  funext k
  show iblk m c 0 t (ix2 r k) = (m ((c : Thread nD τ).loc main_arg0)) (ix2 i k)
  blk_ext [iblk, V, index_at t]

theorem gAt_eq (c : Dev nD) (t : Fin cfg0.N) : gAt m c t = fun k => (m ((c : Thread nD τ).loc main_arg1)) (ix2 0 k) := by
  funext k
  show iblk m c 1 t (ix2 0 k) = (m ((c : Thread nD τ).loc main_arg1)) (ix2 0 k)
  blk_ext [iblk, V, index_at t]

theorem wAt_eq (c : Dev nD) (t : Fin cfg0.N) (r : Fin 256) (i : Fin 8192) (h : (i : ℕ) = t.val * 256 + r) :
    wAt m c t r = row (m ((c : Thread nD τ).loc main_arg2)) i := by
  funext k
  show iblk m c 2 t (ix2 r k) = (m ((c : Thread nD τ).loc main_arg2)) (ix2 i k)
  blk_ext [iblk, V, index_at t]

/-- What point `t` leaves of the gradient in f32, -/
theorem out_3 (c : Dev nD) (t : Fin cfg0.N) (y : S256x2048.Idx) :
    (outsAt0 m c t.val t.isLt).1 y = dx (xAt m c t (y 0)) (gAt m c t) (wAt m c t (y 0)) (y 1) := by
  by_cases hc : t.val % 32 = 0
  · rw [outsAt0_A m c t hc]
    frame_out
    open_payloads
    pointwise
    unfold dx back
    rw [add_zero]
    unfold dy err RmsBwd.inv meanSquare
    simp only [xAt, gAt, wAt, ix2_eta]
  · rw [outsAt0_B m c t hc]
    frame_out
    open_payloads
    pointwise
    unfold dx back
    rw [add_zero]
    unfold dy err RmsBwd.inv meanSquare
    simp only [xAt, gAt, wAt, ix2_eta]

/-- and in bf16. -/
theorem out_4 (c : Dev nD) (t : Fin cfg0.N) (y : S256x2048.Idx) :
    (outsAt0 m c t.val t.isLt).2.1 y = dx (xAt m c t (y 0)) (gAt m c t) (wAt m c t (y 0)) (y 1) := by
  by_cases hc : t.val % 32 = 0
  · rw [outsAt0_A m c t hc]
    frame_out
    open_payloads
    pointwise
    unfold dx back
    rw [add_zero]
    unfold dy err RmsBwd.inv meanSquare
    simp only [xAt, gAt, wAt, ix2_eta]
  · rw [outsAt0_B m c t hc]
    frame_out
    open_payloads
    pointwise
    unfold dx back
    rw [add_zero]
    unfold dy err RmsBwd.inv meanSquare
    simp only [xAt, gAt, wAt, ix2_eta]

/-- What point `t` adds into the gain's gradient and into the lanes: the sums of its 256 rows. -/
def term_5 (c : Dev nD) (t : Fin cfg0.N) (j : S1x2048.Idx) : EReal := ∑ r : Fin 256, dgain (xAt m c t r) (gAt m c t) (wAt m c t r) (j 1)
def term_6 (c : Dev nD) (t : Fin cfg0.N) (j : S1x2048.Idx) : EReal := ∑ r : Fin 256, lane (xAt m c t r) (gAt m c t) (wAt m c t r) (j 1)

/-- The first point starts from zero, -/
theorem first_5 (c : Dev nD) (t : Fin cfg0.N) (h : t.val % 32 = 0) (j : S1x2048.Idx) :
    (outsAt0 m c t.val t.isLt).2.2.1 j = 0 + term_5 m c t j := by
  rw [outsAt0_A m c t h]
  frame_out
  open_payloads
  pointwise
  unfold term_5 dgain dy err RmsBwd.inv meanSquare
  rfl

theorem first_6 (c : Dev nD) (t : Fin cfg0.N) (h : t.val % 32 = 0) (j : S1x2048.Idx) :
    (outsAt0 m c t.val t.isLt).2.2.2 j = 0 + term_6 m c t j := by
  rw [outsAt0_A m c t h]
  frame_out
  open_payloads
  pointwise
  refine Eq.trans ?_ (lanes_block fun r : Fin 256 =>
    err (xAt m c t r) (gAt m c t) (wAt m c t r) (j 1) * err (xAt m c t r) (gAt m c t) (wAt m c t r) (j 1))
  unfold err RmsBwd.inv meanSquare
  rfl

/-- every later one from what the point before left. -/
theorem next_5 (c : Dev nD) (t : Fin cfg0.N) (h : ¬t.val % 32 = 0) (j : S1x2048.Idx) :
    (outsAt0 m c t.val t.isLt).2.2.1 j
      = (outsAt0 m c (t.val - 1) (Nat.lt_of_le_of_lt (Nat.sub_le _ _) t.isLt)).2.2.1 j + term_5 m c t j := by
  rw [outsAt0_B m c t h]
  frame_out
  open_payloads
  pointwise
  unfold term_5 dgain dy err RmsBwd.inv meanSquare
  rfl

theorem next_6 (c : Dev nD) (t : Fin cfg0.N) (h : ¬t.val % 32 = 0) (j : S1x2048.Idx) :
    (outsAt0 m c t.val t.isLt).2.2.2 j
      = (outsAt0 m c (t.val - 1) (Nat.lt_of_le_of_lt (Nat.sub_le _ _) t.isLt)).2.2.2 j + term_6 m c t j := by
  rw [outsAt0_B m c t h]
  frame_out
  open_payloads
  pointwise
  refine Eq.trans ?_ (congrArg ((outsAt0 m c (t.val - 1) (Nat.lt_of_le_of_lt (Nat.sub_le _ _) t.isLt)).2.2.2 j + ·)
    (lanes_block fun r : Fin 256 => err (xAt m c t r) (gAt m c t) (wAt m c t r) (j 1) * err (xAt m c t r) (gAt m c t) (wAt m c t r) (j 1)))
  unfold err RmsBwd.inv meanSquare
  rfl

/-- The gradient after the run, -/
theorem final_3 (c : Dev nD) : (dats m 0 c).arrAt 3 cfg0.N = dxs (m ((c : Thread nD τ).loc main_arg0)) (m ((c : Thread nD τ).loc main_arg1)) (m ((c : Thread nD τ).loc main_arg2)) := by
  refine (dats m 0 c).arrAt_eq_of_covers 3 _ (by decide +kernel) fun t hf y => ?_
  have h0 : ((((View.whole main_v0_0).slice (win0_3.rect t)).emb y) 0 : ℕ) = t.val * 256 + (y 0 : ℕ) := by blk_simp [index_at t]
  have h1 : (((View.whole main_v0_0).slice (win0_3.rect t)).emb y) 1 = y 1 := Fin.ext (by blk_simp [index_at t])
  blk_simp
  rw [after0_3, out_3, xAt_eq m c t _ _ h0, gAt_eq, wAt_eq m c t _ _ h0]
  unfold dxs
  rw [h1]

/-- the same in bf16, -/
theorem final_4 (c : Dev nD) : (dats m 0 c).arrAt 4 cfg0.N = dxs (m ((c : Thread nD τ).loc main_arg0)) (m ((c : Thread nD τ).loc main_arg1)) (m ((c : Thread nD τ).loc main_arg2)) := by
  refine (dats m 0 c).arrAt_eq_of_covers 4 _ (by decide +kernel) fun t hf y => ?_
  have h0 : ((((View.whole main_v0_1).slice (win0_4.rect t)).emb y) 0 : ℕ) = t.val * 256 + (y 0 : ℕ) := by blk_simp [index_at t]
  have h1 : (((View.whole main_v0_1).slice (win0_4.rect t)).emb y) 1 = y 1 := Fin.ext (by blk_simp [index_at t])
  blk_simp
  rw [after0_4, out_4, xAt_eq m c t _ _ h0, gAt_eq, wAt_eq m c t _ _ h0]
  unfold dxs
  rw [h1]

/-- the gain's, -/
theorem final_5 (c : Dev nD) : (dats m 0 c).arrAt 5 cfg0.N = dgains (m ((c : Thread nD τ).loc main_arg0)) (m ((c : Thread nD τ).loc main_arg1)) (m ((c : Thread nD τ).loc main_arg2)) := by
  refine (dats m 0 c).arrAt_eq_of_covers 5 _ (by decide +kernel) fun t hf y => ?_
  have hm : t.val % 32 = 31 := (flush0_5 t).mp hf
  have ht : t.val < 32 := lt_of_lt_of_eq t.isLt (by decide)
  have h1 : (((View.whole main_v0_2).slice (win0_5.rect t)).emb y) 1 = y 1 := Fin.ext (by blk_simp [index_at t])
  blk_simp
  rw [after0_5, Pipeline.eq_sum_fin_of_reset_step_apply_of_flush (fun n h => (outsAt0 m c n h).2.2.1) 32
    (fun _ => (0 : EReal)) (term_5 m c) (first_5 m c) (next_5 m c) t hm, zero_add]
  unfold dgains
  rw [h1]
  refine Fin.sum_mul_add_congr fun s k hl => ?_
  have hs : 32 * (t.val / 32) + s.val = s.val := by omega
  rw [xAt_eq m c _ k ⟨s.val * 256 + k.val, hl⟩ (by simp only [hs]), gAt_eq, wAt_eq m c _ k ⟨s.val * 256 + k.val, hl⟩ (by simp only [hs])]

/-- and the lanes' losses. -/
theorem final_6 (c : Dev nD) : (dats m 0 c).arrAt 6 cfg0.N = lanes (m ((c : Thread nD τ).loc main_arg0)) (m ((c : Thread nD τ).loc main_arg1)) (m ((c : Thread nD τ).loc main_arg2)) := by
  refine (dats m 0 c).arrAt_eq_of_covers 6 _ (by decide +kernel) fun t hf y => ?_
  have hm : t.val % 32 = 31 := (flush0_6 t).mp hf
  have ht : t.val < 32 := lt_of_lt_of_eq t.isLt (by decide)
  have h1 : (((View.whole main_v0_3).slice (win0_6.rect t)).emb y) 1 = y 1 := Fin.ext (by blk_simp [index_at t])
  blk_simp
  rw [after0_6, Pipeline.eq_sum_fin_of_reset_step_apply_of_flush (fun n h => (outsAt0 m c n h).2.2.2) 32
    (fun _ => (0 : EReal)) (term_6 m c) (first_6 m c) (next_6 m c) t hm, zero_add]
  unfold lanes
  rw [h1]
  refine Fin.sum_mul_add_congr fun s k hl => ?_
  have hs : 32 * (t.val / 32) + s.val = s.val := by omega
  rw [xAt_eq m c _ k ⟨s.val * 256 + k.val, hl⟩ (by simp only [hs]), gAt_eq, wAt_eq m c _ k ⟨s.val * 256 + k.val, hl⟩ (by simp only [hs])]

/-- The kernel and the reference leave the same arrays. -/
theorem algebraic : Cert.algebraic_Kernel27Ideal_Reference27Ideal := fun m ρ m' ρ' _ hag =>
  ⟨fun c => dxs (m ((c : Thread nD τ).loc main_arg0)) (m ((c : Thread nD τ).loc main_arg1)) (m ((c : Thread nD τ).loc main_arg2)),
   fun c => dxs (m ((c : Thread nD τ).loc main_arg0)) (m ((c : Thread nD τ).loc main_arg1)) (m ((c : Thread nD τ).loc main_arg2)),
   fun c => dgains (m ((c : Thread nD τ).loc main_arg0)) (m ((c : Thread nD τ).loc main_arg1)) (m ((c : Thread nD τ).loc main_arg2)),
   fun c => lanes (m ((c : Thread nD τ).loc main_arg0)) (m ((c : Thread nD τ).loc main_arg1)) (m ((c : Thread nD τ).loc main_arg2)),
   (θ_run defs _ _).mono (fun _ h c => ⟨(h c).1.trans (final_3 m c), (h c).2.1.trans (final_4 m c), (h c).2.2.1.trans (final_5 m c),
      (h c).2.2.2.1.trans (final_6 m c), (h c).2.2.2.2⟩) (Value.run_blocks m ρ),
   (θ_run Cert.Reference27Ideal.defs _ _).mono (fun _ h c => ⟨(h c).1.trans (by
        unfold Cert.Reference27Ideal.Value.res_main_v48
        rw [(hag c).1, (hag c).2.1, (hag c).2.2]
        funext j
        pointwise
        simp only [dy_eq]
        refine Eq.trans ?_ (dx_eq _ _ _ _)
        unfold RmsBwd.slope dy err RmsBwd.inv meanSquare
        simp only [row, ix2_eta]),
      (h c).2.1.trans (by
        unfold Cert.Reference27Ideal.Value.res_main_v49
        rw [(hag c).1, (hag c).2.1, (hag c).2.2]
        funext j
        pointwise
        simp only [dy_eq]
        refine Eq.trans ?_ (dx_eq _ _ _ _)
        unfold RmsBwd.slope dy err RmsBwd.inv meanSquare
        simp only [row, ix2_eta]),
      (h c).2.2.1.trans (by
        rw [(hag c).1, (hag c).2.1, (hag c).2.2]
        funext j
        pointwise
        simp only [dy_eq]
        exact Finset.sum_congr (M := EReal) rfl fun k _ => mul_comm (G := EReal) _ _),
      (h c).2.2.2.1.trans (by
        rw [(hag c).1, (hag c).2.1, (hag c).2.2]
        funext j
        pointwise
        exact lanes_eq _),
      (h c).2.2.2.2⟩)
    (Cert.Reference27Ideal.Value.run m' ρ')⟩

end Cert.Proof.LossHead

end
-- ==== Proof.Rotary.lean ====
/-
  What the two mixers read from the input projection. Of the dilated mixer's queries and keys the first 32 lanes of every
  head are turned by the rotary embedding: lane `d < 16` and lane `d + 16` are a point of the plane, turned by the angle
  `row · 500000 ^ (−2 d / 32)`. The kernel adds three products of the head, of the head rotated by 112 lanes and of the
  head rotated by 16 lanes with three tables, which hold 0 and 1 where a lane takes no part. Queries are then scaled, the
  forgetting mixer's heads are scaled or taken as they are, and its gate is the logarithm of the logistic function.
-/
module

public import proofs.«01_k».proof.Defs
public import proofs.«01_k».proof.Proof.Common
public import proofs.«01_k».proof.Proof.Gen.Kernel28Ideal.Value
public import proofs.«01_k».proof.Proof.Gen.Reference28Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Rotary

open Idealize.ShloMosaic Idealize.ShloMosaic.TcCoe Idealize.SL.Sem Idealize.ShloMosaic.StableHlo
open Cert.Kernel28Ideal Cert.Kernel28Ideal.Gen

/-- Lane `n` of a row of the projection. -/
def lane (p : S8192x10752.Idx → EReal) (r : Fin 8192) (n : ℕ) : EReal := if h : n < 10752 then p (ix2 r ⟨n, h⟩) else 0

/-- The angle by which row `r` turns the plane `k`, -/
def angle (r k : ℕ) : EReal :=
  (FloatOps.sitofp (F := Ideal) .f32 (BitVec.ofNat 32 r) : EReal) * Ideal.pow (Ideal.ofBits .f32 0x48F42400#32)
    (Ideal.div (-(Ideal.ofBits .f32 0x40000000#32 * (FloatOps.sitofp (F := Ideal) .f32 (BitVec.ofNat 32 k) : EReal))) (Ideal.ofBits .f32 0x42000000#32))

/-- its cosine -/
def cosine (r k : ℕ) : EReal := Ideal.cos (angle r k)

/-- and its sine. -/
def sine (r k : ℕ) : EReal := Ideal.sin (angle r k)

/-- Lane `d` of a head whose lanes are `x`, turned in row `r`. -/
def turn (x : ℕ → EReal) (r d : ℕ) : EReal :=
  if d < 16 then x d * cosine r d - x (16 + d) * sine r d
  else if d < 32 then x d * cosine r (d - 16) + x (d - 16) * sine r (d - 16)
  else x d

/-- The heads of the 1024 lanes from `o` on, turned. -/
def turned (o : ℕ) (p : S8192x10752.Idx → EReal) : S8192x1024.Idx → EReal :=
  fun i => turn (fun d => lane p (i 0) (o + (i 1 : ℕ) / 128 * 128 + d)) (i 0 : ℕ) ((i 1 : ℕ) % 128)

/-- The 1024 lanes from `o` on. -/
def lanes (o : ℕ) (p : S8192x10752.Idx → EReal) : S8192x1024.Idx → EReal := fun i => lane p (i 0) (o + (i 1 : ℕ))

/-- An array times the scale of the queries. -/
def scaled (u : S8192x1024.Idx → EReal) : S8192x1024.Idx → EReal := fun i => u i * Ideal.ofBits .f32 0x3DB504F3#32

/-- The logarithm of the logistic function. -/
def logLogistic (z : EReal) : EReal := min z 0 - Ideal.log (1 + Ideal.exp (-max z (-z)))

/-- The forget gate. -/
def forget (p : S8192x10752.Idx → EReal) (b : S1x128.Idx → EReal) : S8192x128.Idx → EReal :=
  fun i => logLogistic (lane p (i 0) (10240 + (i 1 : ℕ)) + b (ix2 0 (i 1)))

/-- A lane by its number. -/
theorem lane_eq (p : S8192x10752.Idx → EReal) (r : Fin 8192) (q : Fin 10752) (n : ℕ) (h : n = q.val) :
    p (ix2 r q) = lane p r n := by
  subst h
  unfold lane
  rw [dif_pos q.isLt]

/-- The three tables' entries at row `r` and lane `d`: the cosines, -/
def cosTable (r d : ℕ) : EReal := if d < 16 then cosine r d else if d - 16 < 16 then cosine r (d - 16) else 1

/-- the sines of the lanes that are turned against, -/
def sinTable (r d : ℕ) : EReal := if d < 16 then -sine r d else 0

/-- and of those that are turned along. -/
def sinTable' (r d : ℕ) : EReal := if d < 16 then 0 else if d - 16 < 16 then sine r (d - 16) else 0

/-- The three products add up to the turned lane. -/
theorem three_products (x : ℕ → EReal) (r d : ℕ) (hd : d < 128) :
    x d * cosTable r d + x ((d + 128 - 112) % 128) * sinTable r d + x ((d + 128 - 16) % 128) * sinTable' r d = turn x r d := by
  unfold cosTable sinTable sinTable' turn
  by_cases h : d < 16
  · have e : (d + 128 - 112) % 128 = 16 + d := by omega
    simp only [if_pos h, e, mul_zero, add_zero, mul_neg, sub_eq_add_neg]
  · by_cases h' : d < 32
    · have e : (d + 128 - 16) % 128 = d - 16 := by omega
      have h'' : d - 16 < 16 := by omega
      simp only [if_neg h, if_pos h', if_pos h'', e, mul_zero, add_zero]
    · have h'' : ¬ d - 16 < 16 := by omega
      simp only [if_neg h, if_neg h', if_neg h'', mul_zero, add_zero, mul_one]

/-- The logarithm of one. -/
theorem log_one : Ideal.log 1 = 0 := by
  rw [← EReal.coe_one, Ideal.log_coe, if_neg (by norm_num), Real.log_one, EReal.coe_zero]

/-- The reference's logarithm of the logistic function, `−(max (−z) 0 + log (1 + exp (−|z|)))`, is the kernel's. -/
theorem log_logistic (z : EReal) :
    -(max (-z) 0 + Ideal.log1p (Ideal.exp (-max (-z) (- -z)))) = logLogistic z := by
  unfold logLogistic Ideal.log1p
  rw [neg_neg, max_comm (-z) z]
  have hf : ∃ a : ℝ, Ideal.log (1 + Ideal.exp (-max z (-z))) = (a : EReal) := by
    induction z using EReal.rec with
    | bot => exact ⟨0, by simp [log_one]⟩
    | coe r =>
      refine ⟨Real.log (1 + Real.exp (-max r (-r))), ?_⟩
      have hp : ¬ 1 + Real.exp (-max r (-r)) ≤ 0 := not_le.mpr (by positivity)
      rw [← EReal.coe_neg, ← EReal.coe_strictMono.monotone.map_max, ← EReal.coe_neg, Ideal.exp_coe, ← EReal.coe_one, ← EReal.coe_add, Ideal.log_coe, if_neg hp]
    | top => exact ⟨0, by simp [log_one]⟩
  obtain ⟨a, ha⟩ := hf
  rw [ha, EReal.neg_add (Or.inr (EReal.coe_ne_top a)) (Or.inr (EReal.coe_ne_bot a)), sub_eq_add_neg]
  congr 1
  rcases le_total z 0 with h | h
  · rw [max_eq_left (EReal.neg_nonneg.mpr h), min_eq_left h, neg_neg]
  · rw [max_eq_right ((EReal.neg_le_neg_iff.mpr h).trans_eq neg_zero), min_eq_right h, neg_zero]

variable (m : (ℓ : Loc nD τ sig) → Buf (Elt Ideal) ℓ)

/-- Which block each window holds at grid point `t`. -/
theorem index_at : ∀ t : Fin grid0.N, win0_0.index t = ![t.val, 0] ∧ win0_1.index t = ![t.val, 1] ∧ win0_2.index t = ![t.val, 2]
    ∧ win0_3.index t = ![t.val, 3] ∧ win0_4.index t = ![t.val, 4] ∧ win0_5.index t = ![t.val, 5] ∧ win0_6.index t = ![t.val, 80]
    ∧ win0_7.index t = ![t.val, 0] ∧ win0_8.index t = ![t.val, 0] ∧ win0_9.index t = ![t.val, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] := by decide +kernel

/-- The tables as the kernel's host code builds them: the cosines, -/
theorem table_cos (c : Dev nD) (i : S8192x128.Idx) : V m c main_v21 i = cosTable (i 0 : ℕ) (i 1 : ℕ) := by
  simp only [V, hostOps0]
  after_results_simp
  pointwise
  after_results_simp
  pointwise
  rfl

/-- the sines that are subtracted, -/
theorem table_sin (c : Dev nD) (i : S8192x128.Idx) : V m c main_v23 i = sinTable (i 0 : ℕ) (i 1 : ℕ) := by
  simp only [V, hostOps0]
  after_results_simp
  pointwise
  after_results_simp
  pointwise
  simp only [dite_eq_ite, ite_self]
  rfl

/-- and the sines that are added. -/
theorem table_sin' (c : Dev nD) (i : S8192x128.Idx) : V m c main_v24 i = sinTable' (i 0 : ℕ) (i 1 : ℕ) := by
  simp only [V, hostOps0]
  after_results_simp
  pointwise
  after_results_simp
  pointwise
  rfl

set_option maxHeartbeats 2000000 in
/-- The six windows of a thousand lanes, each the block at its own columns of the projection. -/
theorem columns (c : Dev nD) (t : Fin cfg0.N) (r : Fin 256) (q : Fin 1024) (R : Fin 8192) (hR : (R : ℕ) = t.val * 256 + r) :
    (∀ n : ℕ, n = 0 + (q : ℕ) → X0_0 m c t (ix2 r q) = lane (m ((c : Thread nD τ).loc main_arg0)) R n)
    ∧ (∀ n : ℕ, n = 1024 + (q : ℕ) → X0_1 m c t (ix2 r q) = lane (m ((c : Thread nD τ).loc main_arg0)) R n)
    ∧ (∀ n : ℕ, n = 2048 + (q : ℕ) → X0_2 m c t (ix2 r q) = lane (m ((c : Thread nD τ).loc main_arg0)) R n)
    ∧ (∀ n : ℕ, n = 3072 + (q : ℕ) → X0_3 m c t (ix2 r q) = lane (m ((c : Thread nD τ).loc main_arg0)) R n)
    ∧ (∀ n : ℕ, n = 4096 + (q : ℕ) → X0_4 m c t (ix2 r q) = lane (m ((c : Thread nD τ).loc main_arg0)) R n)
    ∧ (∀ n : ℕ, n = 5120 + (q : ℕ) → X0_5 m c t (ix2 r q) = lane (m ((c : Thread nD τ).loc main_arg0)) R n) := by
  have hq := q.isLt
  refine ⟨?_, ?_, ?_, ?_, ?_, ?_⟩ <;> intro n hn <;> rw [← lane_eq _ R ⟨n, by omega⟩ n rfl]
  all_goals
    simp only [X0_0, X0_1, X0_2, X0_3, X0_4, X0_5, Pipeline.Window.fill]
    first
      | rw [dif_pos (moved0_0 t _)]
      | rw [dif_pos (moved0_1 t _)]
      | rw [dif_pos (moved0_2 t _)]
      | rw [dif_pos (moved0_3 t _)]
      | rw [dif_pos (moved0_4 t _)]
      | rw [dif_pos (moved0_5 t _)]
    blk_ext [iblk, V, index_at t]

/-- A turned lane as the kernel adds it up: `X` is a block of the heads, which begin at lane `o` of the projection, and `l` the lane. -/
theorem head_entry (c : Dev nD) (t : Fin cfg0.N) (X : S256x1024.Idx → EReal) (p : S8192x10752.Idx → EReal) (o : ℕ) (r : Fin 256)
    (R : Fin 8192) (hR : (R : ℕ) = t.val * 256 + r) (hX : ∀ (q : Fin 1024) (n : ℕ), n = o + (q : ℕ) → X (ix2 r q) = lane p R n)
    (l n0 n1 n2 : ℕ) (p0 : n0 < 1024) (p1 : n1 < 1024) (p2 : n2 < 1024) (h0 : n0 = l) (h1 : n1 = l / 128 * 128 + (l % 128 + 128 - 112) % 128)
    (h2 : n2 = l / 128 * 128 + (l % 128 + 128 - 16) % 128) (j : S256x128.Idx) (hj0 : (j 0 : ℕ) = r) (hj1 : (j 1 : ℕ) = l % 128) :
    X (ix2 r ⟨n0, p0⟩) * iblk m c 7 t j + X (ix2 r ⟨n1, p1⟩) * iblk m c 8 t j + X (ix2 r ⟨n2, p2⟩) * iblk m c 9 t j
      = turn (fun d => lane p R (o + l / 128 * 128 + d)) (R : ℕ) (l % 128) := by
  have c7 : iblk m c 7 t j = V m c main_v21 (ix2 R (j 1)) := by blk_ext [iblk, index_at t]
  have c8 : iblk m c 8 t j = V m c main_v23 (ix2 R (j 1)) := by blk_ext [iblk, index_at t]
  have c9 : iblk m c 9 t j = V m c main_v24 (ix2 R (j 1)) := by blk_ext [iblk, index_at t]
  rw [← three_products _ _ _ (Nat.mod_lt l (by decide)), c7, c8, c9, table_cos, table_sin, table_sin',
    hX _ (o + l / 128 * 128 + l % 128) (by show _ = o + n0; omega), hX _ (o + l / 128 * 128 + (l % 128 + 128 - 112) % 128) (by show _ = o + n1; omega),
    hX _ (o + l / 128 * 128 + (l % 128 + 128 - 16) % 128) (by show _ = o + n2; omega)]
  show _ * cosTable (R : ℕ) (j 1 : ℕ) + _ * sinTable (R : ℕ) (j 1 : ℕ) + _ * sinTable' (R : ℕ) (j 1 : ℕ) = _
  rw [hj1]

/-- What point `t` leaves of the dilated mixer's queries, -/
theorem out_11 (c : Dev nD) (t : Fin cfg0.N) (y : S256x1024.Idx) (i : S8192x1024.Idx) (e0 : (i 0 : ℕ) = t.val * 256 + (y 0 : ℕ))
    (e1 : (i 1 : ℕ) = y 1) : (outsAt0 m c t).1 y = scaled (turned 0 (m ((c : Thread nD τ).loc main_arg0))) i := by
  unfold outsAt0
  frame_out
  canon_tiles x h
  all_goals
    open_payloads
    pointwise
    refine congrArg (fun e : EReal => e * Ideal.ofBits .f32 0x3DB504F3#32) ?_
    exact head_entry m c t (X0_0 m c t) _ 0 (x 0) (i 0) (by omega) (fun q n hn => (columns m c t (x 0) q (i 0) (by omega)).1 n hn)
      (i 1) _ _ _ _ _ _ (by omega) (by omega) (by omega) x rfl (by omega)

/-- of its keys, -/
theorem out_12 (c : Dev nD) (t : Fin cfg0.N) (y : S256x1024.Idx) (i : S8192x1024.Idx) (e0 : (i 0 : ℕ) = t.val * 256 + (y 0 : ℕ))
    (e1 : (i 1 : ℕ) = y 1) : (outsAt0 m c t).2.1 y = turned 1024 (m ((c : Thread nD τ).loc main_arg0)) i := by
  unfold outsAt0
  frame_out
  canon_tiles x h
  all_goals
    open_payloads
    pointwise
    exact head_entry m c t (X0_1 m c t) _ 1024 (x 0) (i 0) (by omega) (fun q n hn => (columns m c t (x 0) q (i 0) (by omega)).2.1 n hn)
      (i 1) _ _ _ _ _ _ (by omega) (by omega) (by omega) x rfl (by omega)

/-- of its values, -/
theorem out_13 (c : Dev nD) (t : Fin cfg0.N) (y : S256x1024.Idx) (i : S8192x1024.Idx) (h0 : (i 0 : ℕ) = t.val * 256 + (y 0 : ℕ))
    (h1 : (i 1 : ℕ) = y 1) : (outsAt0 m c t).2.2.1 y = lanes 2048 (m ((c : Thread nD τ).loc main_arg0)) i := by
  unfold outsAt0
  frame_out
  open_payloads
  pointwise
  exact (congrArg (X0_2 m c t) (ix2_eta y).symm).trans ((columns m c t (y 0) (y 1) (i 0) h0).2.2.1 _ (by rw [h1]))

/-- of the forgetting mixer's queries, -/
theorem out_14 (c : Dev nD) (t : Fin cfg0.N) (y : S256x1024.Idx) (i : S8192x1024.Idx) (h0 : (i 0 : ℕ) = t.val * 256 + (y 0 : ℕ))
    (h1 : (i 1 : ℕ) = y 1) : (outsAt0 m c t).2.2.2.1 y = scaled (lanes 3072 (m ((c : Thread nD τ).loc main_arg0))) i := by
  unfold outsAt0
  frame_out
  open_payloads
  pointwise
  refine congrArg (fun e : EReal => e * Ideal.ofBits .f32 0x3DB504F3#32) ?_
  exact (congrArg (X0_3 m c t) (ix2_eta y).symm).trans ((columns m c t (y 0) (y 1) (i 0) h0).2.2.2.1 _ (by rw [h1]))

/-- of its keys, -/
theorem out_15 (c : Dev nD) (t : Fin cfg0.N) (y : S256x1024.Idx) (i : S8192x1024.Idx) (h0 : (i 0 : ℕ) = t.val * 256 + (y 0 : ℕ))
    (h1 : (i 1 : ℕ) = y 1) : (outsAt0 m c t).2.2.2.2.1 y = lanes 4096 (m ((c : Thread nD τ).loc main_arg0)) i := by
  unfold outsAt0
  frame_out
  open_payloads
  pointwise
  exact (congrArg (X0_4 m c t) (ix2_eta y).symm).trans ((columns m c t (y 0) (y 1) (i 0) h0).2.2.2.2.1 _ (by rw [h1]))

/-- of its values -/
theorem out_16 (c : Dev nD) (t : Fin cfg0.N) (y : S256x1024.Idx) (i : S8192x1024.Idx) (h0 : (i 0 : ℕ) = t.val * 256 + (y 0 : ℕ))
    (h1 : (i 1 : ℕ) = y 1) : (outsAt0 m c t).2.2.2.2.2.1 y = lanes 5120 (m ((c : Thread nD τ).loc main_arg0)) i := by
  unfold outsAt0
  frame_out
  open_payloads
  pointwise
  exact (congrArg (X0_5 m c t) (ix2_eta y).symm).trans ((columns m c t (y 0) (y 1) (i 0) h0).2.2.2.2.2 _ (by rw [h1]))

/-- and of its gate. -/
theorem out_17 (c : Dev nD) (t : Fin cfg0.N) (y : S256x128.Idx) (i : S8192x128.Idx) (h0 : (i 0 : ℕ) = t.val * 256 + (y 0 : ℕ))
    (h1 : (i 1 : ℕ) = y 1) : (outsAt0 m c t).2.2.2.2.2.2 y = forget (m ((c : Thread nD τ).loc main_arg0)) (m ((c : Thread nD τ).loc main_arg1)) i := by
  have hq : (i 1 : ℕ) < 128 := (i 1).isLt
  have e6 : iblk m c 6 t y = lane (m ((c : Thread nD τ).loc main_arg0)) (i 0) (10240 + (i 1 : ℕ)) := by
    rw [← lane_eq _ (i 0) ⟨10240 + (i 1 : ℕ), by omega⟩ _ rfl]
    blk_ext [iblk, V, index_at t]
  have e10 : iblk m c 10 t (ix2 0 (y 1)) = (m ((c : Thread nD τ).loc main_arg1)) (ix2 0 (i 1)) := by blk_ext [iblk, V, index_at t]
  unfold outsAt0
  frame_out
  pointwise [k0_pay1, k0_pay29, k0_pay30, k0_pay31]
  rw [e6, e10]
  show min _ 0 - Ideal.log (1 + Ideal.exp (0 - max _ (-_))) = _
  rw [zero_sub]
  rfl

/-- The dilated mixer's queries after the run, -/
theorem final_11 (c : Dev nD) : (dats m 0 c).arrAt 11 cfg0.N = scaled (turned 0 (m ((c : Thread nD τ).loc main_arg0))) := by
  refine (dats m 0 c).arrAt_eq_of_covers 11 _ (by decide +kernel) fun t hf y => ?_
  blk_simp
  rw [after0_11]
  exact out_11 m c t y (((View.whole main_v25_0).slice (win0_11.rect t)).emb y) (by blk_simp [index_at t]) (by blk_simp [index_at t])

/-- its keys, -/
theorem final_12 (c : Dev nD) : (dats m 0 c).arrAt 12 cfg0.N = turned 1024 (m ((c : Thread nD τ).loc main_arg0)) := by
  refine (dats m 0 c).arrAt_eq_of_covers 12 _ (by decide +kernel) fun t hf y => ?_
  blk_simp
  rw [after0_12]
  exact out_12 m c t y (((View.whole main_v25_1).slice (win0_12.rect t)).emb y) (by blk_simp [index_at t]) (by blk_simp [index_at t])

/-- its values, -/
theorem final_13 (c : Dev nD) : (dats m 0 c).arrAt 13 cfg0.N = lanes 2048 (m ((c : Thread nD τ).loc main_arg0)) := by
  refine (dats m 0 c).arrAt_eq_of_covers 13 _ (by decide +kernel) fun t hf y => ?_
  blk_simp
  rw [after0_13]
  exact out_13 m c t y (((View.whole main_v25_2).slice (win0_13.rect t)).emb y) (by blk_simp [index_at t]) (by blk_simp [index_at t])

/-- the forgetting mixer's queries, -/
theorem final_14 (c : Dev nD) : (dats m 0 c).arrAt 14 cfg0.N = scaled (lanes 3072 (m ((c : Thread nD τ).loc main_arg0))) := by
  refine (dats m 0 c).arrAt_eq_of_covers 14 _ (by decide +kernel) fun t hf y => ?_
  blk_simp
  rw [after0_14]
  exact out_14 m c t y (((View.whole main_v25_3).slice (win0_14.rect t)).emb y) (by blk_simp [index_at t]) (by blk_simp [index_at t])

/-- its keys, -/
theorem final_15 (c : Dev nD) : (dats m 0 c).arrAt 15 cfg0.N = lanes 4096 (m ((c : Thread nD τ).loc main_arg0)) := by
  refine (dats m 0 c).arrAt_eq_of_covers 15 _ (by decide +kernel) fun t hf y => ?_
  blk_simp
  rw [after0_15]
  exact out_15 m c t y (((View.whole main_v25_4).slice (win0_15.rect t)).emb y) (by blk_simp [index_at t]) (by blk_simp [index_at t])

/-- its values -/
theorem final_16 (c : Dev nD) : (dats m 0 c).arrAt 16 cfg0.N = lanes 5120 (m ((c : Thread nD τ).loc main_arg0)) := by
  refine (dats m 0 c).arrAt_eq_of_covers 16 _ (by decide +kernel) fun t hf y => ?_
  blk_simp
  rw [after0_16]
  exact out_16 m c t y (((View.whole main_v25_5).slice (win0_16.rect t)).emb y) (by blk_simp [index_at t]) (by blk_simp [index_at t])

/-- and its gate. -/
theorem final_17 (c : Dev nD) : (dats m 0 c).arrAt 17 cfg0.N = forget (m ((c : Thread nD τ).loc main_arg0)) (m ((c : Thread nD τ).loc main_arg1)) := by
  refine (dats m 0 c).arrAt_eq_of_covers 17 _ (by decide +kernel) fun t hf y => ?_
  blk_simp
  rw [after0_17]
  exact out_17 m c t y (((View.whole main_v25_6).slice (win0_17.rect t)).emb y) (by blk_simp [index_at t]) (by blk_simp [index_at t])

/-- A value that is a turned lane in each of a head's three parts is the turned lane. -/
theorem turned_eq (o : ℕ) (p : S8192x10752.Idx → EReal) (j : S8192x1024.Idx) (e : EReal)
    (h0 : (j 1 : ℕ) % 128 < 16 → e = lane p (j 0) (o + (j 1 : ℕ) / 128 * 128 + (j 1 : ℕ) % 128) * cosine (j 0 : ℕ) ((j 1 : ℕ) % 128)
      - lane p (j 0) (o + (j 1 : ℕ) / 128 * 128 + (16 + (j 1 : ℕ) % 128)) * sine (j 0 : ℕ) ((j 1 : ℕ) % 128))
    (h1 : ¬ (j 1 : ℕ) % 128 < 16 → (j 1 : ℕ) % 128 < 32 →
      e = lane p (j 0) (o + (j 1 : ℕ) / 128 * 128 + (j 1 : ℕ) % 128) * cosine (j 0 : ℕ) ((j 1 : ℕ) % 128 - 16)
        + lane p (j 0) (o + (j 1 : ℕ) / 128 * 128 + ((j 1 : ℕ) % 128 - 16)) * sine (j 0 : ℕ) ((j 1 : ℕ) % 128 - 16))
    (h2 : ¬ (j 1 : ℕ) % 128 < 32 → e = lane p (j 0) (o + (j 1 : ℕ) / 128 * 128 + (j 1 : ℕ) % 128)) : e = turned o p j := by
  unfold turned turn
  by_cases h : (j 1 : ℕ) % 128 < 16
  · rw [if_pos h]
    exact h0 h
  · rw [if_neg h]
    by_cases h' : (j 1 : ℕ) % 128 < 32
    · rw [if_pos h']
      exact h1 h h'
    · rw [if_neg h']
      exact h2 h'

/-- The reference's queries of the dilated mixer -/
theorem ref_queries (m : (ℓ : Loc Cert.Reference28Ideal.nD Cert.Reference28Ideal.τ Cert.Reference28Ideal.sig) → Buf (Elt Ideal) ℓ)
    (c : Dev Cert.Reference28Ideal.nD) : Cert.Reference28Ideal.Value.res_main_v98 m c = scaled (turned 0 (m ((c : Thread Cert.Reference28Ideal.nD Cert.Reference28Ideal.τ).loc Cert.Reference28Ideal.main_arg0))) := by
  unfold Cert.Reference28Ideal.Value.res_main_v98
  funext j
  pointwise
  refine congrArg (fun e : EReal => e * Ideal.ofBits .f32 0x3DB504F3#32) ?_
  refine turned_eq 0 _ j _ (fun h => ?_) (fun h h' => ?_) (fun h => ?_)
  · rw [dif_pos (lt_trans h (by decide)), dif_pos h]
    exact congrArg₂ (fun a b : EReal => a * cosine (j 0 : ℕ) ((j 1 : ℕ) % 128) - b * sine (j 0 : ℕ) ((j 1 : ℕ) % 128))
      (lane_eq _ (j 0) _ _ (by dsimp only; omega)) (lane_eq _ (j 0) _ _ (by dsimp only; omega))
  · rw [dif_pos h', dif_neg h]
    exact congrArg₂ (fun a b : EReal => a * cosine (j 0 : ℕ) ((j 1 : ℕ) % 128 - 16) + b * sine (j 0 : ℕ) ((j 1 : ℕ) % 128 - 16))
      (lane_eq _ (j 0) _ _ (by dsimp only; omega)) (lane_eq _ (j 0) _ _ (by dsimp only; omega))
  · rw [dif_neg h]
    exact lane_eq _ (j 0) _ _ (by dsimp only; omega)

/-- and its keys. -/
theorem ref_keys (m : (ℓ : Loc Cert.Reference28Ideal.nD Cert.Reference28Ideal.τ Cert.Reference28Ideal.sig) → Buf (Elt Ideal) ℓ)
    (c : Dev Cert.Reference28Ideal.nD) : Cert.Reference28Ideal.Value.res_main_v99 m c = turned 1024 (m ((c : Thread Cert.Reference28Ideal.nD Cert.Reference28Ideal.τ).loc Cert.Reference28Ideal.main_arg0)) := by
  unfold Cert.Reference28Ideal.Value.res_main_v99
  funext j
  pointwise
  refine turned_eq 1024 _ j _ (fun h => ?_) (fun h h' => ?_) (fun h => ?_)
  · rw [dif_pos (lt_trans h (by decide)), dif_pos h]
    exact congrArg₂ (fun a b : EReal => a * cosine (j 0 : ℕ) ((j 1 : ℕ) % 128) - b * sine (j 0 : ℕ) ((j 1 : ℕ) % 128))
      (lane_eq _ (j 0) _ _ (by dsimp only; omega)) (lane_eq _ (j 0) _ _ (by dsimp only; omega))
  · rw [dif_pos h', dif_neg h]
    exact congrArg₂ (fun a b : EReal => a * cosine (j 0 : ℕ) ((j 1 : ℕ) % 128 - 16) + b * sine (j 0 : ℕ) ((j 1 : ℕ) % 128 - 16))
      (lane_eq _ (j 0) _ _ (by dsimp only; omega)) (lane_eq _ (j 0) _ _ (by dsimp only; omega))
  · rw [dif_neg h]
    exact lane_eq _ (j 0) _ _ (by dsimp only; omega)

/-- The kernel and the reference leave the same arrays. -/
theorem algebraic : Cert.algebraic_Kernel28Ideal_Reference28Ideal := fun m ρ m' ρ' _ hag =>
  ⟨fun c => scaled (turned 0 (m ((c : Thread nD τ).loc main_arg0))), fun c => turned 1024 (m ((c : Thread nD τ).loc main_arg0)), fun c => lanes 2048 (m ((c : Thread nD τ).loc main_arg0)), fun c => scaled (lanes 3072 (m ((c : Thread nD τ).loc main_arg0))), fun c => lanes 4096 (m ((c : Thread nD τ).loc main_arg0)), fun c => lanes 5120 (m ((c : Thread nD τ).loc main_arg0)), fun c => forget (m ((c : Thread nD τ).loc main_arg0)) (m ((c : Thread nD τ).loc main_arg1)),
   (θ_run defs _ _).mono (fun _ h c => ⟨(h c).1.trans (final_11 m c), (h c).2.1.trans (final_12 m c), (h c).2.2.1.trans (final_13 m c), (h c).2.2.2.1.trans (final_14 m c), (h c).2.2.2.2.1.trans (final_15 m c), (h c).2.2.2.2.2.1.trans (final_16 m c), (h c).2.2.2.2.2.2.1.trans (final_17 m c), (h c).2.2.2.2.2.2.2⟩) (Value.run_blocks m ρ),
   (θ_run Cert.Reference28Ideal.defs _ _).mono (fun _ h c => ⟨
      (h c).1.trans ((ref_queries m' c).trans (congrArg (fun p => scaled (turned 0 p)) (hag c).1)),
      (h c).2.1.trans ((ref_keys m' c).trans (congrArg (turned 1024) (hag c).1)),
      (h c).2.2.1.trans (by
        rw [(hag c).1]
        funext j
        pointwise
        exact lane_eq _ (j 0) _ _ rfl),
      (h c).2.2.2.1.trans (by
        rw [(hag c).1]
        funext j
        pointwise
        exact congrArg (fun e : EReal => e * Ideal.ofBits .f32 0x3DB504F3#32) (lane_eq _ (j 0) _ _ rfl)),
      (h c).2.2.2.2.1.trans (by
        rw [(hag c).1]
        funext j
        pointwise
        exact lane_eq _ (j 0) _ _ rfl),
      (h c).2.2.2.2.2.1.trans (by
        rw [(hag c).1]
        funext j
        pointwise
        exact lane_eq _ (j 0) _ _ rfl),
      (h c).2.2.2.2.2.2.1.trans (by
        rw [(hag c).1, (hag c).2]
        funext j
        pointwise
        simp only [ne_eq, not_true, if_false]
        exact (log_logistic _).trans (congrArg (fun e : EReal => logLogistic (e + _)) (lane_eq _ (j 0) _ _ rfl))),
      (h c).2.2.2.2.2.2.2⟩)
    (Cert.Reference28Ideal.Value.run m' ρ')⟩

end Cert.Proof.Rotary

end
-- ==== Proof.DProjRef.lean ====
/-
  What the gradient of the input projection is, and that the reference's value is it: the heads of the two rotary parts turned
  back, the other parts copied, and the forget gate's gradient, the derivative of the logarithm of the logistic function, which the
  reference takes as `exp (x - log (1 + exp x))`.
-/
module

public import proofs.«01_k».proof.Proof.Common
public import proofs.«01_k».proof.Proof.Rotary
public import proofs.«01_k».proof.Proof.Gen.Reference29Ideal.Run
public import Idealize.ShloMosaic.Lib.Pointwise

@[expose] public section

set_option maxRecDepth 16384

noncomputable section

namespace Cert.Proof.DProj

open Idealize.ShloMosaic Idealize.ShloMosaic.TcCoe Idealize.SL.Sem Idealize.ShloMosaic.StableHlo
open Cert.Reference29Ideal Cert.Reference29Ideal.Gen Cert.Reference29Ideal.Value
open Cert.Proof.Rotary (cosine sine scaled log_one)

/-- Lane `n` of a row of an array of width `w`. -/
def at' {w : ℕ} (g : (⟨2, ![8192, w]⟩ : Shape).Idx → EReal) (r : Fin 8192) (n : ℕ) : EReal := if h : n < w then g (ix2 r ⟨n, h⟩) else 0

/-- A lane by its number. -/
theorem at'_eq {w : ℕ} (g : (⟨2, ![8192, w]⟩ : Shape).Idx → EReal) (r : Fin 8192) (q : Fin w) (n : ℕ) (h : n = q.val) :
    g (ix2 r q) = at' g r n := by
  subst h
  unfold at'
  rw [dif_pos q.isLt]

/-- Lane `d` of a head whose lanes are `x`, turned back in row `r`. -/
def unturn (x : ℕ → EReal) (r d : ℕ) : EReal :=
  if d < 16 then x d * cosine r d + x (16 + d) * sine r d
  else if d < 32 then x d * cosine r (d - 16) - x (d - 16) * sine r (d - 16)
  else x d

/-- The heads of an array, turned back. -/
def unturned (g : S8192x1024.Idx → EReal) (r : Fin 8192) (n : ℕ) : EReal :=
  unturn (fun d => at' g r (n / 128 * 128 + d)) (r : ℕ) (n % 128)

/-- The gradient of the forget gate before its logarithm. -/
def dforget (dl : S8192x128.Idx → EReal) (p : S8192x10752.Idx → EReal) (b : S1x128.Idx → EReal) : S8192x128.Idx → EReal :=
  fun i => dl i * logistic (-(at' p (i 0) (10240 + (i 1 : ℕ)) + b (ix2 0 (i 1))))

/-- The projection's gradient. -/
def assembled (dqd dkd dvd dqf dkf dvf : S8192x1024.Idx → EReal) (dgd dgf : S8192x2048.Idx → EReal) (df : S8192x128.Idx → EReal)
    (r : Fin 8192) (n : ℕ) : EReal :=
  if n < 1024 then unturned dqd r n * Ideal.ofBits .f32 0x3DB504F3#32
  else if n < 2048 then unturned dkd r (n - 1024)
  else if n < 3072 then at' dvd r (n - 2048)
  else if n < 4096 then at' dqf r (n - 3072) * Ideal.ofBits .f32 0x3DB504F3#32
  else if n < 5120 then at' dkf r (n - 4096)
  else if n < 6144 then at' dvf r (n - 5120)
  else if n < 8192 then at' dgd r (n - 6144)
  else if n < 10240 then at' dgf r (n - 8192)
  else if n < 10368 then at' df r (n - 10240)
  else 0

/-- It, as an array. -/
def dproj (dqd dkd dvd dqf dkf dvf : S8192x1024.Idx → EReal) (dgd dgf : S8192x2048.Idx → EReal) (df : S8192x128.Idx → EReal) :
    S8192x10752.Idx → EReal := fun i => assembled dqd dkd dvd dqf dkf dvf dgd dgf df (i 0) (i 1 : ℕ)

/-- The bias's gradient. -/
def dbias (df : S8192x128.Idx → EReal) : S1x128.Idx → EReal := fun i => ∑ k : Fin 8192, df (ix2 k (i 1))

/-- A value that is a lane turned back in each of a head's three parts is the lane turned back. -/
theorem unturned_eq (g : S8192x1024.Idx → EReal) (r : Fin 8192) (n : ℕ) (e : EReal)
    (h0 : n % 128 < 16 → e = at' g r (n / 128 * 128 + n % 128) * cosine r (n % 128) + at' g r (n / 128 * 128 + (16 + n % 128)) * sine r (n % 128))
    (h1 : ¬ n % 128 < 16 → n % 128 < 32 → e = at' g r (n / 128 * 128 + n % 128) * cosine r (n % 128 - 16)
      - at' g r (n / 128 * 128 + (n % 128 - 16)) * sine r (n % 128 - 16))
    (h2 : ¬ n % 128 < 32 → e = at' g r (n / 128 * 128 + n % 128)) : e = unturned g r n := by
  unfold unturned unturn
  by_cases h : n % 128 < 16
  · rw [if_pos h]
    exact h0 h
  · rw [if_neg h]
    by_cases h' : n % 128 < 32
    · rw [if_pos h']
      exact h1 h h'
    · rw [if_neg h']
      exact h2 h'

set_option maxHeartbeats 1000000 in
/-- The reference's sum of the three parts of every head, each padded to a head's width, is the heads turned back. -/
theorem heads (G : S8192x1024.Idx → EReal) (g : FVec Ideal S8x8192x128 .f32) (a b : FVec Ideal S8x8192x16 .f32)
    (ca sa cb sb : FVec Ideal S1x8192x16 .f32)
    (hg : ∀ i, g i = at' G (i 1) ((i 0 : ℕ) * 128 + (i 2 : ℕ))) (ha : ∀ i, a i = at' G (i 1) ((i 0 : ℕ) * 128 + (i 2 : ℕ)))
    (hb : ∀ i, b i = at' G (i 1) ((i 0 : ℕ) * 128 + (16 + (i 2 : ℕ))))
    (hca : ∀ i, ca i = cosine (i 1 : ℕ) (i 2 : ℕ)) (hcb : ∀ i, cb i = cosine (i 1 : ℕ) (i 2 : ℕ))
    (hsa : ∀ i, sa i = sine (i 1 : ℕ) (i 2 : ℕ)) (hsb : ∀ i, sb i = sine (i 1 : ℕ) (i 2 : ℕ)) (j : S8192x1024.Idx) :
    (shapeCast S8192x1024 (transpose S8192x8x128 [1, 0, 2] (addf (addf (pad S8x8192x128 ![0, 0, 32] ![0, 0, 0] ![0, 0, 0] (extractStridedSlice S8x8192x96 ![0, 0, 32] g slices_S8x8192x128_S8x8192x96_0_0_32) (constant (F := Ideal) S_ .f32 0x00000000#32) pads_S8x8192x96_S8x8192x128_000_000_3200 h_S_) (pad S8x8192x128 ![0, 0, 16] ![0, 0, 96] ![0, 0, 0] (addf (mulf b (broadcastInDim S8x8192x16 ![0, 1, 2] bcast_S1x8192x16_S8x8192x16_0_1_2 cb)) (mulf (Host.negf a) (broadcastInDim S8x8192x16 ![0, 1, 2] bcast_S1x8192x16_S8x8192x16_0_1_2 sb))) (constant S_ .f32 0x00000000#32) pads_S8x8192x16_S8x8192x128_000_000_16960 h_S_)) (pad S8x8192x128 ![0, 0, 0] ![0, 0, 112] ![0, 0, 0] (addf (mulf b (broadcastInDim S8x8192x16 ![0, 1, 2] bcast_S1x8192x16_S8x8192x16_0_1_2 sa)) (mulf a (broadcastInDim S8x8192x16 ![0, 1, 2] bcast_S1x8192x16_S8x8192x16_0_1_2 ca))) (constant S_ .f32 0x00000000#32) pads_S8x8192x16_S8x8192x128_000_000_01120 h_S_)) transposes_S8x8192x128_S8192x8x128_1_0_2) shapeCasts_S8192x8x128_S8192x1024 : FVec Ideal S8192x1024 .f32) j
      = unturned G (j 0) (j 1 : ℕ) := by
  have hj : (j 1 : ℕ) < 1024 := (j 1).isLt
  pointwise [hg, ha, hb, hca, hcb, hsa, hsb]
  have hj' : (j 1 : ℕ) / 128 < 8 := by omega
  refine unturned_eq G (j 0) (j 1 : ℕ) _ (fun h => ?_) (fun h h' => ?_) (fun h => ?_)
  · rw [dif_neg (by omega), dif_neg (by omega), dif_pos ⟨hj', h⟩, zero_add, zero_add, add_comm]
  · rw [dif_neg (by omega), dif_pos (by omega), dif_neg (by omega), zero_add, add_zero, neg_mul, ← sub_eq_add_neg,
      show 16 + ((j 1 : ℕ) % 128 - 16) = (j 1 : ℕ) % 128 by omega]
  · rw [dif_pos (by omega), dif_neg (by omega), dif_neg (by omega), add_zero, add_zero,
      show 32 + ((j 1 : ℕ) % 128 - 32) = (j 1 : ℕ) % 128 by omega]

/-- The scale of the queries is a positive real, -/
theorem scale_real : ∃ a : ℝ, 0 ≤ a ∧ Ideal.ofBits .f32 0x3DB504F3#32 = (a : EReal) := by
  refine ⟨(11863283 : ℝ) * 2 ^ (-27 : ℤ), by positivity, ?_⟩
  simp [Ideal.ofBits, Ideal.ieee, -EReal.coe_mul]

/-- so that heads may be scaled before or after they are turned back. -/
theorem unturned_scaled (g : S8192x1024.Idx → EReal) (r : Fin 8192) (n : ℕ) (hn : n < 1024) :
    unturned (scaled g) r n = unturned g r n * Ideal.ofBits .f32 0x3DB504F3#32 := by
  obtain ⟨a, ha, e⟩ := scale_real
  have hl : ∀ k, at' (scaled g) r k = at' g r k * (a : EReal) := fun k => by
    unfold at' scaled
    rw [e]
    split_ifs
    · rfl
    · rw [zero_mul]
  have hd : ∀ x y : EReal, (x + y) * (a : EReal) = x * (a : EReal) + y * (a : EReal) := fun x y =>
    EReal.right_distrib_of_nonneg_of_ne_top (by exact_mod_cast ha) (EReal.coe_ne_top a) x y
  rw [e]
  unfold unturned unturn
  simp only [hl]
  split_ifs
  · rw [hd, mul_right_comm, mul_right_comm (at' g r (n / 128 * 128 + (16 + n % 128)))]
  · rw [sub_eq_add_neg, sub_eq_add_neg, ← neg_mul, ← neg_mul, hd, mul_right_comm, ← neg_mul, mul_right_comm (-at' g r (n / 128 * 128 + (n % 128 - 16)))]
  · rfl

/-- Two conditionals on the same condition, branch by branch. -/
theorem dite_eq_ite' {p q : Prop} [Decidable p] [Decidable q] {f : p → EReal} {g : ¬p → EReal} {a b : EReal}
    (hf : ∀ h, f h = a) (hpq : p ↔ q) (hg : ∀ h, g h = b) : dite p f g = if q then a else b := by
  by_cases h : p
  · rw [dif_pos h, if_pos (hpq.mp h), hf]
  · rw [dif_neg h, if_neg (fun h' => h (hpq.mpr h')), hg]

set_option maxHeartbeats 2000000 in
/-- Ten arrays side by side, lane by lane. -/
theorem side_by_side (a0 a1 a2 a3 a4 a5 : FVec Ideal S8192x1024 .f32) (a6 a7 : FVec Ideal S8192x2048 .f32) (a8 : FVec Ideal S8192x128 .f32)
    (a9 : FVec Ideal S8192x384 .f32) (j : S8192x10752.Idx) :
    concatenate S8192x10752 1 [⟨S8192x1024, a0⟩, ⟨S8192x1024, a1⟩, ⟨S8192x1024, a2⟩, ⟨S8192x1024, a3⟩, ⟨S8192x1024, a4⟩, ⟨S8192x1024, a5⟩,
      ⟨S8192x2048, a6⟩, ⟨S8192x2048, a7⟩, ⟨S8192x128, a8⟩, ⟨S8192x384, a9⟩]
      concatenates_S8192x1024_S8192x1024_S8192x1024_S8192x1024_S8192x1024_S8192x1024_S8192x2048_S8192x2048_S8192x128_S8192x384_S8192x10752_d1 j
    = if (j 1 : ℕ) < 1024 then at' a0 (j 0) (j 1 : ℕ)
      else if (j 1 : ℕ) < 2048 then at' a1 (j 0) ((j 1 : ℕ) - 1024)
      else if (j 1 : ℕ) < 3072 then at' a2 (j 0) ((j 1 : ℕ) - 2048)
      else if (j 1 : ℕ) < 4096 then at' a3 (j 0) ((j 1 : ℕ) - 3072)
      else if (j 1 : ℕ) < 5120 then at' a4 (j 0) ((j 1 : ℕ) - 4096)
      else if (j 1 : ℕ) < 6144 then at' a5 (j 0) ((j 1 : ℕ) - 5120)
      else if (j 1 : ℕ) < 8192 then at' a6 (j 0) ((j 1 : ℕ) - 6144)
      else if (j 1 : ℕ) < 10240 then at' a7 (j 0) ((j 1 : ℕ) - 8192)
      else if (j 1 : ℕ) < 10368 then at' a8 (j 0) ((j 1 : ℕ) - 10240)
      else at' a9 (j 0) ((j 1 : ℕ) - 10368) := by
  have hj : (j 1 : ℕ) < 10752 := (j 1).isLt
  pointwise
  refine dite_eq_ite' (fun h => at'_eq a0 (j 0) _ _ rfl) (Iff.rfl) fun h0 => ?_
  refine dite_eq_ite' (fun h => at'_eq a1 (j 0) _ _ (by dsimp only)) (by omega) fun h1 => ?_
  refine dite_eq_ite' (fun h => at'_eq a2 (j 0) _ _ (by dsimp only; omega)) (by omega) fun h2 => ?_
  refine dite_eq_ite' (fun h => at'_eq a3 (j 0) _ _ (by dsimp only; omega)) (by omega) fun h3 => ?_
  refine dite_eq_ite' (fun h => at'_eq a4 (j 0) _ _ (by dsimp only; omega)) (by omega) fun h4 => ?_
  refine dite_eq_ite' (fun h => at'_eq a5 (j 0) _ _ (by dsimp only; omega)) (by omega) fun h5 => ?_
  refine dite_eq_ite' (fun h => at'_eq a6 (j 0) _ _ (by dsimp only; omega)) (by omega) fun h6 => ?_
  refine dite_eq_ite' (fun h => at'_eq a7 (j 0) _ _ (by dsimp only; omega)) (by omega) fun h7 => ?_
  refine dite_eq_ite' (fun h => at'_eq a8 (j 0) _ _ (by dsimp only; omega)) (by omega) fun h8 => ?_
  exact at'_eq a9 (j 0) _ _ (by dsimp only; omega)

/-- The derivative of the logarithm of the logistic function, as the reference takes it. -/
theorem logistic_of_log (x : EReal) :
    Ideal.exp ((if x = Ideal.ofBits .f32 2139095040#32 then 0 else x)
      - if max x 0 + Ideal.log1p (Ideal.exp (-max x (-x))) = Ideal.ofBits .f32 2139095040#32 then 0
        else max x 0 + Ideal.log1p (Ideal.exp (-max x (-x)))) = logistic x := by
  have ht : Ideal.ofBits .f32 2139095040#32 = ⊤ := by simp [Ideal.ofBits, Ideal.ieee]
  rw [ht]
  unfold Ideal.log1p
  induction x using EReal.rec with
  | bot => simp [log_one, logistic_bot]
  | top =>
    have h0 : Ideal.exp 0 = 1 := by rw [← EReal.coe_zero, Ideal.exp_coe, Real.exp_zero, EReal.coe_one]
    simp [log_one, logistic_top, h0]
  | coe r =>
    have hp : ¬ 1 + Real.exp (-max r (-r)) ≤ 0 := not_le.mpr (by positivity)
    have e : max (r : EReal) 0 + Ideal.log (1 + Ideal.exp (-max (r : EReal) (-r))) = ((max r 0 + Real.log (1 + Real.exp (-max r (-r))) : ℝ) : EReal) := by
      rw [← EReal.coe_zero, ← EReal.coe_neg, ← EReal.coe_strictMono.monotone.map_max, ← EReal.coe_strictMono.monotone.map_max, ← EReal.coe_neg, Ideal.exp_coe, ← EReal.coe_one,
        ← EReal.coe_add, Ideal.log_coe, if_neg hp, ← EReal.coe_add]
    rw [e, if_neg (EReal.coe_ne_top _), if_neg (EReal.coe_ne_top _), ← EReal.coe_sub, Ideal.exp_coe, logistic_coe]
    congr 1
    have hq : 0 < 1 + Real.exp (-max r (-r)) := by positivity
    rw [Real.exp_sub, Real.exp_add, Real.exp_log hq]
    rcases le_total r 0 with h | h
    · rw [max_eq_right h, max_eq_right (by linarith), neg_neg, Real.exp_zero, Real.exp_neg]
      have := Real.exp_pos r
      field_simp
      ring
    · rw [max_eq_left h, max_eq_left (by linarith), Real.exp_neg]
      have := Real.exp_pos r
      field_simp

variable (m : (ℓ : Loc nD τ sig) → Buf (Elt Ideal) ℓ)

/-- The forget gate's gradient in the reference. -/
theorem ref_forget (c : Dev nD) (j : S8192x128.Idx) : (res_main_v101 (launchContents m c) : S8192x128.Idx → EReal) j
    = dforget (m ((c : Thread nD τ).loc main_arg8)) (m ((c : Thread nD τ).loc main_arg9)) (m ((c : Thread nD τ).loc main_arg10)) j := by
  have hj : (j 1 : ℕ) < 128 := (j 1).isLt
  unfold res_main_v101 res_main_call0_v1_0 res_main_call0_call0_v3
  unfold res_main_call0_v0 res_main_call0_call0_cst
  pointwise
  simp only [ne_eq, not_true, if_false]
  rw [neg_mul, neg_neg]
  unfold dforget
  rw [← at'_eq _ (j 0) ⟨10240 + (j 1 : ℕ), by omega⟩ _ rfl, ← logistic_of_log]
  rfl

/-- The cosines and sines of the reference. -/
theorem ref_tables (V0 : Valuation τ sig (Elt Ideal)) : (∀ i, res_main_v28 V0 i = cosine (i 0 : ℕ) (i 1 : ℕ))
    ∧ (∀ i, res_main_v29 V0 i = sine (i 0 : ℕ) (i 1 : ℕ)) ∧ (∀ i, res_main_v71 V0 i = cosine (i 0 : ℕ) (i 1 : ℕ))
    ∧ (∀ i, res_main_v72 V0 i = sine (i 0 : ℕ) (i 1 : ℕ)) := by
  refine ⟨?_, ?_, ?_, ?_⟩ <;> intro i
  · unfold res_main_v28 res_main_v27
    pointwise
    rfl
  · unfold res_main_v29 res_main_v27
    pointwise
    rfl
  · unfold res_main_v71 res_main_v70
    pointwise
    rfl
  · unfold res_main_v72 res_main_v70
    pointwise
    rfl

/-- The forget gate's bias gradient in the reference. -/
theorem ref_15 (c : Dev nD) : val3 (launchContents m c) (Proc.devRef .tc main_v103)
    = dbias (dforget (m ((c : Thread nD τ).loc main_arg8)) (m ((c : Thread nD τ).loc main_arg9)) (m ((c : Thread nD τ).loc main_arg10))) := by
  rw [val3_main_v103]
  funext j
  pointwise
  unfold dbias
  exact Finset.sum_congr rfl fun k _ => ref_forget m c _

set_option maxHeartbeats 2000000 in
/-- The projection's gradient in the reference. -/
theorem ref_14 (c : Dev nD) : val3 (launchContents m c) (Proc.devRef .tc main_v158)
    = dproj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      (dforget (m ((c : Thread nD τ).loc main_arg8)) (m ((c : Thread nD τ).loc main_arg9)) (m ((c : Thread nD τ).loc main_arg10))) := by
  obtain ⟨t28, t29, t71, t72⟩ := ref_tables (launchContents m c)
  refine (val3_main_v158 (launchContents m c)).trans (funext fun j => (side_by_side _ _ _ _ _ _ _ _ _ _ j).trans ?_)
  unfold dproj assembled
  refine ite_congr rfl (fun h => ?_) fun h1 => ite_congr rfl (fun h => ?_) fun h2 => ite_congr rfl (fun h => rfl) fun h3 =>
    ite_congr rfl (fun h => ?_) fun h4 => ite_congr rfl (fun h => rfl) fun h5 => ite_congr rfl (fun h => rfl) fun h6 =>
    ite_congr rfl (fun h => rfl) fun h7 => ite_congr rfl (fun h => rfl) fun h8 => ite_congr rfl (fun h => ?_) fun h9 => ?_
  · refine (at'_eq _ (j 0) ⟨(j 1 : ℕ), h⟩ _ rfl).symm.trans ((heads (scaled (m ((c : Thread nD τ).loc main_arg0)))
      _ _ _ _ _ _ _ (fun i => ?_) (fun i => ?_) (fun i => ?_) (fun i => ?_) (fun i => ?_) (fun i => ?_) (fun i => ?_) _).trans (unturned_scaled _ _ _ h))
    all_goals
      try unfold res_main_v137
      try unfold res_main_v138
      try unfold res_main_v134
      try unfold res_main_v133
      try unfold res_main_v39
      try unfold res_main_v35
      try unfold res_main_v42
      try unfold res_main_v32
      pointwise [t28, t29]
      try exact at'_eq (scaled (m ((c : Thread nD τ).loc main_arg0))) (i 1) _ _ rfl
  · refine (at'_eq _ (j 0) ⟨(j 1 : ℕ) - 1024, by omega⟩ _ rfl).symm.trans (heads (m ((c : Thread nD τ).loc main_arg1))
      _ _ _ _ _ _ _ (fun i => ?_) (fun i => ?_) (fun i => ?_) (fun i => ?_) (fun i => ?_) (fun i => ?_) (fun i => ?_) _)
    all_goals
      try unfold res_main_v111
      try unfold res_main_v112
      try unfold res_main_v108
      try unfold res_main_v107
      try unfold res_main_v75
      try unfold res_main_v78
      try unfold res_main_v82
      try unfold res_main_v85
      pointwise [t71, t72]
      try exact at'_eq (m ((c : Thread nD τ).loc main_arg1)) (i 1) _ _ rfl
  · refine (at'_eq _ (j 0) ⟨(j 1 : ℕ) - 3072, by omega⟩ _ rfl).symm.trans ?_
    pointwise
    exact congrArg (fun e : EReal => e * Ideal.ofBits .f32 0x3DB504F3#32) (at'_eq _ (j 0) _ _ rfl)
  · exact congrFun₂ (congrArg at' (funext fun i => ref_forget m c i)) (j 0) _
  · unfold at'
    split_ifs <;> pointwise

end Cert.Proof.DProj

end
-- ==== Proof.DProj.lean ====
/-
  The gradient of the input projection, put together from the gradients of everything the mixers read from it, and the
  gradient of the forget gate's bias. The rotary embedding is undone by the transposed turn: the kernel adds the gradient times the
  cosines, and the gradient times each table of sines rotated the other way. Queries are scaled, the other parts copied, the
  forget gate's gradient is multiplied by `logistic (−z)`, and the padding columns are zero.
-/
module

public import proofs.«01_k».proof.Defs
public import proofs.«01_k».proof.Proof.Common
public import proofs.«01_k».proof.Proof.Rotary
public import proofs.«01_k».proof.Proof.DProjRef
public import proofs.«01_k».proof.Proof.Gen.Kernel29Ideal.Value
public import proofs.«01_k».proof.Proof.Gen.Reference29Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.DProj

open Idealize.ShloMosaic Idealize.ShloMosaic.TcCoe Idealize.SL.Sem Idealize.ShloMosaic.StableHlo
open Cert.Kernel29Ideal Cert.Kernel29Ideal.Gen
open Cert.Proof.Rotary (cosine sine cosTable sinTable sinTable' log_one)

/-- The three products add up to the lane turned back. -/
theorem three_products (x : ℕ → EReal) (r d : ℕ) (hd : d < 128) :
    x d * cosTable r d + x ((d + 128 - 16) % 128) * sinTable r ((d + 128 - 16) % 128)
      + x ((d + 128 - 112) % 128) * sinTable' r ((d + 128 - 112) % 128) = unturn x r d := by
  unfold cosTable sinTable sinTable' unturn
  by_cases h : d < 16
  · have e : (d + 128 - 112) % 128 = 16 + d := by omega
    have h1 : ¬ (d + 128 - 16) % 128 < 16 := by omega
    have h2 : ¬ 16 + d < 16 := by omega
    have h3 : 16 + d - 16 < 16 := by omega
    have h4 : 16 + d - 16 = d := by omega
    simp only [if_pos h, if_neg h1, e, if_neg h2, if_pos h3, h4, mul_zero, add_zero]
  · by_cases h' : d < 32
    · have e : (d + 128 - 16) % 128 = d - 16 := by omega
      have h'' : d - 16 < 16 := by omega
      have h1 : ¬ (d + 128 - 112) % 128 < 16 := by omega
      have h2 : ¬ (d + 128 - 112) % 128 - 16 < 16 := by omega
      simp only [if_neg h, if_pos h', if_pos h'', e, if_neg h1, if_neg h2, mul_zero, add_zero, mul_neg, sub_eq_add_neg]
    · have h'' : ¬ d - 16 < 16 := by omega
      have h1 : ¬ (d + 128 - 16) % 128 < 16 := by omega
      by_cases h2 : (d + 128 - 112) % 128 < 16
      · simp only [if_neg h, if_neg h', if_neg h'', if_neg h1, if_pos h2, mul_zero, add_zero, mul_one]
      · have h3 : ¬ (d + 128 - 112) % 128 - 16 < 16 := by omega
        simp only [if_neg h, if_neg h', if_neg h'', if_neg h1, if_neg h2, if_neg h3, mul_zero, add_zero, mul_one]

variable (m : (ℓ : Loc nD τ sig) → Buf (Elt Ideal) ℓ)

/-- Which block each window holds at grid point `t`. -/
theorem index_at : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 80] ∧ win0_10.index t = ![t.val, 0]
    ∧ win0_11.index t = ![t.val, 0] ∧ win0_12.index t = ![t.val, 0] ∧ win0_13.index t = ![0, 0] ∧ win0_14.index t = ![t.val, 0]
    ∧ win0_15.index t = ![0, 0] := by decide +kernel

/-- The tables as the kernel's host code builds them: the cosines, -/
theorem table_cos (c : Dev nD) (i : S8192x128.Idx) : V m c main_v21 i = cosTable (i 0 : ℕ) (i 1 : ℕ) := by
  simp only [V, hostOps0]
  after_results_simp
  pointwise
  after_results_simp
  pointwise
  rfl

/-- the sines that are subtracted in the forward turn, -/
theorem table_sin (c : Dev nD) (i : S8192x128.Idx) : V m c main_v23 i = sinTable (i 0 : ℕ) (i 1 : ℕ) := by
  simp only [V, hostOps0]
  after_results_simp
  pointwise
  after_results_simp
  pointwise
  simp only [dite_eq_ite, ite_self]
  rfl

/-- and the sines that are added. -/
theorem table_sin' (c : Dev nD) (i : S8192x128.Idx) : V m c main_v24 i = sinTable' (i 0 : ℕ) (i 1 : ℕ) := by
  simp only [V, hostOps0]
  after_results_simp
  pointwise
  after_results_simp
  pointwise
  rfl

set_option maxHeartbeats 2000000 in
/-- The nine gradients, each block at its own rows. -/
theorem parts (c : Dev nD) (t : Fin cfg0.N) (r : Fin 256) (R : Fin 8192) (hR : (R : ℕ) = t.val * 256 + r) :
    (∀ (x : S256x1024.Idx) (n : ℕ), (x 0 : ℕ) = r → n = (x 1 : ℕ) → iblk m c 0 t x = at' (m ((c : Thread nD τ).loc main_arg0)) R n)
    ∧ (∀ (x : S256x1024.Idx) (n : ℕ), (x 0 : ℕ) = r → n = (x 1 : ℕ) → iblk m c 1 t x = at' (m ((c : Thread nD τ).loc main_arg1)) R n)
    ∧ (∀ (x : S256x1024.Idx) (n : ℕ), (x 0 : ℕ) = r → n = (x 1 : ℕ) → iblk m c 2 t x = at' (m ((c : Thread nD τ).loc main_arg2)) R n)
    ∧ (∀ (x : S256x1024.Idx) (n : ℕ), (x 0 : ℕ) = r → n = (x 1 : ℕ) → iblk m c 3 t x = at' (m ((c : Thread nD τ).loc main_arg3)) R n)
    ∧ (∀ (x : S256x1024.Idx) (n : ℕ), (x 0 : ℕ) = r → n = (x 1 : ℕ) → iblk m c 4 t x = at' (m ((c : Thread nD τ).loc main_arg4)) R n)
    ∧ (∀ (x : S256x1024.Idx) (n : ℕ), (x 0 : ℕ) = r → n = (x 1 : ℕ) → iblk m c 5 t x = at' (m ((c : Thread nD τ).loc main_arg5)) R n)
    ∧ (∀ (x : S256x2048.Idx) (n : ℕ), (x 0 : ℕ) = r → n = (x 1 : ℕ) → iblk m c 6 t x = at' (m ((c : Thread nD τ).loc main_arg6)) R n)
    ∧ (∀ (x : S256x2048.Idx) (n : ℕ), (x 0 : ℕ) = r → n = (x 1 : ℕ) → iblk m c 7 t x = at' (m ((c : Thread nD τ).loc main_arg7)) R n)
    ∧ (∀ (x : S256x128.Idx) (n : ℕ), (x 0 : ℕ) = r → n = (x 1 : ℕ) → iblk m c 8 t x = at' (m ((c : Thread nD τ).loc main_arg8)) R n) := by
  refine ⟨?_, ?_, ?_, ?_, ?_, ?_, ?_, ?_, ?_⟩ <;> intro x n h0 h1 <;> refine Eq.trans ?_ (at'_eq _ R (x 1) n h1) <;>
    blk_ext [iblk, V, index_at t]

/-- A lane turned back as the kernel adds it up. -/
theorem head_entry (c : Dev nD) (t : Fin cfg0.N) (X : S256x1024.Idx → EReal) (g : S8192x1024.Idx → EReal) (r : Fin 256)
    (R : Fin 8192) (hR : (R : ℕ) = t.val * 256 + r)
    (hX : ∀ (x : S256x1024.Idx) (n : ℕ), (x 0 : ℕ) = r → n = (x 1 : ℕ) → X x = at' g R n)
    (l n0 n1 n2 : ℕ) (p0 : n0 < 1024) (p1 : n1 < 1024) (p2 : n2 < 1024) (j j1 j2 : S256x128.Idx)
    (h0 : n0 = l) (h1 : n1 = l / 128 * 128 + (l % 128 + 128 - 16) % 128) (h2 : n2 = l / 128 * 128 + (l % 128 + 128 - 112) % 128)
    (hj : (j 0 : ℕ) = r) (hj' : (j 1 : ℕ) = l % 128) (hj1 : (j1 0 : ℕ) = r) (hj1' : (j1 1 : ℕ) = (l % 128 + 128 - 16) % 128)
    (hj2 : (j2 0 : ℕ) = r) (hj2' : (j2 1 : ℕ) = (l % 128 + 128 - 112) % 128) :
    X (ix2 r ⟨n0, p0⟩) * iblk m c 10 t j + X (ix2 r ⟨n1, p1⟩) * iblk m c 11 t j1 + X (ix2 r ⟨n2, p2⟩) * iblk m c 12 t j2
      = unturned g R l := by
  have c10 : iblk m c 10 t j = V m c main_v21 (ix2 R (j 1)) := by blk_ext [iblk, index_at t]
  have c11 : iblk m c 11 t j1 = V m c main_v23 (ix2 R (j1 1)) := by blk_ext [iblk, index_at t]
  have c12 : iblk m c 12 t j2 = V m c main_v24 (ix2 R (j2 1)) := by blk_ext [iblk, index_at t]
  unfold unturned
  rw [← three_products _ _ _ (Nat.mod_lt l (by decide)), c10, c11, c12, table_cos, table_sin, table_sin',
    hX _ (l / 128 * 128 + l % 128) rfl (by show _ = n0; omega), hX _ (l / 128 * 128 + (l % 128 + 128 - 16) % 128) rfl (by show _ = n1; omega),
    hX _ (l / 128 * 128 + (l % 128 + 128 - 112) % 128) rfl (by show _ = n2; omega)]
  show _ * cosTable (R : ℕ) (j 1 : ℕ) + _ * sinTable (R : ℕ) (j1 1 : ℕ) + _ * sinTable' (R : ℕ) (j2 1 : ℕ) = _
  rw [hj', hj1', hj2']

/-- The forget gate's gradient at one index, as the kernel computes it. -/
def gateAt (dl p b : EReal) : EReal :=
  dl * (Ideal.ofBits .f32 0x3F000000#32 + Ideal.ofBits .f32 0x3F000000#32 * Ideal.tanh (Ideal.ofBits .f32 0x3F000000#32 * (0 - (p + b))))

/-- It is the reference's. -/
theorem gate_entry (c : Dev nD) (t : Fin cfg0.N) (x : S256x128.Idx) (b : S1x128.Idx) (i : S8192x128.Idx)
    (h0 : (i 0 : ℕ) = t.val * 256 + (x 0 : ℕ)) (h1 : (i 1 : ℕ) = x 1) (hb : (b 1 : ℕ) = x 1) :
    gateAt (iblk m c 8 t x) (iblk m c 9 t x) (iblk m c 13 t b) = dforget (m ((c : Thread nD τ).loc main_arg8)) (m ((c : Thread nD τ).loc main_arg9)) (m ((c : Thread nD τ).loc main_arg10)) i := by
  have hq : (i 1 : ℕ) < 128 := (i 1).isLt
  have e8 : iblk m c 8 t x = (m ((c : Thread nD τ).loc main_arg8)) i := by blk_ext [iblk, V, index_at t]
  have e9 : iblk m c 9 t x = at' (m ((c : Thread nD τ).loc main_arg9)) (i 0) (10240 + (i 1 : ℕ)) := by
    refine Eq.trans ?_ (at'_eq _ (i 0) ⟨10240 + (i 1 : ℕ), by omega⟩ _ rfl)
    blk_ext [iblk, V, index_at t]
  have e13 : iblk m c 13 t b = (m ((c : Thread nD τ).loc main_arg10)) (ix2 0 (i 1)) := by blk_ext [iblk, V, index_at t]
  unfold gateAt dforget
  rw [half_bits, zero_sub, kernel_logistic, e8, e9, e13]

set_option maxHeartbeats 4000000 in
/-- What point `t` leaves of the projection's gradient. -/
theorem out_14 (c : Dev nD) (t : Fin cfg0.N) (y : S256x10752.Idx) (i : S8192x10752.Idx) (e0 : (i 0 : ℕ) = t.val * 256 + (y 0 : ℕ))
    (e1 : (i 1 : ℕ) = y 1) : (outsAt0 m c t.val t.isLt).1 y = assembled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (dforget (m ((c : Thread nD τ).loc main_arg8)) (m ((c : Thread nD τ).loc main_arg9)) (m ((c : Thread nD τ).loc main_arg10))) (i 0) (i 1 : ℕ) := by
  unfold assembled
  by_cases hA : t.val % 32 = 0 <;> [rw [outsAt0_A m c t hA]; rw [outsAt0_B m c t hA]]
  all_goals
    frame_out
    canon_tiles x h using View.cover_of_tiledBy _ ![256, 128] (by sl_kernel_rfl) y
    all_goals
      open_payloads
      pointwise
      repeat first | rw [if_pos (by omega)] | rw [if_neg (by omega)]
    case piece1 =>
      exact (gate_entry m c t x _ (ix2 (i 0) (x 1)) (by show (i 0 : ℕ) = _; omega) rfl rfl).trans (at'_eq _ (i 0) (x 1) _ (by omega))
    case piece2 =>
      have hx : (x 1 : ℕ) < 2048 := (x 1).isLt
      rw [if_pos (by omega)]
      exact (parts m c t (x 0) (i 0) (by omega)).2.2.2.2.2.2.2.1 x ((i 1 : ℕ) - 8192) rfl (by omega)
    case piece3 =>
      have hx : (x 1 : ℕ) < 2048 := (x 1).isLt
      rw [if_pos (by omega)]
      exact (parts m c t (x 0) (i 0) (by omega)).2.2.2.2.2.2.1 x ((i 1 : ℕ) - 6144) rfl (by omega)
    case piece4 => exact (parts m c t (x 0) (i 0) (by omega)).2.2.2.2.2.1 x _ rfl (by omega)
    case piece5 => exact (parts m c t (x 0) (i 0) (by omega)).2.2.2.2.1 x _ rfl (by omega)
    case piece6 => exact congrArg (fun e : EReal => e * Ideal.ofBits .f32 0x3DB504F3#32) ((parts m c t (x 0) (i 0) (by omega)).2.2.2.1 x _ rfl (by omega))
    case piece7 => exact (parts m c t (x 0) (i 0) (by omega)).2.2.1 x _ rfl (by omega)
    case piece8 | piece10 | piece12 | piece14 | piece16 | piece18 | piece20 | piece22 =>
      exact head_entry m c t (iblk m c 1 t) _ (x 0) (i 0) (by omega) (parts m c t (x 0) (i 0) (by omega)).2.1 _ _ _ _ _ _ _ x _ _
          (by omega) (by omega) (by omega) rfl (by omega) rfl (by show ((x 1 : ℕ) + 128 - 16) % 128 = _; omega) rfl
          (by show ((x 1 : ℕ) + 128 - 112) % 128 = _; omega)
    case piece9 | piece11 | piece13 | piece15 | piece17 | piece19 | piece21 | piece23 =>
      exact congrArg (fun e : EReal => e * Ideal.ofBits .f32 0x3DB504F3#32) (head_entry m c t (iblk m c 0 t) _ (x 0) (i 0) (by omega) (parts m c t (x 0) (i 0) (by omega)).1 _ _ _ _ _ _ _ x _ _
          (by omega) (by omega) (by omega) rfl (by omega) rfl (by show ((x 1 : ℕ) + 128 - 16) % 128 = _; omega) rfl
          (by show ((x 1 : ℕ) + 128 - 112) % 128 = _; omega))

/-- What point `t` adds into the bias's gradient: the sum of its 256 rows. -/
def term_15 (c : Dev nD) (t : Fin cfg0.N) (j : S1x128.Idx) : EReal :=
  ∑ k : Fin 256, gateAt (iblk m c 8 t (ix2 k (j 1))) (iblk m c 9 t (ix2 k (j 1))) (iblk m c 13 t (ix2 0 (j 1)))

/-- The first point starts from zero, -/
theorem first_15 (c : Dev nD) (t : Fin cfg0.N) (h : t.val % 32 = 0) (j : S1x128.Idx) :
    (outsAt0 m c t.val t.isLt).2 j = 0 + term_15 m c t j := by
  rw [outsAt0_A m c t h]
  frame_out
  open_payloads
  pointwise [term_15, gateAt]

/-- every later one from what the point before left. -/
theorem next_15 (c : Dev nD) (t : Fin cfg0.N) (h : ¬t.val % 32 = 0) (j : S1x128.Idx) :
    (outsAt0 m c t.val t.isLt).2 j
      = (outsAt0 m c (t.val - 1) (Nat.lt_of_le_of_lt (Nat.sub_le _ _) t.isLt)).2 j + term_15 m c t j := by
  rw [outsAt0_B m c t h]
  frame_out
  open_payloads
  pointwise [term_15, gateAt]

/-- The projection's gradient after the run -/
theorem final_14 (c : Dev nD) : (dats m 0 c).arrAt 14 cfg0.N
    = dproj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (dforget (m ((c : Thread nD τ).loc main_arg8)) (m ((c : Thread nD τ).loc main_arg9)) (m ((c : Thread nD τ).loc main_arg10))) := by
  refine (dats m 0 c).arrAt_eq_of_covers 14 _ (by decide +kernel) fun t hf y => ?_
  blk_simp
  rw [after0_14]
  exact out_14 m c t y (((View.whole main_v25_0).slice (win0_14.rect t)).emb y) (by blk_simp [index_at t]) (by blk_simp [index_at t])

/-- and the bias's. -/
theorem final_15 (c : Dev nD) : (dats m 0 c).arrAt 15 cfg0.N = dbias (dforget (m ((c : Thread nD τ).loc main_arg8)) (m ((c : Thread nD τ).loc main_arg9)) (m ((c : Thread nD τ).loc main_arg10))) := by
  refine (dats m 0 c).arrAt_eq_of_covers 15 _ (by decide +kernel) fun t hf y => ?_
  have hm : t.val % 32 = 31 := (flush0_15 t).mp hf
  have ht : t.val < 32 := lt_of_lt_of_eq t.isLt (by decide)
  blk_simp
  rw [after0_15, Pipeline.eq_sum_fin_of_reset_step_apply_of_flush (fun n h => (outsAt0 m c n h).2) 32
    (fun _ => (0 : EReal)) (term_15 m c) (first_15 m c) (next_15 m c) t hm, zero_add]
  refine Fin.sum_mul_add_congr fun s k hl => ?_
  have hs : 32 * (t.val / 32) + s.val = s.val := by omega
  exact gate_entry m c ⟨32 * (t.val / 32) + s.val, _⟩ (ix2 k (y 1)) _ _ (by blk_simp [hs]) (by blk_simp [index_at t]) rfl

/-- The kernel and the reference leave the same two arrays. -/
theorem algebraic : Cert.algebraic_Kernel29Ideal_Reference29Ideal := fun m ρ m' ρ' _ hag =>
  ⟨fun c => dproj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      (dforget (m ((c : Thread nD τ).loc main_arg8)) (m ((c : Thread nD τ).loc main_arg9)) (m ((c : Thread nD τ).loc main_arg10))),
   fun c => dbias (dforget (m ((c : Thread nD τ).loc main_arg8)) (m ((c : Thread nD τ).loc main_arg9)) (m ((c : Thread nD τ).loc main_arg10))),
   (θ_run defs _ _).mono (fun _ h c => ⟨(h c).1.trans (final_14 m c), (h c).2.1.trans (final_15 m c), (h c).2.2⟩) (Value.run_blocks m ρ),
   (θ_run Cert.Reference29Ideal.defs _ _).mono (fun _ h c => ⟨
      (h c).1.trans ((Cert.Reference29Ideal.Value.val3_main_v158 _).symm.trans ((ref_14 m' c).trans (by
        obtain ⟨a0, a1, a2, a3, a4, a5, a6, a7, a8, a9, a10⟩ := hag c
        rw [a0, a1, a2, a3, a4, a5, a6, a7, a8, a9, a10]))),
      (h c).2.1.trans ((Cert.Reference29Ideal.Value.val3_main_v103 _).symm.trans ((ref_15 m' c).trans (by
        obtain ⟨-, -, -, -, -, -, -, -, a8, a9, a10⟩ := hag c
        rw [a8, a9, a10]))),
      (h c).2.2⟩)
    (Cert.Reference29Ideal.Value.run m' ρ')⟩

end Cert.Proof.DProj

end
-- ==== Proof.lean ====
/-
  The claims of this certificate, put together: every program's frame, every idealized kernel against its reference.
  The kernels' frames are the generated ones; a reference's frame is read off its generated run.
-/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.GateMerge
public import proofs.«01_k».proof.Proof.FfnHidden
public import proofs.«01_k».proof.Proof.FfnDwDown
public import proofs.«01_k».proof.Proof.FfnDwGateUp
public import proofs.«01_k».proof.Proof.FfnInput
public import proofs.«01_k».proof.Proof.FfnGateUp
public import proofs.«01_k».proof.Proof.FfnDown
public import proofs.«01_k».proof.Proof.FfnGate
public import proofs.«01_k».proof.Proof.FfnUpAct
public import proofs.«01_k».proof.Proof.WInFwd
public import proofs.«01_k».proof.Proof.WInDw
public import proofs.«01_k».proof.Proof.WInBwd
public import proofs.«01_k».proof.Proof.WOutFwd
public import proofs.«01_k».proof.Proof.WOutBwd
public import proofs.«01_k».proof.Proof.WOutDw
public import proofs.«01_k».proof.Proof.ProjBwd
public import proofs.«01_k».proof.Proof.ProjDw
public import proofs.«01_k».proof.Proof.ProjMerge
public import proofs.«01_k».proof.Proof.RmsFwd
public import proofs.«01_k».proof.Proof.RmsBwd
public import proofs.«01_k».proof.Proof.AdamFfn
public import proofs.«01_k».proof.Proof.AdamWIn
public import proofs.«01_k».proof.Proof.AdamProj
public import proofs.«01_k».proof.Proof.AdamWOut
public import proofs.«01_k».proof.Proof.AdamSmall
public import proofs.«01_k».proof.Proof.RmsRows
public import proofs.«01_k».proof.Proof.LossHead
public import proofs.«01_k».proof.Proof.Rotary
public import proofs.«01_k».proof.Proof.DProj

@[expose] public section

noncomputable section

namespace Cert.Proof

open Idealize.ShloMosaic Idealize.SL.Sem

/-- The whole claim. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    inferInstance,
    fun m ρ _ => Cert.Kernel.Gen.frame m ρ,
    fun m ρ _ => Cert.KernelIdeal.Gen.frame m ρ,
    fun m ρ _ => (θ_run Cert.ReferenceIdeal.defs _ _).mono (fun r h => ⟨fun c => (h c).2.2.2.2.2.2, sem_eq_zero_of_no_sems (by decide) r.2⟩) (Cert.ReferenceIdeal.Value.run m ρ),
    fun m ρ _ => Cert.Kernel2.Gen.frame m ρ,
    fun m ρ _ => Cert.Kernel2Ideal.Gen.frame m ρ,
    fun m ρ _ => Cert.Kernel2Ideal.Gen.frame m ρ,
    fun m ρ _ => (θ_run Cert.Reference2Ideal.defs _ _).mono (fun r h => ⟨fun c => (h c).2.2, sem_eq_zero_of_no_sems (by decide) r.2⟩) (Cert.Reference2Ideal.Value.run m ρ),
    fun m ρ _ => (θ_run Cert.Reference2Ideal.defs _ _).mono (fun r h => ⟨fun c => (h c).2.2, sem_eq_zero_of_no_sems (by decide) r.2⟩) (Cert.Reference2Ideal.Value.run m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2, sem_eq_zero_of_no_sems (by decide) r.2⟩) (Cert.Reference3Ideal.Value.run m ρ),
    fun m ρ _ => Cert.Kernel4.Gen.frame m ρ,
    fun m ρ _ => Cert.Kernel4Ideal.Gen.frame m ρ,
    fun m ρ _ => (θ_run Cert.Reference4Ideal.defs _ _).mono (fun r h => ⟨fun c => (h c).2.2, sem_eq_zero_of_no_sems (by decide) r.2⟩) (Cert.Reference4Ideal.Value.run m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2, sem_eq_zero_of_no_sems (by decide) r.2⟩) (Cert.Reference5Ideal.Value.run m ρ),
    fun m ρ _ => Cert.Kernel6.Gen.frame m ρ,
    fun m ρ _ => Cert.Kernel6Ideal.Gen.frame m ρ,
    fun m ρ _ => (θ_run Cert.Reference6Ideal.defs _ _).mono (fun r h => ⟨fun c => (h c).2.2.2, sem_eq_zero_of_no_sems (by decide) r.2⟩) (Cert.Reference6Ideal.Value.run m ρ),
    fun m ρ _ => Cert.Kernel7.Gen.frame m ρ,
    fun m ρ _ => Cert.Kernel7Ideal.Gen.frame m ρ,
    fun m ρ _ => (θ_run Cert.Reference7Ideal.defs _ _).mono (fun r h => ⟨fun c => (h c).2, sem_eq_zero_of_no_sems (by decide) r.2⟩) (Cert.Reference7Ideal.Value.run m ρ),
    fun m ρ _ => Cert.Kernel8.Gen.frame m ρ,
    fun m ρ _ => Cert.Kernel8Ideal.Gen.frame m ρ,
    fun m ρ _ => (θ_run Cert.Reference8Ideal.defs _ _).mono (fun r h => ⟨fun c => (h c).2, sem_eq_zero_of_no_sems (by decide) r.2⟩) (Cert.Reference8Ideal.Value.run m ρ),
    fun m ρ _ => Cert.Kernel9.Gen.frame m ρ,
    fun m ρ _ => Cert.Kernel9Ideal.Gen.frame m ρ,
    fun m ρ _ => (θ_run Cert.Reference9Ideal.defs _ _).mono (fun r h => ⟨fun c => (h c).2.2.2, sem_eq_zero_of_no_sems (by decide) r.2⟩) (Cert.Reference9Ideal.Value.run m ρ),
    fun m ρ _ => Cert.Kernel10.Gen.frame m ρ,
    fun m ρ _ => Cert.Kernel10Ideal.Gen.frame m ρ,
    fun m ρ _ => (θ_run Cert.Reference10Ideal.defs _ _).mono (fun r h => ⟨fun c => (h c).2, sem_eq_zero_of_no_sems (by decide) r.2⟩) (Cert.Reference10Ideal.Value.run m ρ),
    fun m ρ _ => Cert.Kernel11.Gen.frame m ρ,
    fun m ρ _ => Cert.Kernel11Ideal.Gen.frame m ρ,
    fun m ρ _ => (θ_run Cert.Reference11Ideal.defs _ _).mono (fun r h => ⟨fun c => (h c).2, sem_eq_zero_of_no_sems (by decide) r.2⟩) (Cert.Reference11Ideal.Value.run m ρ),
    fun m ρ _ => Cert.Kernel12.Gen.frame m ρ,
    fun m ρ _ => Cert.Kernel12Ideal.Gen.frame m ρ,
    fun m ρ _ => (θ_run Cert.Reference12Ideal.defs _ _).mono (fun r h => ⟨fun c => (h c).2, sem_eq_zero_of_no_sems (by decide) r.2⟩) (Cert.Reference12Ideal.Value.run m ρ),
    fun m ρ _ => Cert.Kernel13.Gen.frame m ρ,
    fun m ρ _ => Cert.Kernel13Ideal.Gen.frame m ρ,
    fun m ρ _ => (θ_run Cert.Reference13Ideal.defs _ _).mono (fun r h => ⟨fun c => (h c).2, sem_eq_zero_of_no_sems (by decide) r.2⟩) (Cert.Reference13Ideal.Value.run m ρ),
    fun m ρ _ => Cert.Kernel14.Gen.frame m ρ,
    fun m ρ _ => Cert.Kernel14Ideal.Gen.frame m ρ,
    fun m ρ _ => (θ_run Cert.Reference14Ideal.defs _ _).mono (fun r h => ⟨fun c => (h c).2, sem_eq_zero_of_no_sems (by decide) r.2⟩) (Cert.Reference14Ideal.Value.run m ρ),
    fun m ρ _ => Cert.Kernel15.Gen.frame m ρ,
    fun m ρ _ => Cert.Kernel15Ideal.Gen.frame m ρ,
    fun m ρ _ => (θ_run Cert.Reference15Ideal.defs _ _).mono (fun r h => ⟨fun c => (h c).2, sem_eq_zero_of_no_sems (by decide) r.2⟩) (Cert.Reference15Ideal.Value.run m ρ),
    fun m ρ _ => Cert.Kernel16.Gen.frame m ρ,
    fun m ρ _ => Cert.Kernel16Ideal.Gen.frame m ρ,
    fun m ρ _ => (θ_run Cert.Reference16Ideal.defs _ _).mono (fun r h => ⟨fun c => (h c).2, sem_eq_zero_of_no_sems (by decide) r.2⟩) (Cert.Reference16Ideal.Value.run m ρ),
    fun m ρ _ => Cert.Kernel17.Gen.frame m ρ,
    fun m ρ _ => Cert.Kernel17Ideal.Gen.frame m ρ,
    fun m ρ _ => (θ_run Cert.Reference17Ideal.defs _ _).mono (fun r h => ⟨fun c => (h c).2, sem_eq_zero_of_no_sems (by decide) r.2⟩) (Cert.Reference17Ideal.Value.run m ρ),
    fun m ρ _ => Cert.Kernel18.Gen.frame m ρ,
    fun m ρ _ => Cert.Kernel18Ideal.Gen.frame m ρ,
    fun m ρ _ => (θ_run Cert.Reference18Ideal.defs _ _).mono (fun r h => ⟨fun c => (h c).2.2.2, sem_eq_zero_of_no_sems (by decide) r.2⟩) (Cert.Reference18Ideal.Value.run m ρ),
    fun m ρ _ => Cert.Kernel19.Gen.frame m ρ,
    fun m ρ _ => Cert.Kernel19Ideal.Gen.frame m ρ,
    fun m ρ _ => (θ_run Cert.Reference19Ideal.defs _ _).mono (fun r h => ⟨fun c => (h c).2.2, sem_eq_zero_of_no_sems (by decide) r.2⟩) (Cert.Reference19Ideal.Value.run m ρ),
    fun m ρ _ => Cert.Kernel20.Gen.frame m ρ,
    fun m ρ _ => Cert.Kernel20Ideal.Gen.frame m ρ,
    fun m ρ _ => (θ_run Cert.Reference20Ideal.defs _ _).mono (fun r h => ⟨fun c => (h c).2.2.2, sem_eq_zero_of_no_sems (by decide) r.2⟩) (Cert.Reference20Ideal.Value.run m ρ),
    fun m ρ _ => Cert.Kernel21.Gen.frame m ρ,
    fun m ρ _ => Cert.Kernel21Ideal.Gen.frame m ρ,
    fun m ρ _ => (θ_run Cert.Reference21Ideal.defs _ _).mono (fun r h => ⟨fun c => (h c).2.2.2.2, sem_eq_zero_of_no_sems (by decide) r.2⟩) (Cert.Reference21Ideal.Value.run m ρ),
    fun m ρ _ => Cert.Kernel22.Gen.frame m ρ,
    fun m ρ _ => Cert.Kernel22Ideal.Gen.frame m ρ,
    fun m ρ _ => (θ_run Cert.Reference22Ideal.defs _ _).mono (fun r h => ⟨fun c => (h c).2.2.2.2, sem_eq_zero_of_no_sems (by decide) r.2⟩) (Cert.Reference22Ideal.Value.run m ρ),
    fun m ρ _ => Cert.Kernel23.Gen.frame m ρ,
    fun m ρ _ => Cert.Kernel23Ideal.Gen.frame m ρ,
    fun m ρ _ => (θ_run Cert.Reference23Ideal.defs _ _).mono (fun r h => ⟨fun c => (h c).2.2.2.2, sem_eq_zero_of_no_sems (by decide) r.2⟩) (Cert.Reference23Ideal.Value.run m ρ),
    fun m ρ _ => Cert.Kernel24.Gen.frame m ρ,
    fun m ρ _ => Cert.Kernel24Ideal.Gen.frame m ρ,
    fun m ρ _ => (θ_run Cert.Reference24Ideal.defs _ _).mono (fun r h => ⟨fun c => (h c).2.2.2.2, sem_eq_zero_of_no_sems (by decide) r.2⟩) (Cert.Reference24Ideal.Value.run m ρ),
    fun m ρ _ => Cert.Kernel25.Gen.frame m ρ,
    fun m ρ _ => Cert.Kernel25Ideal.Gen.frame m ρ,
    fun m ρ _ => (θ_run Cert.Reference25Ideal.defs _ _).mono (fun r h => ⟨fun c => (h c).2.2.2, sem_eq_zero_of_no_sems (by decide) r.2⟩) (Cert.Reference25Ideal.Value.run m ρ),
    fun m ρ _ => Cert.Kernel26.Gen.frame m ρ,
    fun m ρ _ => Cert.Kernel26Ideal.Gen.frame m ρ,
    fun m ρ _ => (θ_run Cert.Reference26Ideal.defs _ _).mono (fun r h => ⟨fun c => (h c).2, sem_eq_zero_of_no_sems (by decide) r.2⟩) (Cert.Reference26Ideal.Value.run m ρ),
    fun m ρ _ => Cert.Kernel27.Gen.frame m ρ,
    fun m ρ _ => Cert.Kernel27Ideal.Gen.frame m ρ,
    fun m ρ _ => (θ_run Cert.Reference27Ideal.defs _ _).mono (fun r h => ⟨fun c => (h c).2.2.2.2, sem_eq_zero_of_no_sems (by decide) r.2⟩) (Cert.Reference27Ideal.Value.run m ρ),
    fun m ρ _ => Cert.Kernel28.Gen.frame m ρ,
    fun m ρ _ => Cert.Kernel28Ideal.Gen.frame m ρ,
    fun m ρ _ => (θ_run Cert.Reference28Ideal.defs _ _).mono (fun r h => ⟨fun c => (h c).2.2.2.2.2.2.2, sem_eq_zero_of_no_sems (by decide) r.2⟩) (Cert.Reference28Ideal.Value.run m ρ),
    fun m ρ _ => Cert.Kernel29.Gen.frame m ρ,
    fun m ρ _ => Cert.Kernel29Ideal.Gen.frame m ρ,
    fun m ρ _ => (θ_run Cert.Reference29Ideal.defs _ _).mono (fun r h => ⟨fun c => (h c).2.2, sem_eq_zero_of_no_sems (by decide) r.2⟩) (Cert.Reference29Ideal.Value.run m ρ),
    trivial,
    GateMerge.algebraic,
    trivial,
    FfnHidden.algebraic,
    trivial,
    FfnDwDown.algebraic,
    trivial,
    FfnDwGateUp.algebraic,
    trivial,
    FfnInput.algebraic,
    trivial,
    FfnGateUp.algebraic,
    trivial,
    FfnDown.algebraic,
    trivial,
    FfnGate.algebraic,
    trivial,
    FfnUpAct.algebraic,
    trivial,
    WInFwd.algebraic,
    trivial,
    WInDw.algebraic,
    trivial,
    WInBwd.algebraic,
    trivial,
    WOutFwd.algebraic,
    trivial,
    WOutBwd.algebraic,
    trivial,
    WOutDw.algebraic,
    trivial,
    ProjBwd.algebraic,
    trivial,
    ProjDw.algebraic,
    trivial,
    ProjMerge.algebraic,
    trivial,
    RmsFwd.algebraic,
    trivial,
    RmsBwd.algebraic,
    trivial,
    AdamFfn.algebraic,
    trivial,
    AdamWIn.algebraic,
    trivial,
    AdamProj.algebraic,
    trivial,
    AdamWOut.algebraic,
    trivial,
    AdamSmall.algebraic,
    trivial,
    RmsRows.algebraic,
    trivial,
    LossHead.algebraic,
    trivial,
    Rotary.algebraic,
    trivial,
    DProj.algebraic⟩

end Cert.Proof

end
